-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayReferenceIdeal (m : (ℓ : Loc Cert.DecayReferenceIdeal.nD Cert.DecayReferenceIdeal.τ Cert.DecayReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ r.2.sem = fun _ => 0)

def quiescent_DecayReferenceIdeal [hDecayReferenceIdeal : Cert.DecayReferenceIdeal.Facts] : Prop :=
  ∀ (m : (ℓ : Loc Cert.DecayReferenceIdeal.nD Cert.DecayReferenceIdeal.τ Cert.DecayReferenceIdeal.sig) → Buf (Elt Ideal) ℓ) (g : Dev Cert.DecayReferenceIdeal.nD → PrngReg), Pre_DecayReferenceIdeal m →
    θ_run (Cert.DecayReferenceIdeal.defs (F := Ideal)) (onTc (τ := Cert.DecayReferenceIdeal.τ) (Cert.DecayReferenceIdeal.main (F := Ideal))) ⟨m, fun _ => 0, g⟩ (fun r => (∀ c : Dev Cert.DecayReferenceIdeal.nD,
      r.2.mem ((c.tc : Thread Cert.DecayReferenceIdeal.nD Cert.DecayReferenceIdeal.τ).loc Cert.DecayReferenceIdeal.main_arg0) = m ((c.tc : Thread Cert.DecayReferenceIdeal.nD Cert.DecayReferenceIdeal.τ).loc Cert.DecayReferenceIdeal.main_arg0)
      ∧ r.2.mem ((c.tc : Thread Cert.DecayReferenceIdeal.nD Cert.DecayReferenceIdeal.τ).loc Cert.DecayReferenceIdeal.main_arg1) = m ((c.tc : Thread Cert.DecayReferenceIdeal.nD Cert.DecayReferenceIdeal.τ).loc Cert.DecayReferenceIdeal.main_arg1))
      ∧ r.2.sem = fun _ => 0)

def preserves_Kernel_KernelIdeal : Prop :=
  IdealRules.named_const.Statement Cert.KernelIdeal.κ "inv_scale" .f32 0x413504F3#32 ((Real.sqrt 128 : ℝ) : EReal)
  ∧ IdealRules.named_const.Statement Cert.KernelIdeal.κ "mask" .f32 0xF149F2CA#32 ⊥
  ∧ IdealRules.named_const.Statement Cert.KernelIdeal.κ "exp2_scale" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v77) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v68) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v6) = v0 c
          ∧ r.2.mem ((c.tc : Thread Cert.ProjReferenceIdeal.nD Cert.ProjReferenceIdeal.τ).loc Cert.ProjReferenceIdeal.main_v7) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Pack_PackIdeal : Prop :=
  True

def algebraic_PackIdeal_PackReferenceIdeal [hPackIdeal : Cert.PackIdeal.Facts] [hPackReferenceIdeal : Cert.PackReferenceIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackIdeal m →
    (∀ c : Dev Cert.PackIdeal.nD,
      m' ((c.tc : Thread Cert.PackReferenceIdeal.nD Cert.PackReferenceIdeal.τ).loc Cert.PackReferenceIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v19) = v0 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0))

def preserves_Decay_DecayIdeal : Prop :=
  True

def algebraic_DecayIdeal_DecayReferenceIdeal [hDecayIdeal : Cert.DecayIdeal.Facts] [hDecayReferenceIdeal : Cert.DecayReferenceIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayReferenceIdeal.nD Cert.DecayReferenceIdeal.τ Cert.DecayReferenceIdeal.sig) → Buf (Elt Ideal) ℓ) (g' : Dev Cert.DecayReferenceIdeal.nD → PrngReg), Pre_DecayIdeal m →
    (∀ c : Dev Cert.DecayIdeal.nD,
      m' ((c.tc : Thread Cert.DecayReferenceIdeal.nD Cert.DecayReferenceIdeal.τ).loc Cert.DecayReferenceIdeal.main_arg0) = m ((c.tc : Thread Cert.DecayIdeal.nD Cert.DecayIdeal.τ).loc Cert.DecayIdeal.main_arg0)
      ∧ m' ((c.tc : Thread Cert.DecayReferenceIdeal.nD Cert.DecayReferenceIdeal.τ).loc Cert.DecayReferenceIdeal.main_arg1) = m ((c.tc : Thread Cert.DecayIdeal.nD Cert.DecayIdeal.τ).loc Cert.DecayIdeal.main_arg1)) →
    ∃ (v0 : (c : Dev Cert.DecayIdeal.nD) → Buf (Elt Ideal) ((c.tc : Thread Cert.DecayIdeal.nD Cert.DecayIdeal.τ).loc Cert.DecayIdeal.main_v7)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v7) = v0 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ θ_run (Cert.DecayReferenceIdeal.defs (F := Ideal)) (onTc (τ := Cert.DecayReferenceIdeal.τ) (Cert.DecayReferenceIdeal.main (F := Ideal))) ⟨m', fun _ => 0, g'⟩ (fun r => ∀ c : Dev Cert.DecayReferenceIdeal.nD,
          r.2.mem ((c.tc : Thread Cert.DecayReferenceIdeal.nD Cert.DecayReferenceIdeal.τ).loc Cert.DecayReferenceIdeal.main_v11) = v0 c
          ∧ r.2.mem ((c.tc : Thread Cert.DecayReferenceIdeal.nD Cert.DecayReferenceIdeal.τ).loc Cert.DecayReferenceIdeal.main_arg0) = m' ((c.tc : Thread Cert.DecayReferenceIdeal.nD Cert.DecayReferenceIdeal.τ).loc Cert.DecayReferenceIdeal.main_arg0)
          ∧ r.2.mem ((c.tc : Thread Cert.DecayReferenceIdeal.nD Cert.DecayReferenceIdeal.τ).loc Cert.DecayReferenceIdeal.main_arg1) = m' ((c.tc : Thread Cert.DecayReferenceIdeal.nD Cert.DecayReferenceIdeal.τ).loc Cert.DecayReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPack : Cert.Pack.Facts) (hPackIdeal : Cert.PackIdeal.Facts) (hPackReferenceIdeal : Cert.PackReferenceIdeal.Facts) (hDecay : Cert.Decay.Facts) (hDecayIdeal : Cert.DecayIdeal.Facts) (hDecayReferenceIdeal : Cert.DecayReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Pack (hPack := hPack)
    ∧ quiescent_PackIdeal (hPackIdeal := hPackIdeal)
    ∧ quiescent_PackReferenceIdeal (hPackReferenceIdeal := hPackReferenceIdeal)
    ∧ quiescent_Decay (hDecay := hDecay)
    ∧ quiescent_DecayIdeal (hDecayIdeal := hDecayIdeal)
    ∧ quiescent_DecayReferenceIdeal (hDecayReferenceIdeal := hDecayReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Pack_PackIdeal
    ∧ algebraic_PackIdeal_PackReferenceIdeal (hPackIdeal := hPackIdeal) (hPackReferenceIdeal := hPackReferenceIdeal)
    ∧ preserves_Decay_DecayIdeal
    ∧ algebraic_DecayIdeal_DecayReferenceIdeal (hDecayIdeal := hDecayIdeal) (hDecayReferenceIdeal := hDecayReferenceIdeal)
-- ==== Pre_finite_scores.lean ====
abbrev S8x2048x5632 : Shape := ⟨3, ![8, 2048, 5632]⟩
abbrev S8x6x2048 : Shape := ⟨3, ![8, 6, 2048]⟩
abbrev S8x2048x1536 : Shape := ⟨3, ![8, 2048, 1536]⟩
abbrev S_ : Shape := ⟨0, ![]⟩

class Facts : Prop where
  slices_S8x2048x5632_S8x2048x1536_0_0_2304 : S8x2048x5632.Slices ![0, 0, 2304] S8x2048x1536
  bitsLt_bf16_f32 : FTy.bits .bf16 < FTy.bits .f32
  bcast_S_S8x2048x1536 : S_.BroadcastsInDim S8x2048x1536 (![] : Fin 0 → Fin S8x2048x1536.rank)
  bcast_S_S8x6x2048 : S_.BroadcastsInDim S8x6x2048 (![] : Fin 0 → Fin S8x6x2048.rank)

variable [Facts]

def fn {F : FTy → Type} [FloatOps F] (main_arg0 : FVec F S8x2048x5632 .bf16) (main_arg1 : FVec F S8x6x2048 .f32) : IVec S8x2048x1536 1 × IVec S8x6x2048 1 :=
  let main_v0 : FVec F S8x2048x1536 .bf16 := (extractStridedSlice S8x2048x1536 ![0, 0, 2304] · slices_S8x2048x5632_S8x2048x1536_0_0_2304) main_arg0
  let main_v1 : FVec F S8x2048x1536 .f32 := (extf .f32 · bitsLt_bf16_f32) main_v0
  let main_v2 : FVec F S8x2048x1536 .f32 := Host.absf main_v1
  let main_cst : FVec F S_ .f32 := constant S_ .f32 0x7F800000#32
  let main_v3 : FVec F S8x2048x1536 .f32 := broadcastInDim S8x2048x1536 ![] bcast_S_S8x2048x1536 main_cst
  let main_v4 : IVec S8x2048x1536 1 := cmpf .olt main_v2 main_v3
  let main_v5 : FVec F S8x6x2048 .f32 := Host.absf main_arg1
  let main_cst_0 : FVec F S_ .f32 := constant S_ .f32 0x7F800000#32
  let main_v6 : FVec F S8x6x2048 .f32 := broadcastInDim S8x6x2048 ![] bcast_S_S8x6x2048 main_cst_0
  let main_v7 : IVec S8x6x2048 1 := cmpf .olt main_v5 main_v6
  (main_v4, main_v7)
-- ==== Kernel.lean ====
abbrev S8x2048x5632 : Shape := ⟨3, ![8, 2048, 5632]⟩
abbrev S8x6x2048 : Shape := ⟨3, ![8, 6, 2048]⟩
abbrev S8x6x8x256 : Shape := ⟨4, ![8, 6, 8, 256]⟩
abbrev S8x8x6x256 : Shape := ⟨4, ![8, 8, 6, 256]⟩
abbrev S_ : Shape := ⟨0, ![]⟩
abbrev S8x8x16x256 : Shape := ⟨4, ![8, 8, 16, 256]⟩
abbrev S8x2048x768 : Shape := ⟨3, ![8, 2048, 768]⟩
abbrev S1x2048x256 : Shape := ⟨3, ![1, 2048, 256]⟩
abbrev S1x8x16x256 : Shape := ⟨4, ![1, 8, 16, 256]⟩
abbrev S256x2048 : Shape := ⟨2, ![256, 2048]⟩
abbrev S256x256 : Shape := ⟨2, ![256, 256]⟩
abbrev S1x256x128 : Shape := ⟨3, ![1, 256, 128]⟩
abbrev S256x128 : Shape := ⟨2, ![256, 128]⟩
abbrev S1x1x1x256 : Shape := ⟨4, ![1, 1, 1, 256]⟩
abbrev S1x256 : Shape := ⟨2, ![1, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x512 : Shape := ⟨2, ![1, 512]⟩
abbrev S1x768x128 : Shape := ⟨3, ![1, 768, 128]⟩
abbrev S768x128 : Shape := ⟨2, ![768, 128]⟩
abbrev S256x768 : Shape := ⟨2, ![256, 768]⟩
abbrev S1x768 : Shape := ⟨2, ![1, 768]⟩
abbrev S1x1024x128 : Shape := ⟨3, ![1, 1024, 128]⟩
abbrev S1024x128 : Shape := ⟨2, ![1024, 128]⟩
abbrev S256x1024 : Shape := ⟨2, ![256, 1024]⟩
abbrev S1x1024 : Shape := ⟨2, ![1, 1024]⟩
abbrev S1x1280x128 : Shape := ⟨3, ![1, 1280, 128]⟩
abbrev S1280x128 : Shape := ⟨2, ![1280, 128]⟩
abbrev S256x1280 : Shape := ⟨2, ![256, 1280]⟩
abbrev S1x1280 : Shape := ⟨2, ![1, 1280]⟩
abbrev S1x1536x128 : Shape := ⟨3, ![1, 1536, 128]⟩
abbrev S1536x128 : Shape := ⟨2, ![1536, 128]⟩
abbrev S256x1536 : Shape := ⟨2, ![256, 1536]⟩
abbrev S1x1536 : Shape := ⟨2, ![1, 1536]⟩
abbrev S1x1792x128 : Shape := ⟨3, ![1, 1792, 128]⟩
abbrev S1792x128 : Shape := ⟨2, ![1792, 128]⟩
abbrev S256x1792 : Shape := ⟨2, ![256, 1792]⟩
abbrev S1x1792 : Shape := ⟨2, ![1, 1792]⟩
abbrev S1x2048x128 : Shape := ⟨3, ![1, 2048, 128]⟩
abbrev S2048x128 : Shape := ⟨2, ![2048, 128]⟩
abbrev S1x2048 : Shape := ⟨2, ![1, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x5632, .bf16⟩
  | .hbm, ⟨1, _⟩ => ⟨S8x6x2048, .f32⟩
  | .hbm, ⟨2, _⟩ => ⟨S8x6x8x256, .f32⟩
  | .hbm, ⟨3, _⟩ => ⟨S8x8x6x256, .f32⟩
  | .hbm, ⟨4, _⟩ => ⟨S_, .f32⟩
  | .hbm, ⟨5, _⟩ => ⟨S8x8x16x256, .f32⟩
  | .hbm, ⟨6, _⟩ => ⟨S8x2048x768, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x8x16x256, .f32⟩
  | .local _ .vmem, ⟨7, _⟩ => ⟨S1x8x16x256, .f32⟩
  | .local _ .vmem, ⟨8, _⟩ => ⟨S1x2048x256, .bf16⟩
  | .local _ .vmem, ⟨9, _⟩ => ⟨S1x2048x256, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def k0_off1 (i : grid0.Coords) (c0_i32 : BitVec 32) : Fin 4 → Nat :=
  let c0_7 : Index := 0#32
  let c0_8 : Index := 0#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v12 : BitVec 32 := Scalar.addi v1 c0_i32
  let v13 : Index := Scalar.indexCast v12
  let c0_9 : Index := 0#32
  ![0, 0, v13.toNat, 0]
def k0_off2 (i : grid0.Coords) (c0_i32_31 : BitVec 32) : Fin 4 → Nat :=
  let c0_32 : Index := 0#32
  let c1 : Index := 1#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v49 : BitVec 32 := Scalar.addi v1 c0_i32_31
  let v50 : Index := Scalar.indexCast v49
  let c0_33 : Index := 0#32
  ![0, 1, v50.toNat, 0]
def k0_off3 (i : grid0.Coords) (c0_i32_68 : BitVec 32) : Fin 4 → Nat :=
  let c0_69 : Index := 0#32
  let c2 : Index := 2#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v104 : BitVec 32 := Scalar.addi v1 c0_i32_68
  let v105 : Index := Scalar.indexCast v104
  let c0_70 : Index := 0#32
  ![0, 2, v105.toNat, 0]
def k0_off4 (i : grid0.Coords) (c0_i32_109 : BitVec 32) : Fin 4 → Nat :=
  let c0_110 : Index := 0#32
  let c3 : Index := 3#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v163 : BitVec 32 := Scalar.addi v1 c0_i32_109
  let v164 : Index := Scalar.indexCast v163
  let c0_111 : Index := 0#32
  ![0, 3, v164.toNat, 0]
def k0_off5 (i : grid0.Coords) (c0_i32_154 : BitVec 32) : Fin 4 → Nat :=
  let c0_155 : Index := 0#32
  let c4 : Index := 4#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v226 : BitVec 32 := Scalar.addi v1 c0_i32_154
  let v227 : Index := Scalar.indexCast v226
  let c0_156 : Index := 0#32
  ![0, 4, v227.toNat, 0]
def k0_off6 (i : grid0.Coords) (c0_i32_203 : BitVec 32) : Fin 4 → Nat :=
  let c0_204 : Index := 0#32
  let c5 : Index := 5#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v293 : BitVec 32 := Scalar.addi v1 c0_i32_203
  let v294 : Index := Scalar.indexCast v293
  let c0_205 : Index := 0#32
  ![0, 5, v294.toNat, 0]
def k0_off7 (i : grid0.Coords) (c0_i32_256 : BitVec 32) : Fin 4 → Nat :=
  let c0_257 : Index := 0#32
  let c6 : Index := 6#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v364 : BitVec 32 := Scalar.addi v1 c0_i32_256
  let v365 : Index := Scalar.indexCast v364
  let c0_258 : Index := 0#32
  ![0, 6, v365.toNat, 0]
def k0_off8 (i : grid0.Coords) (c0_i32_313 : BitVec 32) : Fin 4 → Nat :=
  let c0_314 : Index := 0#32
  let c7 : Index := 7#32
  let c4_i32 : BitVec 32 := 4#32
  let arg1 : BitVec 32 := BitVec.ofNat 32 (i 1).val
  let c2_i32 : BitVec 32 := 2#32
  let v0 : BitVec 32 := Scalar.muli arg1 c2_i32
  let v1 : BitVec 32 := Scalar.addi c4_i32 v0
  let v439 : BitVec 32 := Scalar.addi v1 c0_i32_313
  let v440 : Index := Scalar.indexCast v439
  let c0_315 : Index := 0#32
  ![0, 7, v440.toNat, 0]
def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exp2_scale" => some (((Real.sqrt 128)⁻¹ * (Real.log 2)⁻¹ : ℝ) : EReal)
  | "inv_scale" => some ((Real.sqrt 128 : ℝ) : EReal)
  | "mask" => some ⊥
  | _ => none
-- ==== ReferenceIdeal.lean ====
abbrev S8x2048x5632 : Shape := ⟨3, ![8, 2048, 5632]⟩
abbrev S8x6x2048 : Shape := ⟨3, ![8, 6, 2048]⟩
abbrev S8x2048x768 : Shape := ⟨3, ![8, 2048, 768]⟩
abbrev S8x2048x6x128 : Shape := ⟨4, ![8, 2048, 6, 128]⟩
abbrev S8x6x2048x2048 : Shape := ⟨4, ![8, 6, 2048, 2048]⟩
abbrev S_ : Shape := ⟨0, ![]⟩
abbrev S8x6x2048x1 : Shape := ⟨4, ![8, 6, 2048, 1]⟩
abbrev S8x6x1x2048 : Shape := ⟨4, ![8, 6, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x6x128x2048 : Shape := ⟨4, ![8, 6, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x5632, .bf16⟩
  | .hbm, ⟨1, _⟩ => ⟨S8x6x2048, .f32⟩
  | .hbm, ⟨2, _⟩ => ⟨S8x2048x768, .bf16⟩
  | .hbm, ⟨3, _⟩ => ⟨S8x2048x768, .f32⟩
  | .hbm, ⟨4, _⟩ => ⟨S8x2048x6x128, .f32⟩
  | .hbm, ⟨5, _⟩ => ⟨S8x2048x768, .bf16⟩
  | .hbm, ⟨6, _⟩ => ⟨S8x2048x768, .f32⟩
  | .hbm, ⟨7, _⟩ => ⟨S8x2048x6x128, .f32⟩
  | .hbm, ⟨8, _⟩ => ⟨S8x2048x768, .bf16⟩
  | .hbm, ⟨9, _⟩ => ⟨S8x2048x768, .f32⟩
  | .hbm, ⟨10, _⟩ => ⟨S8x2048x6x128, .f32⟩
  | .hbm, ⟨11, _⟩ => ⟨S8x6x2048x2048, .f32⟩
  | .hbm, ⟨12, _⟩ => ⟨S_, .f32⟩
  | .hbm, ⟨13, _⟩ => ⟨S_, .f32⟩
  | .hbm, ⟨14, _⟩ => ⟨S8x6x2048x2048, .f32⟩
  | .hbm, ⟨15, _⟩ => ⟨S8x6x2048x2048, .f32⟩
  | .hbm, ⟨16, _⟩ => ⟨S8x6x2048x1, .f32⟩
  | .hbm, ⟨17, _⟩ => ⟨S8x6x2048x2048, .f32⟩
  | .hbm, ⟨18, _⟩ => ⟨S8x6x2048x2048, .f32⟩
  | .hbm, ⟨19, _⟩ => ⟨S8x6x1x2048, .f32⟩
  | .hbm, ⟨20, _⟩ => ⟨S8x6x2048x2048, .f32⟩
  | .hbm, ⟨21, _⟩ => ⟨S8x6x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S8x6x2048x2048, .i1⟩
  | .hbm, ⟨32, _⟩ => ⟨S8x6x2048x2048, .f32⟩
  | .hbm, ⟨33, _⟩ => ⟨S8x6x2048x2048, .f32⟩
  | .hbm, ⟨34, _⟩ => ⟨S_, .f32⟩
  | .hbm, ⟨35, _⟩ => ⟨S8x6x2048, .f32⟩
  | .hbm, ⟨36, _⟩ => ⟨S_, .f32⟩
  | .hbm, ⟨37, _⟩ => ⟨S8x6x2048, .f32⟩
  | .hbm, ⟨38, _⟩ => ⟨S8x6x2048, .f32⟩
  | .hbm, ⟨39, _⟩ => ⟨S8x6x2048x1, .f32⟩
  | .hbm, ⟨40, _⟩ => ⟨S8x6x2048x2048, .f32⟩
  | .hbm, ⟨41, _⟩ => ⟨S8x6x2048x2048, .f32⟩
  | .hbm, ⟨42, _⟩ => ⟨S8x6x2048x2048, .f32⟩
  | .hbm, ⟨43, _⟩ => ⟨S_, .f32⟩
  | .hbm, ⟨44, _⟩ => ⟨S8x6x2048, .f32⟩
  | .hbm, ⟨45, _⟩ => ⟨S8x6x2048x1, .f32⟩
  | .hbm, ⟨46, _⟩ => ⟨S8x6x2048x2048, .f32⟩
  | .hbm, ⟨47, _⟩ => ⟨S8x6x2048x2048, .f32⟩
  | .hbm, ⟨48, _⟩ => ⟨S8x6x128x2048, .f32⟩
  | .hbm, ⟨49, _⟩ => ⟨S8x2048x6x128, .f32⟩
  | .hbm, ⟨50, _⟩ => ⟨S8x2048x768, .f32⟩
  | .hbm, ⟨51, _⟩ => ⟨S8x2048x768, .bf16⟩
  | _, _ => ⟨S8x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Ffn.lean ====
abbrev S8x2048x2048 : Shape := ⟨3, ![8, 2048, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048 : Shape := ⟨2, ![2, 2048]⟩
abbrev S16384x2048 : Shape := ⟨2, ![16384, 2048]⟩
abbrev S2x1x11264 : Shape := ⟨3, ![2, 1, 11264]⟩
abbrev S2x1x2048 : Shape := ⟨3, ![2, 1, 2048]⟩
abbrev S512x2048 : Shape := ⟨2, ![512, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S520x512 : Shape := ⟨2, ![520, 512]⟩
abbrev S11x8x1024 : Shape := ⟨3, ![11, 8, 1024]⟩
abbrev S8x1024 : Shape := ⟨2, ![8, 1024]⟩
abbrev S1x8x1024 : Shape := ⟨3, ![1, 8, 1024]⟩
abbrev S1x8x512 : Shape := ⟨3, ![1, 8, 512]⟩
abbrev S8x512 : Shape := ⟨2, ![8, 512]⟩
abbrev S2048x512 : Shape := ⟨2, ![2048, 512]⟩
abbrev S512x512 : Shape := ⟨2, ![512, 512]⟩
abbrev S1x512 : Shape := ⟨2, ![1, 512]⟩
abbrev S1x2048 : Shape := ⟨2, ![1, 2048]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S8x2048x2048, .f32⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S2x2048, .f32⟩
  | .hbm, ⟨6, _⟩ => ⟨S2x2048, .f32⟩
  | .hbm, ⟨7, _⟩ => ⟨S2x2048x11264, .bf16⟩
  | .hbm, ⟨8, _⟩ => ⟨S2x5632x2048, .bf16⟩
  | .hbm, ⟨9, _⟩ => ⟨S16384x2048, .f32⟩
  | .hbm, ⟨10, _⟩ => ⟨S2x1x11264, .f32⟩
  | .hbm, ⟨11, _⟩ => ⟨S2x1x2048, .f32⟩
  | .hbm, ⟨12, _⟩ => ⟨S2x1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x512x2048, .bf16⟩
  | .local _ .vmem, ⟨15, _⟩ => ⟨S1x512x2048, .bf16⟩
  | .local _ .vmem, ⟨16, _⟩ => ⟨S1x1x2048, .f32⟩
  | .local _ .vmem, ⟨17, _⟩ => ⟨S1x1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S520x512, .f32⟩
  | .local _ .vmem, ⟨22, _⟩ => ⟨S520x512, .f32⟩
  | .local _ .vmem, ⟨23, _⟩ => ⟨S11x8x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v114 : Index := Scalar.indexCast arg1
  let c0_78 : Index := 0#32
  let c0_79 : Index := 0#32
  ![v114.toNat, 0, 0]
def k0_off2 (i : grid0.Coords) : Fin 3 → Nat :=
  let arg1 : BitVec 32 := BitVec.ofNat 32 (i 1).val
  let v17 : Index := Scalar.indexCast arg1
  let c0_8 : Index := 0#32
  let c0_9 : Index := 0#32
  ![v17.toNat, 0, 0]
def k0_off3 (i : grid0.Coords) : Fin 3 → Nat :=
  let arg1 : BitVec 32 := BitVec.ofNat 32 (i 1).val
  let v34 : Index := Scalar.indexCast arg1
  let c0_19 : Index := 0#32
  let c512_20 : Index := 512#32
  ![v34.toNat, 0, 512]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnReferenceIdeal.lean ====
abbrev S8x2048x2048 : Shape := ⟨3, ![8, 2048, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048 : Shape := ⟨2, ![2, 2048]⟩
abbrev S_ : Shape := ⟨0, ![]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x5632x2048 : Shape := ⟨3, ![1, 5632, 2048]⟩
abbrev S5632x2048 : Shape := ⟨2, ![5632, 2048]⟩
abbrev S8x2048x11264 : Shape := ⟨3, ![8, 2048, 11264]⟩
abbrev S8x2050x11264 : Shape := ⟨3, ![8, 2050, 11264]⟩
abbrev S1x1x11264 : Shape := ⟨3, ![1, 1, 11264]⟩
abbrev S8x2048x5632 : Shape := ⟨3, ![8, 2048, 5632]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S1x2048x11264, .f32⟩
  | .hbm, ⟨11, _⟩ => ⟨S2048x11264, .f32⟩
  | .hbm, ⟨12, _⟩ => ⟨S1x3x11264, .f32⟩
  | .hbm, ⟨13, _⟩ => ⟨S3x11264, .f32⟩
  | .hbm, ⟨14, _⟩ => ⟨S1x11264, .f32⟩
  | .hbm, ⟨15, _⟩ => ⟨S11264, .f32⟩
  | .hbm, ⟨16, _⟩ => ⟨S1x5632x2048, .f32⟩
  | .hbm, ⟨17, _⟩ => ⟨S5632x2048, .f32⟩
  | .hbm, ⟨18, _⟩ => ⟨S8x2048x11264, .f32⟩
  | .hbm, ⟨19, _⟩ => ⟨S_, .i32⟩
  | .hbm, ⟨20, _⟩ => ⟨S_, .f32⟩
  | .hbm, ⟨21, _⟩ => ⟨S8x2050x11264, .f32⟩
  | .hbm, ⟨22, _⟩ => ⟨S1x11264, .f32⟩
  | .hbm, ⟨23, _⟩ => ⟨S11264, .f32⟩
  | .hbm, ⟨24, _⟩ => ⟨S8x2048x11264, .f32⟩
  | .hbm, ⟨25, _⟩ => ⟨S1x1x11264, .f32⟩
  | .hbm, ⟨26, _⟩ => ⟨S8x2048x11264, .f32⟩
  | .hbm, ⟨27, _⟩ => ⟨S8x2048x11264, .f32⟩
  | .hbm, ⟨28, _⟩ => ⟨S_, .f32⟩
  | .hbm, ⟨29, _⟩ => ⟨S8x2048x11264, .f32⟩
  | .hbm, ⟨30, _⟩ => ⟨S8x2048x11264, .f32⟩
  | .hbm, ⟨31, _⟩ => ⟨S1x11264, .f32⟩
  | .hbm, ⟨32, _⟩ => ⟨S11264, .f32⟩
  | .hbm, ⟨33, _⟩ => ⟨S8x2048x11264, .f32⟩
  | .hbm, ⟨34, _⟩ => ⟨S1x1x11264, .f32⟩
  | .hbm, ⟨35, _⟩ => ⟨S8x2048x11264, .f32⟩
  | .hbm, ⟨36, _⟩ => ⟨S8x2048x11264, .f32⟩
  | .hbm, ⟨37, _⟩ => ⟨S8x2048x11264, .f32⟩
  | .hbm, ⟨38, _⟩ => ⟨S1x11264, .f32⟩
  | .hbm, ⟨39, _⟩ => ⟨S11264, .f32⟩
  | .hbm, ⟨40, _⟩ => ⟨S8x2048x11264, .f32⟩
  | .hbm, ⟨41, _⟩ => ⟨S1x1x11264, .f32⟩
  | .hbm, ⟨42, _⟩ => ⟨S8x2048x11264, .f32⟩
  | .hbm, ⟨43, _⟩ => ⟨S8x2048x11264, .f32⟩
  | .hbm, ⟨44, _⟩ => ⟨S8x2048x11264, .f32⟩
  | .hbm, ⟨45, _⟩ => ⟨S1x1x11264, .f32⟩
  | .hbm, ⟨46, _⟩ => ⟨S8x2048x11264, .f32⟩
  | .hbm, ⟨47, _⟩ => ⟨S8x2048x11264, .f32⟩
  | .hbm, ⟨48, _⟩ => ⟨S8x2048x5632, .f32⟩
  | .hbm, ⟨49, _⟩ => ⟨S8x2048x5632, .f32⟩
  | .hbm, ⟨50, _⟩ => ⟨S_, .f32⟩
  | .hbm, ⟨51, _⟩ => ⟨S8x2048x5632, .f32⟩
  | .hbm, ⟨52, _⟩ => ⟨S8x2048x5632, .f32⟩
  | .hbm, ⟨53, _⟩ => ⟨S8x2048x5632, .f32⟩
  | .hbm, ⟨54, _⟩ => ⟨S_, .f32⟩
  | .hbm, ⟨55, _⟩ => ⟨S8x2048x5632, .f32⟩
  | .hbm, ⟨56, _⟩ => ⟨S8x2048x5632, .f32⟩
  | .hbm, ⟨57, _⟩ => ⟨S8x2048x5632, .f32⟩
  | .hbm, ⟨58, _⟩ => ⟨S8x2048x5632, .f32⟩
  | .hbm, ⟨59, _⟩ => ⟨S8x2048x5632, .f32⟩
  | .hbm, ⟨60, _⟩ => ⟨S8x2048x2048, .f32⟩
  | .hbm, ⟨61, _⟩ => ⟨S8x2048x2048, .f32⟩
  | .hbm, ⟨62, _⟩ => ⟨S1x2048, .f32⟩
  | .hbm, ⟨63, _⟩ => ⟨S2048, .f32⟩
  | .hbm, ⟨64, _⟩ => ⟨S1x2048, .f32⟩
  | .hbm, ⟨65, _⟩ => ⟨S2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S8x2048x1, .f32⟩
  | .hbm, ⟨87, _⟩ => ⟨S8x2048x2048, .f32⟩
  | .hbm, ⟨88, _⟩ => ⟨S8x2048x2048, .f32⟩
  | .hbm, ⟨89, _⟩ => ⟨S1x1x2048, .f32⟩
  | .hbm, ⟨90, _⟩ => ⟨S8x2048x2048, .f32⟩
  | .hbm, ⟨91, _⟩ => ⟨S8x2048x2048, .f32⟩
  | .hbm, ⟨92, _⟩ => ⟨S1x1x2048, .f32⟩
  | .hbm, ⟨93, _⟩ => ⟨S8x2048x2048, .f32⟩
  | .hbm, ⟨94, _⟩ => ⟨S8x2048x2048, .f32⟩
  | .hbm, ⟨95, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== Merge.lean ====
abbrev S8x2048x2048 : Shape := ⟨3, ![8, 2048, 2048]⟩
abbrev S8x2048x256 : Shape := ⟨3, ![8, 2048, 256]⟩
abbrev S8x2048x512 : Shape := ⟨3, ![8, 2048, 512]⟩
abbrev S8x2048x768 : Shape := ⟨3, ![8, 2048, 768]⟩
abbrev S2x2048x6144 : Shape := ⟨3, ![2, 2048, 6144]⟩
abbrev S2x6144 : Shape := ⟨2, ![2, 6144]⟩
abbrev S2x256x2048 : Shape := ⟨3, ![2, 256, 2048]⟩
abbrev S2x512x2048 : Shape := ⟨3, ![2, 512, 2048]⟩
abbrev S2x768x2048 : Shape := ⟨3, ![2, 768, 2048]⟩
abbrev S2x2048x2048 : Shape := ⟨3, ![2, 2048, 2048]⟩
abbrev S2x2048 : Shape := ⟨2, ![2, 2048]⟩
abbrev S16384x2048 : Shape := ⟨2, ![16384, 2048]⟩
abbrev S16384x256 : Shape := ⟨2, ![16384, 256]⟩
abbrev S16384x512 : Shape := ⟨2, ![16384, 512]⟩
abbrev S16384x768 : Shape := ⟨2, ![16384, 768]⟩
abbrev S2x1x6144 : Shape := ⟨3, ![2, 1, 6144]⟩
abbrev S2x1x2048 : Shape := ⟨3, ![2, 1, 2048]⟩
abbrev S512x2048 : Shape := ⟨2, ![512, 2048]⟩
abbrev S512x256 : Shape := ⟨2, ![512, 256]⟩
abbrev S512x512 : Shape := ⟨2, ![512, 512]⟩
abbrev S512x768 : Shape := ⟨2, ![512, 768]⟩
abbrev S1x2048x512 : Shape := ⟨3, ![1, 2048, 512]⟩
abbrev S1x1x512 : Shape := ⟨3, ![1, 1, 512]⟩
abbrev S1x256x512 : Shape := ⟨3, ![1, 256, 512]⟩
abbrev S1x512x512 : Shape := ⟨3, ![1, 512, 512]⟩
abbrev S1x768x512 : Shape := ⟨3, ![1, 768, 512]⟩
abbrev S1x512x2048 : Shape := ⟨3, ![1, 512, 2048]⟩
abbrev S1x1x2048 : Shape := ⟨3, ![1, 1, 2048]⟩
abbrev S2048x512 : Shape := ⟨2, ![2048, 512]⟩
abbrev S1x512 : Shape := ⟨2, ![1, 512]⟩
abbrev S256x512 : Shape := ⟨2, ![256, 512]⟩
abbrev S768x512 : Shape := ⟨2, ![768, 512]⟩
abbrev S1x2048 : Shape := ⟨2, ![1, 2048]⟩
abbrev S512 : Shape := ⟨1, ![512]⟩
abbrev S512x1 : Shape := ⟨2, ![512, 1]⟩

abbrev nBuf : Space → Nat
  | .hbm => 25
  | .vmem => 33
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .bf16⟩
  | .hbm, ⟨2, _⟩ => ⟨S8x2048x512, .bf16⟩
  | .hbm, ⟨3, _⟩ => ⟨S8x2048x768, .bf16⟩
  | .hbm, ⟨4, _⟩ => ⟨S2x2048x6144, .f32⟩
  | .hbm, ⟨5, _⟩ => ⟨S2x6144, .f32⟩
  | .hbm, ⟨6, _⟩ => ⟨S2x256x2048, .f32⟩
  | .hbm, ⟨7, _⟩ => ⟨S2x512x2048, .f32⟩
  | .hbm, ⟨8, _⟩ => ⟨S2x768x2048, .f32⟩
  | .hbm, ⟨9, _⟩ => ⟨S2x2048x2048, .f32⟩
  | .hbm, ⟨10, _⟩ => ⟨S2x2048, .f32⟩
  | .hbm, ⟨11, _⟩ => ⟨S2x2048, .f32⟩
  | .hbm, ⟨12, _⟩ => ⟨S2x2048x6144, .bf16⟩
  | .hbm, ⟨13, _⟩ => ⟨S2x256x2048, .bf16⟩
  | .hbm, ⟨14, _⟩ => ⟨S2x512x2048, .bf16⟩
  | .hbm, ⟨15, _⟩ => ⟨S2x768x2048, .bf16⟩
  | .hbm, ⟨16, _⟩ => ⟨S2x2048x2048, .bf16⟩
  | .hbm, ⟨17, _⟩ => ⟨S16384x2048, .f32⟩
  | .hbm, ⟨18, _⟩ => ⟨S16384x256, .bf16⟩
  | .hbm, ⟨19, _⟩ => ⟨S16384x512, .bf16⟩
  | .hbm, ⟨20, _⟩ => ⟨S16384x768, .bf16⟩
  | .hbm, ⟨21, _⟩ => ⟨S2x1x6144, .f32⟩
  | .hbm, ⟨22, _⟩ => ⟨S2x1x2048, .f32⟩
  | .hbm, ⟨23, _⟩ => ⟨S2x1x2048, .f32⟩
  | .hbm, ⟨24, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x256x512, .bf16⟩
  | .local _ .vmem, ⟨21, _⟩ => ⟨S1x256x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x768x512, .bf16⟩
  | .local _ .vmem, ⟨25, _⟩ => ⟨S1x768x512, .bf16⟩
  | .local _ .vmem, ⟨26, _⟩ => ⟨S1x512x2048, .bf16⟩
  | .local _ .vmem, ⟨27, _⟩ => ⟨S1x512x2048, .bf16⟩
  | .local _ .vmem, ⟨28, _⟩ => ⟨S1x1x2048, .f32⟩
  | .local _ .vmem, ⟨29, _⟩ => ⟨S1x1x2048, .f32⟩
  | .local _ .vmem, ⟨30, _⟩ => ⟨S512x2048, .f32⟩
  | .local _ .vmem, ⟨31, _⟩ => ⟨S512x2048, .f32⟩
  | .local _ .vmem, ⟨32, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x768x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1x1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== MergeReferenceIdeal.lean ====
abbrev S8x2048x2048 : Shape := ⟨3, ![8, 2048, 2048]⟩
abbrev S8x2048x256 : Shape := ⟨3, ![8, 2048, 256]⟩
abbrev S8x2048x512 : Shape := ⟨3, ![8, 2048, 512]⟩
abbrev S8x2048x768 : Shape := ⟨3, ![8, 2048, 768]⟩
abbrev S2x2048x6144 : Shape := ⟨3, ![2, 2048, 6144]⟩
abbrev S2x6144 : Shape := ⟨2, ![2, 6144]⟩
abbrev S2x256x2048 : Shape := ⟨3, ![2, 256, 2048]⟩
abbrev S2x512x2048 : Shape := ⟨3, ![2, 512, 2048]⟩
abbrev S2x768x2048 : Shape := ⟨3, ![2, 768, 2048]⟩
abbrev S2x2048x2048 : Shape := ⟨3, ![2, 2048, 2048]⟩
abbrev S2x2048 : Shape := ⟨2, ![2, 2048]⟩
abbrev S1x2048x6144 : Shape := ⟨3, ![1, 2048, 6144]⟩
abbrev S2048x6144 : Shape := ⟨2, ![2048, 6144]⟩
abbrev S8x2048x6144 : Shape := ⟨3, ![8, 2048, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S1x256x2048 : Shape := ⟨3, ![1, 256, 2048]⟩
abbrev S256x2048 : Shape := ⟨2, ![256, 2048]⟩
abbrev S1x512x2048 : Shape := ⟨3, ![1, 512, 2048]⟩
abbrev S512x2048 : Shape := ⟨2, ![512, 2048]⟩
abbrev S1x768x2048 : Shape := ⟨3, ![1, 768, 2048]⟩
abbrev S768x2048 : Shape := ⟨2, ![768, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .bf16⟩
  | .hbm, ⟨2, _⟩ => ⟨S8x2048x512, .bf16⟩
  | .hbm, ⟨3, _⟩ => ⟨S8x2048x768, .bf16⟩
  | .hbm, ⟨4, _⟩ => ⟨S2x2048x6144, .f32⟩
  | .hbm, ⟨5, _⟩ => ⟨S2x6144, .f32⟩
  | .hbm, ⟨6, _⟩ => ⟨S2x256x2048, .f32⟩
  | .hbm, ⟨7, _⟩ => ⟨S2x512x2048, .f32⟩
  | .hbm, ⟨8, _⟩ => ⟨S2x768x2048, .f32⟩
  | .hbm, ⟨9, _⟩ => ⟨S2x2048x2048, .f32⟩
  | .hbm, ⟨10, _⟩ => ⟨S2x2048, .f32⟩
  | .hbm, ⟨11, _⟩ => ⟨S2x2048, .f32⟩
  | .hbm, ⟨12, _⟩ => ⟨S8x2048x256, .f32⟩
  | .hbm, ⟨13, _⟩ => ⟨S8x2048x512, .f32⟩
  | .hbm, ⟨14, _⟩ => ⟨S8x2048x768, .f32⟩
  | .hbm, ⟨15, _⟩ => ⟨S1x2048x6144, .f32⟩
  | .hbm, ⟨16, _⟩ => ⟨S2048x6144, .f32⟩
  | .hbm, ⟨17, _⟩ => ⟨S8x2048x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S8x2048x6144, .f32⟩
  | .hbm, ⟨22, _⟩ => ⟨S8x2048x6144, .f32⟩
  | .hbm, ⟨23, _⟩ => ⟨S8x2048x6144, .f32⟩
  | .hbm, ⟨24, _⟩ => ⟨S8x2048x6144, .f32⟩
  | .hbm, ⟨25, _⟩ => ⟨S_, .f32⟩
  | .hbm, ⟨26, _⟩ => ⟨S8x2048x6144, .f32⟩
  | .hbm, ⟨27, _⟩ => ⟨S8x2048x6144, .f32⟩
  | .hbm, ⟨28, _⟩ => ⟨S_, .f32⟩
  | .hbm, ⟨29, _⟩ => ⟨S8x2048x6144, .f32⟩
  | .hbm, ⟨30, _⟩ => ⟨S8x2048x6144, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S1x256x2048, .f32⟩
  | .hbm, ⟨35, _⟩ => ⟨S256x2048, .f32⟩
  | .hbm, ⟨36, _⟩ => ⟨S8x2048x2048, .f32⟩
  | .hbm, ⟨37, _⟩ => ⟨S8x2048x2048, .f32⟩
  | .hbm, ⟨38, _⟩ => ⟨S1x512x2048, .f32⟩
  | .hbm, ⟨39, _⟩ => ⟨S512x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S1x768x2048, .f32⟩
  | .hbm, ⟨44, _⟩ => ⟨S768x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S1x2048x2048, .f32⟩
  | .hbm, ⟨52, _⟩ => ⟨S2048x2048, .f32⟩
  | .hbm, ⟨53, _⟩ => ⟨S8x2048x2048, .f32⟩
  | .hbm, ⟨54, _⟩ => ⟨S8x2048x2048, .f32⟩
  | .hbm, ⟨55, _⟩ => ⟨S1x2048, .f32⟩
  | .hbm, ⟨56, _⟩ => ⟨S2048, .f32⟩
  | .hbm, ⟨57, _⟩ => ⟨S1x2048, .f32⟩
  | .hbm, ⟨58, _⟩ => ⟨S2048, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x2048, .f32⟩
  | .hbm, ⟨81, _⟩ => ⟨S8x2048x2048, .f32⟩
  | .hbm, ⟨82, _⟩ => ⟨S1x1x2048, .f32⟩
  | .hbm, ⟨83, _⟩ => ⟨S8x2048x2048, .f32⟩
  | .hbm, ⟨84, _⟩ => ⟨S8x2048x2048, .f32⟩
  | .hbm, ⟨85, _⟩ => ⟨S1x1x2048, .f32⟩
  | .hbm, ⟨86, _⟩ => ⟨S8x2048x2048, .f32⟩
  | .hbm, ⟨87, _⟩ => ⟨S8x2048x2048, .f32⟩
  | .hbm, ⟨88, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Proj.lean ====
abbrev S8x2048x2048 : Shape := ⟨3, ![8, 2048, 2048]⟩
abbrev S2x2048x6144 : Shape := ⟨3, ![2, 2048, 6144]⟩
abbrev S16384x2048 : Shape := ⟨2, ![16384, 2048]⟩
abbrev S16384x5632 : Shape := ⟨2, ![16384, 5632]⟩
abbrev S16384x512 : Shape := ⟨2, ![16384, 512]⟩
abbrev S1024x2048 : Shape := ⟨2, ![1024, 2048]⟩
abbrev S1x2048x2048 : Shape := ⟨3, ![1, 2048, 2048]⟩
abbrev S1024x512 : Shape := ⟨2, ![1024, 512]⟩
abbrev S2048x2048 : Shape := ⟨2, ![2048, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x2048x6144, .bf16⟩
  | .hbm, ⟨2, _⟩ => ⟨S16384x2048, .f32⟩
  | .hbm, ⟨3, _⟩ => ⟨S16384x5632, .bf16⟩
  | .hbm, ⟨4, _⟩ => ⟨S16384x512, .f32⟩
  | .local _ .vmem, ⟨0, _⟩ => ⟨S1024x2048, .f32⟩
  | .local _ .vmem, ⟨1, _⟩ => ⟨S1024x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .f32⟩
  | .local _ .vmem, ⟨7, _⟩ => ⟨S1024x512, .f32⟩
  | .local _ .vmem, ⟨8, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ProjReferenceIdeal.lean ====
abbrev S8x2048x2048 : Shape := ⟨3, ![8, 2048, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8x2048x6144 : Shape := ⟨3, ![8, 2048, 6144]⟩
abbrev S16384x6144 : Shape := ⟨2, ![16384, 6144]⟩
abbrev S16384x5632 : Shape := ⟨2, ![16384, 5632]⟩
abbrev S16384x512 : Shape := ⟨2, ![16384, 512]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048x6144, .bf16⟩
  | .hbm, ⟨2, _⟩ => ⟨S2x2048x6144, .f32⟩
  | .hbm, ⟨3, _⟩ => ⟨S1x2048x6144, .f32⟩
  | .hbm, ⟨4, _⟩ => ⟨S2048x6144, .f32⟩
  | .hbm, ⟨5, _⟩ => ⟨S8x2048x6144, .f32⟩
  | .hbm, ⟨6, _⟩ => ⟨S16384x6144, .f32⟩
  | .hbm, ⟨7, _⟩ => ⟨S16384x5632, .f32⟩
  | .hbm, ⟨8, _⟩ => ⟨S16384x5632, .bf16⟩
  | .hbm, ⟨9, _⟩ => ⟨S16384x512, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Pack.lean ====
abbrev S2x2048x5906 : Shape := ⟨3, ![2, 2048, 5906]⟩
abbrev S2x2048x6144 : Shape := ⟨3, ![2, 2048, 6144]⟩
abbrev S1x256x5906 : Shape := ⟨3, ![1, 256, 5906]⟩
abbrev S1x256x6144 : Shape := ⟨3, ![1, 256, 6144]⟩
abbrev S256x128 : Shape := ⟨2, ![256, 128]⟩
abbrev S1x256x128 : Shape := ⟨3, ![1, 256, 128]⟩
abbrev S1x256x768 : Shape := ⟨3, ![1, 256, 768]⟩
abbrev S256x768 : Shape := ⟨2, ![256, 768]⟩
abbrev S1x256x512 : Shape := ⟨3, ![1, 256, 512]⟩
abbrev S256x512 : Shape := ⟨2, ![256, 512]⟩
abbrev S1x256x18 : Shape := ⟨3, ![1, 256, 18]⟩
abbrev S256x18 : Shape := ⟨2, ![256, 18]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x5906, .f32⟩
  | .hbm, ⟨1, _⟩ => ⟨S2x2048x6144, .bf16⟩
  | .local _ .vmem, ⟨0, _⟩ => ⟨S1x256x5906, .f32⟩
  | .local _ .vmem, ⟨1, _⟩ => ⟨S1x256x5906, .f32⟩
  | .local _ .vmem, ⟨2, _⟩ => ⟨S1x256x6144, .bf16⟩
  | .local _ .vmem, ⟨3, _⟩ => ⟨S1x256x6144, .bf16⟩
  | _, _ => ⟨S2x2048x5906, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5906 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PackReferenceIdeal.lean ====
abbrev S2x2048x5906 : Shape := ⟨3, ![2, 2048, 5906]⟩
abbrev S2x2048x768 : Shape := ⟨3, ![2, 2048, 768]⟩
abbrev S2x2048x512 : Shape := ⟨3, ![2, 2048, 512]⟩
abbrev S2x2048x128 : Shape := ⟨3, ![2, 2048, 128]⟩
abbrev S2x2048x12 : Shape := ⟨3, ![2, 2048, 12]⟩
abbrev S2x2048x6 : Shape := ⟨3, ![2, 2048, 6]⟩
abbrev S2x2048x18 : Shape := ⟨3, ![2, 2048, 18]⟩
abbrev S_ : Shape := ⟨0, ![]⟩
abbrev S2x2048x6144 : Shape := ⟨3, ![2, 2048, 6144]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x5906, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .hbm, ⟨4, _⟩ => ⟨S2x2048x512, .f32⟩
  | .hbm, ⟨5, _⟩ => ⟨S2x2048x128, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .hbm, ⟨9, _⟩ => ⟨S2x2048x128, .f32⟩
  | .hbm, ⟨10, _⟩ => ⟨S2x2048x128, .f32⟩
  | .hbm, ⟨11, _⟩ => ⟨S2x2048x12, .f32⟩
  | .hbm, ⟨12, _⟩ => ⟨S2x2048x768, .f32⟩
  | .hbm, ⟨13, _⟩ => ⟨S2x2048x768, .f32⟩
  | .hbm, ⟨14, _⟩ => ⟨S2x2048x768, .f32⟩
  | .hbm, ⟨15, _⟩ => ⟨S2x2048x6, .f32⟩
  | .hbm, ⟨16, _⟩ => ⟨S2x2048x128, .f32⟩
  | .hbm, ⟨17, _⟩ => ⟨S2x2048x18, .f32⟩
  | .hbm, ⟨18, _⟩ => ⟨S_, .i32⟩
  | .hbm, ⟨19, _⟩ => ⟨S_, .f32⟩
  | .hbm, ⟨20, _⟩ => ⟨S2x2048x128, .f32⟩
  | .hbm, ⟨21, _⟩ => ⟨S2x2048x6144, .f32⟩
  | .hbm, ⟨22, _⟩ => ⟨S2x2048x6144, .bf16⟩
  | _, _ => ⟨S2x2048x5906, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_c : Ref sig .tc := ⟨.hbm, 18, rfl⟩
abbrev main_call0_v0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Decay.lean ====
abbrev S8x2048x512 : Shape := ⟨3, ![8, 2048, 512]⟩
abbrev S2x6 : Shape := ⟨2, ![2, 6]⟩
abbrev S1x6 : Shape := ⟨2, ![1, 6]⟩
abbrev S6 : Shape := ⟨1, ![6]⟩
abbrev S_ : Shape := ⟨0, ![]⟩
abbrev S1x128 : Shape := ⟨2, ![1, 128]⟩
abbrev S1 : Shape := ⟨1, ![1]⟩
abbrev S2 : Shape := ⟨1, ![2]⟩
abbrev S8x8x16x256 : Shape := ⟨4, ![8, 8, 16, 256]⟩
abbrev S1x2048x128 : Shape := ⟨3, ![1, 2048, 128]⟩
abbrev S1x8x16x256 : Shape := ⟨4, ![1, 8, 16, 256]⟩
abbrev S2048x128 : Shape := ⟨2, ![2048, 128]⟩
abbrev S128x2048 : Shape := ⟨2, ![128, 2048]⟩
abbrev S16x2048 : Shape := ⟨2, ![16, 2048]⟩
abbrev S256x256 : Shape := ⟨2, ![256, 256]⟩
abbrev S16x1 : Shape := ⟨2, ![16, 1]⟩
abbrev S16x256 : Shape := ⟨2, ![16, 256]⟩
abbrev S1x1x16x256 : Shape := ⟨4, ![1, 1, 16, 256]⟩

abbrev nBuf : Space → Nat
  | .hbm => 13
  | .vmem => 5
  | .smem => 0
  | _ => 0

abbrev bufTy : (tb : Table) → Fin (tcTables nBuf tb) → BufTy
  | .hbm, ⟨0, _⟩ => ⟨S8x2048x512, .f32⟩
  | .hbm, ⟨1, _⟩ => ⟨S2x6, .f32⟩
  | .hbm, ⟨2, _⟩ => ⟨S1x6, .f32⟩
  | .hbm, ⟨3, _⟩ => ⟨S6, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S8x8x16x256, .f32⟩
  | .local _ .vmem, ⟨0, _⟩ => ⟨S1x2048x128, .f32⟩
  | .local _ .vmem, ⟨1, _⟩ => ⟨S1x2048x128, .f32⟩
  | .local _ .vmem, ⟨2, _⟩ => ⟨S1x128, .f32⟩
  | .local _ .vmem, ⟨3, _⟩ => ⟨S1x8x16x256, .f32⟩
  | .local _ .vmem, ⟨4, _⟩ => ⟨S1x8x16x256, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DecayReferenceIdeal.lean ====
abbrev S8x2048x512 : Shape := ⟨3, ![8, 2048, 512]⟩
abbrev S2x6 : Shape := ⟨2, ![2, 6]⟩
abbrev S1x6 : Shape := ⟨2, ![1, 6]⟩
abbrev S6 : Shape := ⟨1, ![6]⟩
abbrev S_ : Shape := ⟨0, ![]⟩
abbrev S16 : Shape := ⟨1, ![16]⟩
abbrev S8x2048x16 : Shape := ⟨3, ![8, 2048, 16]⟩
abbrev S1x1x16 : Shape := ⟨3, ![1, 1, 16]⟩
abbrev S8x16x2048 : Shape := ⟨3, ![8, 16, 2048]⟩
abbrev S8x16x8x256 : Shape := ⟨4, ![8, 16, 8, 256]⟩
abbrev S8x8x16x256 : Shape := ⟨4, ![8, 8, 16, 256]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2x6, .f32⟩
  | .hbm, ⟨2, _⟩ => ⟨S1x6, .f32⟩
  | .hbm, ⟨3, _⟩ => ⟨S6, .f32⟩
  | .hbm, ⟨4, _⟩ => ⟨S_, .i32⟩
  | .hbm, ⟨5, _⟩ => ⟨S_, .f32⟩
  | .hbm, ⟨6, _⟩ => ⟨S16, .f32⟩
  | .hbm, ⟨7, _⟩ => ⟨S8x2048x16, .f32⟩
  | .hbm, ⟨8, _⟩ => ⟨S1x1x16, .f32⟩
  | .hbm, ⟨9, _⟩ => ⟨S8x2048x16, .f32⟩
  | .hbm, ⟨10, _⟩ => ⟨S8x2048x16, .f32⟩
  | .hbm, ⟨11, _⟩ => ⟨S8x2048x16, .f32⟩
  | .hbm, ⟨12, _⟩ => ⟨S_, .f32⟩
  | .hbm, ⟨13, _⟩ => ⟨S8x2048x16, .f32⟩
  | .hbm, ⟨14, _⟩ => ⟨S8x2048x16, .f32⟩
  | .hbm, ⟨15, _⟩ => ⟨S8x2048x16, .f32⟩
  | .hbm, ⟨16, _⟩ => ⟨S8x2048x16, .f32⟩
  | .hbm, ⟨17, _⟩ => ⟨S8x2048x16, .i1⟩
  | .hbm, ⟨18, _⟩ => ⟨S8x2048x16, .f32⟩
  | .hbm, ⟨19, _⟩ => ⟨S8x2048x16, .f32⟩
  | .hbm, ⟨20, _⟩ => ⟨S8x2048x16, .f32⟩
  | .hbm, ⟨21, _⟩ => ⟨S8x2048x16, .f32⟩
  | .hbm, ⟨22, _⟩ => ⟨S8x2048x16, .f32⟩
  | .hbm, ⟨23, _⟩ => ⟨S8x2048x16, .f32⟩
  | .hbm, ⟨24, _⟩ => ⟨S8x2048x16, .f32⟩
  | .hbm, ⟨25, _⟩ => ⟨S8x2048x16, .f32⟩
  | .hbm, ⟨26, _⟩ => ⟨S8x2048x16, .f32⟩
  | .hbm, ⟨27, _⟩ => ⟨S_, .f32⟩
  | .hbm, ⟨28, _⟩ => ⟨S_, .f32⟩
  | .hbm, ⟨29, _⟩ => ⟨S8x2048x16, .f32⟩
  | .hbm, ⟨30, _⟩ => ⟨S8x16x2048, .f32⟩
  | .hbm, ⟨31, _⟩ => ⟨S8x16x8x256, .f32⟩
  | .hbm, ⟨32, _⟩ => ⟨S8x8x16x256, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call1_v0 : Ref sig .tc := ⟨.hbm, 11, rfl⟩
abbrev main_call1_call0_cst : Ref sig .tc := ⟨.hbm, 12, rfl⟩
abbrev main_call1_call0_v0 : Ref sig .tc := ⟨.hbm, 13, rfl⟩
abbrev main_call1_call0_v1 : Ref sig .tc := ⟨.hbm, 14, rfl⟩
abbrev main_call1_call0_v2 : Ref sig .tc := ⟨.hbm, 15, rfl⟩
abbrev main_call1_call0_v3 : Ref sig .tc := ⟨.hbm, 16, rfl⟩
abbrev main_call1_call0_v4 : Ref sig .tc := ⟨.hbm, 17, rfl⟩
abbrev main_call1_call0_v5 : Ref sig .tc := ⟨.hbm, 18, rfl⟩
abbrev main_call1_call0_v6 : Ref sig .tc := ⟨.hbm, 19, rfl⟩
abbrev main_call1_call0_v7 : Ref sig .tc := ⟨.hbm, 20, rfl⟩
abbrev main_call1_call0_v8 : Ref sig .tc := ⟨.hbm, 21, rfl⟩
abbrev main_call1_call0_v9 : Ref sig .tc := ⟨.hbm, 22, rfl⟩
abbrev main_call1_call0_v10 : Ref sig .tc := ⟨.hbm, 23, rfl⟩
abbrev main_call1_call0_v11 : Ref sig .tc := ⟨.hbm, 24, rfl⟩
abbrev main_call1_v1 : Ref sig .tc := ⟨.hbm, 25, rfl⟩
abbrev main_v7 : Ref sig .tc := ⟨.hbm, 26, rfl⟩
abbrev main_call2_call0_cst : Ref sig .tc := ⟨.hbm, 27, rfl⟩
abbrev main_call2_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== Proof.Fox.Softmax.lean ====
module

public import Idealize.ShloMosaic.Lib.Pointwise

@[expose] public section

noncomputable section

namespace Cert.Fox

open Idealize.ShloMosaic

/-- The forgetting attention's row: keys `0 … R` with real logits `t` weigh the values `V` by the softmax of `t`. -/
def row (R : ℕ) (t : ℕ → ℝ) (V : ℕ → EReal) : EReal :=
  ∑ j ∈ Finset.range (R + 1), ((Real.exp (t j) / ∑ l ∈ Finset.range (R + 1), Real.exp (t l) : ℝ) : EReal) * V j

/-- The row depends on its logits and values at the keys `0 … R` alone. -/
theorem row_congr {R : ℕ} {t t' : ℕ → ℝ} {V V' : ℕ → EReal} (ht : ∀ j ≤ R, t j = t' j) (hV : ∀ j ≤ R, V j = V' j) :
    row R t V = row R t' V' := by
  have e : ∀ j ∈ Finset.range (R + 1), Real.exp (t j) = Real.exp (t' j) := fun j hj => by
    rw [ht j (by simpa [Nat.lt_succ_iff] using hj)]
  unfold row
  rw [Finset.sum_congr rfl e]
  refine Finset.sum_congr rfl fun j hj => ?_
  rw [e j hj, hV j (by simpa [Nat.lt_succ_iff] using hj)]

/-- A sum over `n` keys of terms that vanish past key `R` is the sum over the keys `0 … R`. -/
theorem sum_masked {M : Type} [AddCommMonoid M] {n R : ℕ} (hR : R < n) (f : ℕ → M) :
    (∑ j : Fin n, if (j : ℕ) ≤ R then f j else 0) = ∑ j ∈ Finset.range (R + 1), f j := by
  rw [Fin.sum_univ_eq_sum_range (fun j => if j ≤ R then f j else 0) n]
  rw [← Finset.sum_subset (Finset.range_subset_range.2 (show R + 1 ≤ n by omega))
    (f := fun j => if j ≤ R then f j else 0) fun j _ hj => if_neg (by simpa using hj)]
  exact Finset.sum_congr rfl fun j hj => if_pos (by simpa [Nat.lt_succ_iff] using hj)

/-- A real sum's coercion. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm,
      EReal.left_distrib_of_nonneg_of_ne_top (by exact_mod_cast hc) (EReal.coe_ne_top c), mul_comm (c : EReal), mul_comm (c : EReal)]

/-- The greatest of finitely many scores, each a real or `⊥` and one of them a real, is a real. -/
theorem fold_max_real {n : ℕ} (z : Fin n → EReal) (htop : ∀ j, z j ≠ ⊤) (j₀ : Fin n) (h₀ : z j₀ ≠ ⊥) :
    ∃ μ : ℝ, (Finset.univ.fold max ⊥ z : EReal) = μ := by
  have hbot : (Finset.univ.fold max ⊥ z : EReal) ≠ ⊥ := by
    have : z j₀ ≤ Finset.univ.fold max ⊥ z := (Finset.le_fold_max _).2 (Or.inr ⟨j₀, Finset.mem_univ _, le_rfl⟩)
    intro h; rw [h] at this; exact h₀ (le_bot_iff.1 this)
  have hlt : (Finset.univ.fold max ⊥ z : EReal) < ⊤ :=
    (Finset.fold_max_lt _).2 ⟨bot_lt_top, fun j _ => lt_top_iff_ne_top.2 (htop j)⟩
  exact ⟨_, (EReal.coe_toReal hlt.ne hbot).symm⟩

section Weights
variable {n R : ℕ} (hR : R < n) {w : ℕ → ℝ} (p : Fin n → EReal) (hp : ∀ j : Fin n, p j = if (j : ℕ) ≤ R then (w j : EReal) else 0)
include hR hp

/-- The weights' sum is the sum of the unmasked ones. -/
theorem sum_weights : ∑ j, p j = ((∑ l ∈ Finset.range (R + 1), w l : ℝ) : EReal) := by
  rw [coe_sum, ← sum_masked hR]
  exact Finset.sum_congr rfl fun j _ => hp j

omit hR hp in
theorem weight_pos (hw : ∀ j, 0 < w j) : 0 < ∑ l ∈ Finset.range (R + 1), w l :=
  Finset.sum_pos (fun j _ => hw j) ⟨0, by simp⟩

/-- Weighing the values first and dividing the total by the weights' sum. -/
theorem div_of_sum (hw : ∀ j, 0 < w j) (V : ℕ → EReal) :
    Ideal.div (∑ j : Fin n, p j * V j) (∑ j, p j)
      = ∑ j ∈ Finset.range (R + 1), ((w j / ∑ l ∈ Finset.range (R + 1), w l : ℝ) : EReal) * V j := by
  have hW := weight_pos (R := R) hw
  rw [sum_weights hR p hp, Ideal.div_coe hW.ne', sum_mul_coe _ _ (by positivity),
    ← sum_masked hR fun j => ((w j / ∑ l ∈ Finset.range (R + 1), w l : ℝ) : EReal) * V j]
  refine Finset.sum_congr rfl fun j _ => ?_
  rw [hp]
  split
  · rw [div_eq_mul_one_div (w j), EReal.coe_mul]; ac_rfl
  · simp

/-- Dividing each weight by the weights' sum and weighing the values by the quotients. -/
theorem sum_of_div (hw : ∀ j, 0 < w j) (V : ℕ → EReal) :
    ∑ j : Fin n, V j * Ideal.div (p j) (∑ j, p j)
      = ∑ j ∈ Finset.range (R + 1), ((w j / ∑ l ∈ Finset.range (R + 1), w l : ℝ) : EReal) * V j := by
  have hW := weight_pos (R := R) hw
  rw [sum_weights hR p hp, ← sum_masked hR fun j => ((w j / ∑ l ∈ Finset.range (R + 1), w l : ℝ) : EReal) * V j]
  refine Finset.sum_congr rfl fun j _ => ?_
  rw [hp, Ideal.div_coe hW.ne']
  split
  · rw [div_eq_mul_one_div (w j), EReal.coe_mul]; ac_rfl
  · simp

end Weights

/-- A common shift of the logits changes no weight. -/
theorem shift_weight (R : ℕ) (t : ℕ → ℝ) (μ : ℝ) (j : ℕ) :
    Real.exp (t j - μ) / ∑ l ∈ Finset.range (R + 1), Real.exp (t l - μ)
      = Real.exp (t j) / ∑ l ∈ Finset.range (R + 1), Real.exp (t l) := by
  simp only [Real.exp_sub, ← Finset.sum_div]
  rw [div_div_div_cancel_right₀ (Real.exp_ne_zero μ)]

theorem sqrt128_pos : 0 < Real.sqrt 128 := Real.sqrt_pos.2 (by norm_num)

/-- The kernel's base-two exponential of a scaled score is the base-e exponential of the score over `√128`. -/
theorem exp2_scaled (x : ℝ) : Real.rpow 2 (x * ((Real.sqrt 128)⁻¹ * (Real.log 2)⁻¹)) = Real.exp (x / Real.sqrt 128) := by
  show (2 : ℝ) ^ (x * ((Real.sqrt 128)⁻¹ * (Real.log 2)⁻¹)) = _
  rw [Real.rpow_def_of_pos (by norm_num)]
  congr 1
  have : Real.log 2 ≠ 0 := (Real.log_pos (by norm_num)).ne'
  field_simp

/-- The kernel's row: scores `z` in units of `1/√128`, masked to `⊥` past key `R`, exponentiated to base two after their
    maximum is taken away, the weighted sum of the values divided by the weights' sum. -/
theorem kernel_row {n R : ℕ} (hR : R < n) (t : ℕ → ℝ) (V : ℕ → EReal) (z : Fin n → EReal)
    (hz : ∀ j : Fin n, z j = if (j : ℕ) ≤ R then ((t j * Real.sqrt 128 : ℝ) : EReal) else ⊥)
    (κ : EReal) (hκ : κ = (((Real.sqrt 128)⁻¹ * (Real.log 2)⁻¹ : ℝ) : EReal)) :
    Ideal.div (∑ j, Ideal.exp2 ((z j - Finset.univ.fold max ⊥ z) * κ) * V j)
      (∑ j, Ideal.exp2 ((z j - Finset.univ.fold max ⊥ z) * κ)) = row R t V := by
  obtain ⟨μ, hμ⟩ := fold_max_real z
    (fun j => by rw [hz]; split; exacts [EReal.coe_ne_top _, bot_ne_top]) ⟨R, hR⟩ (by rw [hz, if_pos le_rfl]; exact EReal.coe_ne_bot _)
  have hpos : 0 < (Real.sqrt 128)⁻¹ * (Real.log 2)⁻¹ :=
    mul_pos (inv_pos.2 sqrt128_pos) (inv_pos.2 (Real.log_pos (by norm_num)))
  rw [hμ, hκ]
  have hp : ∀ j : Fin n, Ideal.exp2 ((z j - (μ : EReal)) * (((Real.sqrt 128)⁻¹ * (Real.log 2)⁻¹ : ℝ) : EReal))
      = if (j : ℕ) ≤ R then ((Real.exp (t j - μ / Real.sqrt 128) : ℝ) : EReal) else 0 := fun j => by
    rw [hz]
    split
    · rw [← EReal.coe_sub, ← EReal.coe_mul, Ideal.exp2_coe, exp2_scaled, sub_div, mul_div_cancel_right₀ _ sqrt128_pos.ne']
    · rw [EReal.bot_sub, EReal.bot_mul_coe_of_pos hpos, Ideal.exp2_bot]
  rw [div_of_sum hR _ hp (w := fun j => Real.exp (t j - μ / Real.sqrt 128)) (fun j => Real.exp_pos _) V]
  exact Finset.sum_congr rfl fun j _ => by rw [shift_weight]

/-- The reference's row: scores masked to `⊥` past key `R`, their softmax, the values weighed by it. -/
theorem reference_row {n R : ℕ} (hR : R < n) (t : ℕ → ℝ) (a : ℝ) (V : ℕ → EReal) (z : Fin n → EReal)
    (hz : ∀ j : Fin n, z j = if (j : ℕ) ≤ R then ((t j + a : ℝ) : EReal) else ⊥) :
    ∑ j : Fin n, V j * Ideal.div (Ideal.exp (z j - Finset.univ.fold max ⊥ z))
      (∑ j, Ideal.exp (z j - Finset.univ.fold max ⊥ z)) = row R t V := by
  obtain ⟨μ, hμ⟩ := fold_max_real z
    (fun j => by rw [hz]; split; exacts [EReal.coe_ne_top _, bot_ne_top]) ⟨R, hR⟩ (by rw [hz, if_pos le_rfl]; exact EReal.coe_ne_bot _)
  rw [hμ]
  have hp : ∀ j : Fin n, Ideal.exp (z j - (μ : EReal))
      = if (j : ℕ) ≤ R then ((Real.exp (t j - (μ - a)) : ℝ) : EReal) else 0 := fun j => by
    rw [hz]
    split
    · rw [← EReal.coe_sub, Ideal.exp_coe]; congr 2; ring
    · rw [EReal.bot_sub, Ideal.exp_bot]
  rw [sum_of_div hR _ hp (w := fun j => Real.exp (t j - (μ - a))) (fun j => Real.exp_pos _) V]
  exact Finset.sum_congr rfl fun j _ => by rw [shift_weight]

end Cert.Fox

end
-- ==== Proof.Fox.Tile.lean ====
module

public import Idealize.ShloMosaic.Lib.Pointwise
public import Idealize.ShloMosaic.Lib.MatmulPlain
public import Idealize.ShloMosaic.Lib.ValueLayout
public import Idealize.ShloMosaic.Lib.WordCmp
public import proofs.«01_k».proof.Proof.Fox.Softmax

@[expose] public section

set_option maxRecDepth 16384

noncomputable section

namespace Cert.Fox

open Idealize.ShloMosaic

abbrev V2 (a b : ℕ) : Shape := ⟨2, ![a, b]⟩
abbrev V3 (a b : ℕ) : Shape := ⟨3, ![1, a, b]⟩

/-- The scores of a tile: 256 queries against its `n` keys. -/
def scores (n : ℕ) (q : FVec Ideal (V3 256 128) .bf16) (k : FVec Ideal (V3 n 128) .bf16)
    (hq : (V3 256 128).ShapeCasts (V2 256 128)) (hk : (V3 n 128).ShapeCasts (V2 n 128))
    (hs : (V2 256 n).ShapeCasts (V2 256 n)) : FVec Ideal (V2 256 n) .f32 :=
  shapeCast (V2 256 n) (matmul (DotDims.transposedRhs 256 128 n) none (shapeCast (V2 256 128) q hq)
    (shapeCast (V2 n 128) k hk) (constant (F := Ideal) (V2 256 n) .f32 0x00000000#32)) hs

/-- The scores less the keys' decay, in the scores' units. -/
def biased (n : ℕ) (κ : EReal) (s : FVec Ideal (V2 256 n) .f32) (dec : FVec Ideal (V2 1 n) .f32)
    (hb : (V2 1 n).Broadcasts (V2 256 n)) : FVec Ideal (V2 256 n) .f32 :=
  subf s (broadcastTo (V2 256 n) (mulf dec (broadcast (V2 1 n) κ)) hb)

/-- The causal mask of a tile on the diagonal: key `c` for query `r` when `c ≤ r`. -/
def diag (κ : EReal) (x : FVec Ideal (V2 256 256) .f32) (h0 : (V2 256 256).Iotas .tc 32 [0])
    (h1 : (V2 256 256).Iotas .tc 32 [1]) : FVec Ideal (V2 256 256) .f32 :=
  select (cmpi .sle (iota .tc (V2 256 256) 32 [1] h1) (iota .tc (V2 256 256) 32 [0] h0)) x (broadcast (V2 256 256) κ)

/-- A tile's scores with its last 256 keys masked. -/
def masked (m n : ℕ) (κ : EReal) (x : FVec Ideal (V2 256 n) .f32) (h0 : (V2 256 256).Iotas .tc 32 [0])
    (h1 : (V2 256 256).Iotas .tc 32 [1]) (hl : (V2 256 n).Slices ![0, 0] (V2 256 m))
    (hr : (V2 256 n).Slices ![0, m] (V2 256 256)) (hc : Shape.Concatenates [V2 256 m, V2 256 256] (V2 256 n) 1) :
    FVec Ideal (V2 256 n) .f32 :=
  concatenate (V2 256 n) 1 [⟨V2 256 m, extractStridedSlice (V2 256 m) ![0, 0] x hl⟩,
    ⟨V2 256 256, diag κ (extractStridedSlice (V2 256 256) ![0, m] x hr) h0 h1⟩] hc

/-- The weighted sum of the values: base-two exponentials of the masked scores less their maximum, divided by their sum. -/
def weigh (n : ℕ) (κ : EReal) (z : FVec Ideal (V2 256 n) .f32) (v : FVec Ideal (V3 n 128) .bf16)
    (hr : (V2 256 n).Reduces [1] ⟨1, ![256]⟩) (hc1 : Shape.ShapeCasts ⟨1, ![256]⟩ (V2 256 1))
    (hb1 : (V2 256 1).Broadcasts (V2 256 n)) (hb2 : (V2 256 1).Broadcasts (V2 256 128))
    (hcp : (V2 256 n).ShapeCasts (V2 256 n)) (hcv : (V3 n 128).ShapeCasts (V2 n 128))
    (hco : (V2 256 128).ShapeCasts (V3 256 128)) (hlt : FTy.bits .bf16 < FTy.bits .f32) : FVec Ideal (V3 256 128) .bf16 :=
  have m : FVec Ideal (V2 256 n) .f32 :=
    broadcastTo _ (shapeCast (V2 256 1) (multiReduction .maximumf [1] ⟨1, ![256]⟩ z 0xFF800000#32 hr (.inl rfl) rfl) hc1) hb1
  have p : FVec Ideal (V2 256 n) .f32 := exp2 (mulf (subf z m) (broadcast _ κ))
  have l : FVec Ideal (V2 256 1) .f32 :=
    shapeCast (V2 256 1) (multiReduction .add [1] ⟨1, ![256]⟩ p 0x00000000#32 hr (.inl rfl) rfl) hc1
  have o : FVec Ideal (V2 256 128) .f32 :=
    matmul (DotDims.plain 256 n 128) none (shapeCast (V2 256 n) (truncf .bf16 p hlt) hcp) (shapeCast (V2 n 128) v hcv)
      (constant (F := Ideal) (V2 256 128) .f32 0x00000000#32)
  shapeCast (V3 256 128) (truncf .bf16 (divf o (broadcastTo _ l hb2)) hlt) hco

theorem matmul_plain_at {M K N : ℕ} (x : FVec Ideal (V2 M K) .bf16) (y : FVec Ideal (V2 K N) .bf16) (a : FVec Ideal (V2 M N) .f32)
    (r : Fin M) (c : Fin N) :
    Ideal.matmul (DotDims.plain M K N) x y a (ix2 r c) = a (ix2 r c) + ∑ k : Fin K, x (ix2 r k) * y (ix2 k c) :=
  Ideal.matmul_plain_apply none x y a r c

theorem matmul_transposed_at {M K N : ℕ} (x : FVec Ideal (V2 M K) .bf16) (y : FVec Ideal (V2 N K) .bf16)
    (a : FVec Ideal (V2 M N) .f32) (r : Fin M) (c : Fin N) :
    Ideal.matmul (DotDims.transposedRhs M K N) x y a (ix2 r c) = a (ix2 r c) + ∑ k : Fin K, x (ix2 r k) * y (ix2 c k) :=
  Ideal.matmul_transposedRhs_apply none x y a r c

/-- A `[1, a, b]` block's entry at the index matched with `(i, j)` is the one at `(0, i, j)`. -/
theorem drop_unit {a b : ℕ} (h : (V3 a b).ShapeCasts (V2 a b)) (i : Fin a) (j : Fin b) :
    Shape.reshapeEquiv h (ix2 i j) = ix3 0 i j :=
  ValueIdx.reshapeEquiv_ix2_1ab h i j

/-- A score is the query's product with the key. -/
theorem scores_apply (n : ℕ) (q : FVec Ideal (V3 256 128) .bf16) (k : FVec Ideal (V3 n 128) .bf16) (hq hk hs) (r : Fin 256) (j : Fin n) :
    scores n q k hq hk hs (ix2 r j) = ∑ e : Fin 128, q (ix3 0 r e) * k (ix3 0 j e) := by
  pointwise [scores, matmul_transposed_at]
  simp only [drop_unit]

theorem biased_apply (n : ℕ) (κ : EReal) (s : FVec Ideal (V2 256 n) .f32) (dec : FVec Ideal (V2 1 n) .f32) (hb) (r : Fin 256) (j : Fin n) :
    biased n κ s dec hb (ix2 r j) = s (ix2 r j) - dec (ix2 0 j) * κ := by
  pointwise [biased]
  congr 3
  funext a
  match a with
  | ⟨0, _⟩ => rfl
  | ⟨1, _⟩ =>
    apply Fin.ext
    show (if h : n = 1 then (⟨0, _⟩ : Fin n) else ⟨j, _⟩ : Fin n).val = j
    split <;> [(have := j.isLt; simp only; omega); rfl]

/-- The mask keeps key `c` for query `r` when `c ≤ r`. -/
theorem diag_apply (κ : EReal) (x : FVec Ideal (V2 256 256) .f32) (h0 h1) (r c : Fin 256) :
    diag κ x h0 h1 (ix2 r c) = if (c : ℕ) ≤ r then x (ix2 r c) else κ := by
  pointwise [diag]
  rw [WordCmp.cmpi_sle_ofNat (by omega) (by omega), WordCmp.select_ofBool]
  simp only [decide_eq_true_eq]

theorem masked_apply (m n : ℕ) (hn : n = m + 256) (κ : EReal) (x : FVec Ideal (V2 256 n) .f32) (h0 h1 hl hr hc) (r : Fin 256) (j : Fin n) :
    masked m n κ x h0 h1 hl hr hc (ix2 r j) = if (j : ℕ) ≤ m + r then x (ix2 r j) else κ := by
  subst hn
  pointwise [masked, diag_apply]
  have e : ∀ i : (V2 256 (m + 256)).Idx, (i 0).val = r.val → (i 1).val = j.val → x i = x (ix2 r j) := fun i h0 h1 => by
    rw [eq_ix2 i]; exact congrArg x (congrArg₂ ix2 (Fin.ext h0) (Fin.ext h1))
  split
  · rw [if_pos (by omega)]
    exact e _ (Nat.zero_add _) (Nat.zero_add _)
  · by_cases h : (j : ℕ) ≤ m + r
    · rw [if_pos h, if_pos (by omega)]
      exact e _ (Nat.zero_add _) (by show m + (j.val - m) = j.val; omega)
    · rw [if_neg h, if_neg (by omega)]

theorem weigh_apply (n : ℕ) (κ : EReal) (z : FVec Ideal (V2 256 n) .f32) (v : FVec Ideal (V3 n 128) .bf16) (h1 h2 h3 h4 h5 h6 h7 h8)
    (r : Fin 256) (d : Fin 128) :
    weigh n κ z v h1 h2 h3 h4 h5 h6 h7 h8 (ix3 0 r d)
      = Ideal.div (∑ j, Ideal.exp2 ((z (ix2 r j) - Finset.univ.fold max ⊥ fun j => z (ix2 r j)) * κ) * v (ix3 0 j d))
          (∑ j, Ideal.exp2 ((z (ix2 r j) - Finset.univ.fold max ⊥ fun j => z (ix2 r j)) * κ)) := by
  have hbot : Ideal.ofBits .f32 0xFF800000#32 = ⊥ := by simp [Ideal.ofBits, Ideal.ieee]
  pointwise [weigh, matmul_plain_at, hbot]
  simp only [drop_unit]
  rfl

/-- A tile below the diagonal's first: with real logits `t` and values `V`, each of its entries is the attention row of the
    query `m + r`. -/
theorem tile_row {m n : ℕ} (hn : n = m + 256) {κi κm κe : EReal} (hi : κi = ((Real.sqrt 128 : ℝ) : EReal)) (hm : κm = ⊥)
    (he : κe = (((Real.sqrt 128)⁻¹ * (Real.log 2)⁻¹ : ℝ) : EReal)) (q : FVec Ideal (V3 256 128) .bf16)
    (k v : FVec Ideal (V3 n 128) .bf16) (dec : FVec Ideal (V2 1 n) .f32) (r : Fin 256) (d : Fin 128) (t : ℕ → ℝ) (V : ℕ → EReal)
    (ht : ∀ j : Fin n, (∑ e : Fin 128, q (ix3 0 r e) * k (ix3 0 j e)) - dec (ix2 0 j) * ((Real.sqrt 128 : ℝ) : EReal)
      = ((t j * Real.sqrt 128 : ℝ) : EReal))
    (hV : ∀ j : Fin n, v (ix3 0 j d) = V j)
    (a1 a2 a3 a4 a5 a6 a7 a8 a9 b1 b2 b3 b4 b5 b6 b7 b8) :
    weigh n κe (masked m n κm (biased n κi (scores n q k a1 a2 a3) dec a4) a5 a6 a7 a8 a9) v b1 b2 b3 b4 b5 b6 b7 b8 (ix3 0 r d)
      = row (m + r) t V := by
  subst hi hm
  rw [weigh_apply]
  simp only [hV]
  refine kernel_row (by have := r.isLt; omega) t V _ (fun j => ?_) κe he
  rw [masked_apply m n hn, biased_apply, scores_apply, ht]

/-- The first tile, all of it on the diagonal: each of its entries is the attention row of the query `r`. -/
theorem tile_row_first {κi κm κe : EReal} (hi : κi = ((Real.sqrt 128 : ℝ) : EReal)) (hm : κm = ⊥)
    (he : κe = (((Real.sqrt 128)⁻¹ * (Real.log 2)⁻¹ : ℝ) : EReal)) (q k v : FVec Ideal (V3 256 128) .bf16)
    (dec : FVec Ideal (V2 1 256) .f32) (r : Fin 256) (d : Fin 128) (t : ℕ → ℝ) (V : ℕ → EReal)
    (ht : ∀ j : Fin 256, (∑ e : Fin 128, q (ix3 0 r e) * k (ix3 0 j e)) - dec (ix2 0 j) * ((Real.sqrt 128 : ℝ) : EReal)
      = ((t j * Real.sqrt 128 : ℝ) : EReal))
    (hV : ∀ j : Fin 256, v (ix3 0 j d) = V j) (a1 a2 a3 a4 a5 a6 b1 b2 b3 b4 b5 b6 b7 b8) :
    weigh 256 κe (diag κm (biased 256 κi (scores 256 q k a1 a2 a3) dec a4) a5 a6) v b1 b2 b3 b4 b5 b6 b7 b8 (ix3 0 r d)
      = row r t V := by
  subst hi hm
  rw [weigh_apply]
  simp only [hV]
  refine kernel_row r.isLt t V _ (fun j => ?_) κe he
  rw [diag_apply, biased_apply, scores_apply, ht]

end Cert.Fox

end
-- ==== Proof.Fox.Block.lean ====
module

public import Idealize.ShloMosaic.Lib.Pipeline.ValueKit
public import proofs.«01_k».proof.Proof.Fox.Tile

@[expose] public section

set_option maxRecDepth 16384

noncomputable section

namespace Cert.Fox

open Idealize.ShloMosaic

/-- An array's entry at natural coordinates (0 outside the array). -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- An array's entry at natural coordinates (0 outside the array). -/
def at4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

theorem at3_of {a b c : ℕ} (X : (⟨3, ![a, b, c]⟩ : Shape).Idx → EReal) (x : (⟨3, ![a, b, c]⟩ : Shape).Idx) {i j k : ℕ}
    (hi : (x 0).val = i) (hj : (x 1).val = j) (hk : (x 2).val = k) : X x = at3 X i j k := by
  subst hi hj hk
  rw [at3, dif_pos ⟨(x 0).isLt, (x 1).isLt, (x 2).isLt⟩]
  exact congrArg X (eq_ix3 x)

theorem at4_of {a b c d : ℕ} (X : (⟨4, ![a, b, c, d]⟩ : Shape).Idx → EReal) (x : (⟨4, ![a, b, c, d]⟩ : Shape).Idx) {i j k l : ℕ}
    (hi : (x 0).val = i) (hj : (x 1).val = j) (hk : (x 2).val = k) (hl : (x 3).val = l) : X x = at4 X i j k l := by
  subst hi hj hk hl
  rw [at4, dif_pos ⟨(x 0).isLt, (x 1).isLt, (x 2).isLt, (x 3).isLt⟩]
  exact congrArg X (eq_ix4 x)

/-- The key blocks' decay rows side by side. -/
def decay (N n : ℕ) (f : Fin N → FVec Ideal ⟨4, ![1, 1, 1, 256]⟩ .f32) (hs : Shape.ShapeCasts ⟨4, ![1, 1, 1, 256]⟩ (V2 1 256))
    (hc : Shape.Concatenates ((List.ofFn fun i : Fin N => (⟨V2 1 256, shapeCast (V2 1 256) (f i) hs⟩ : (s : Shape) × (s.Idx → EReal))).map (·.1))
      (V2 1 n) 1) : FVec Ideal (V2 1 n) .f32 :=
  concatenate (V2 1 n) 1 (List.ofFn fun i : Fin N => ⟨V2 1 256, shapeCast (V2 1 256) (f i) hs⟩) hc

/-- The decay of key `j` is entry `j % 256` of block `j / 256`. -/
theorem decay_apply {N n : ℕ} (hN : n = 256 * N) (f : Fin N → FVec Ideal ⟨4, ![1, 1, 1, 256]⟩ .f32) (hs hc) (j : Fin n) :
    decay N n f hs hc (ix2 0 j)
      = f ⟨j / 256, by have := j.isLt; omega⟩ (ix4 0 0 0 ⟨j % 256, Nat.mod_lt _ (by norm_num)⟩) := by
  have hk : (j : ℕ) / 256 < N := by have := j.isLt; omega
  unfold decay
  refine (concatenate_ofFn_apply (t := V2 1 n) (s₁ := V2 1 256) (1 : Fin 2) (fun i : Fin N => shapeCast (V2 1 256) (f i) hs) hc rfl 256 rfl (ix2 0 j) ⟨j / 256, hk⟩ rfl
    (ix2 0 ⟨j % 256, Nat.mod_lt _ (by norm_num)⟩) rfl fun b hb => by
      match b with
      | ⟨0, _⟩ => rfl
      | ⟨1, _⟩ => exact absurd rfl hb).trans ?_
  pointwise

/-- An extended real that is a real. -/
abbrev Fin' (x : EReal) : Prop := ∃ r : ℝ, x = r

theorem finite_sum {ι : Type} (s : Finset ι) (f : ι → EReal) (h : ∀ i, Fin' (f i)) : Fin' (∑ i ∈ s, f i) := by
  choose g hg using h
  exact ⟨∑ i ∈ s, g i, by rw [coe_sum]; exact Finset.sum_congr rfl fun i _ => hg i⟩

theorem finite_mul {x y : EReal} (hx : Fin' x) (hy : Fin' y) : Fin' (x * y) := by
  obtain ⟨a, rfl⟩ := hx; obtain ⟨b, rfl⟩ := hy; exact ⟨a * b, by rw [EReal.coe_mul]⟩

theorem finite_toReal {x : EReal} (hx : Fin' x) : x = (x.toReal : EReal) := by
  obtain ⟨a, rfl⟩ := hx; rw [EReal.toReal_coe]

theorem at3_finite {a b c : ℕ} {X : (⟨3, ![a, b, c]⟩ : Shape).Idx → EReal} (h : ∀ x, Fin' (X x)) (i j k : ℕ) : Fin' (at3 X i j k) := by
  unfold at3; split; exacts [h _, ⟨0, rfl⟩]

/-- The logit of a query and a key from their score and the key's decay. -/
def logitOf (s c : EReal) : ℝ := s.toReal / Real.sqrt 128 - c.toReal

theorem logitOf_scaled {s c : EReal} (hs : Fin' s) (hc : Fin' c) :
    s - c * ((Real.sqrt 128 : ℝ) : EReal) = ((logitOf s c * Real.sqrt 128 : ℝ) : EReal) := by
  obtain ⟨a, rfl⟩ := hs; obtain ⟨b, rfl⟩ := hc
  rw [← EReal.coe_mul, ← EReal.coe_sub, logitOf, EReal.toReal_coe, EReal.toReal_coe, sub_mul, div_mul_cancel₀ _ sqrt128_pos.ne']

abbrev Blk : Shape := ⟨3, ![1, 2048, 256]⟩
abbrev DBlk : Shape := ⟨4, ![1, 8, 16, 256]⟩

/-- What a grid point's blocks hold at a row and a head's first column `c`, decay row `w`: the logit of key `j`. -/
def logit (Q K : Blk.Idx → EReal) (D : DBlk.Idx → EReal) (c w R j : ℕ) : ℝ :=
  logitOf (∑ e : Fin 128, at3 Q 0 R (c + e) * at3 K 0 j (c + e)) (at4 D 0 (j / 256) w (j % 256))

theorem tile_index (x : (V3 256 128).Idx) : ∃ (r : Fin 256) (d : Fin 128), x = ix3 0 r d := ⟨x 1, x 2, by
  funext a
  match a with
  | ⟨0, _⟩ => exact Subsingleton.elim (α := Fin 1) _ _
  | ⟨1, _⟩ => rfl
  | ⟨2, _⟩ => rfl⟩

section Tile
variable {κi κm κe : EReal} (hi : κi = ((Real.sqrt 128 : ℝ) : EReal)) (hm : κm = ⊥)
    (he : κe = (((Real.sqrt 128)⁻¹ * (Real.log 2)⁻¹ : ℝ) : EReal))
    (Q K V : FVec Ideal Blk .bf16) (D : FVec Ideal DBlk .f32) (hQ : ∀ x, Fin' (Q x)) (hK : ∀ x, Fin' (K x)) (c w : ℕ)
    (hD : ∀ a l, Fin' (at4 D 0 a w l))
include hi hm he hQ hK hD

/-- A tile of the block below the first one, entry by entry. -/
theorem tile_entry {m n : ℕ} (N : ℕ) (hn : n = m + 256) (hN : n = 256 * N) (x : (V3 256 128).Idx) (iq ik iv)
    (ir : ∀ (i : Fin N) a, (![0, i.val, w, 0] : Fin 4 → ℕ) a + (![1, 1, 1, 256] : Fin 4 → ℕ) a ≤ DBlk.size a)
    (a1 a2 a3 d1 d2 a4 a5 a6 a7 a8 a9 b1 b2 b3 b4 b5 b6 b7 b8) :
    weigh n κe (masked m n κm (biased n κi (scores n
        (View.ld (Val := Elt Ideal) (e' := .bf16) Q (Rect.unit (s := Blk) ![0, m, c] ![1, 256, 128] iq))
        (View.ld (Val := Elt Ideal) (e' := .bf16) K (Rect.unit (s := Blk) ![0, 0, c] ![1, n, 128] ik)) a1 a2 a3)
        (decay N n (fun i => View.ld (Val := Elt Ideal) (e' := .f32) D (Rect.unit (s := DBlk) ![0, i, w, 0] ![1, 1, 1, 256] (ir i))) d1 d2) a4)
        a5 a6 a7 a8 a9)
      (View.ld (Val := Elt Ideal) (e' := .bf16) V (Rect.unit (s := Blk) ![0, 0, c] ![1, n, 128] iv)) b1 b2 b3 b4 b5 b6 b7 b8 x
      = row (m + (x 1).val) (logit Q K D c w (m + (x 1).val)) fun j => at3 V 0 j (c + (x 2).val) := by
  obtain ⟨r, d, rfl⟩ := tile_index x
  refine tile_row hn hi hm he _ _ _ _ r d _ _ (fun j => ?_) (fun j => ?_) ..
  · rw [decay_apply hN]
    unfold logit
    rw [← logitOf_scaled]
    · refine congrArg₂ (· - · * _) (Finset.sum_congr rfl fun e _ => congrArg₂ (· * ·) ?_ ?_) ?_
      · exact at3_of Q _ (Rect.idx_unit_val ..) (Rect.idx_unit_val ..) (Rect.idx_unit_val ..)
      · exact at3_of K _ (Rect.idx_unit_val ..) ((Rect.idx_unit_val ..).trans (Nat.zero_add _)) (Rect.idx_unit_val ..)
      · exact at4_of D _ (Rect.idx_unit_val ..) ((Rect.idx_unit_val ..).trans (Nat.add_zero _)) (Rect.idx_unit_val ..)
          ((Rect.idx_unit_val ..).trans (Nat.zero_add _))
    · exact finite_sum _ _ fun e => finite_mul (at3_finite hQ _ _ _) (at3_finite hK _ _ _)
    · exact hD _ _
  · exact at3_of V _ (Rect.idx_unit_val ..) ((Rect.idx_unit_val ..).trans (Nat.zero_add _)) (Rect.idx_unit_val ..)

/-- The block's first tile, entry by entry. -/
theorem tile_entry_first (x : (V3 256 128).Idx) (iq ik iv) (ir : ∀ a, (![0, 0, w, 0] : Fin 4 → ℕ) a + (![1, 1, 1, 256] : Fin 4 → ℕ) a ≤ DBlk.size a)
    (a1 a2 a3 d1 a4 a5 a6 b1 b2 b3 b4 b5 b6 b7 b8) :
    weigh 256 κe (diag κm (biased 256 κi (scores 256
        (View.ld (Val := Elt Ideal) (e' := .bf16) Q (Rect.unit (s := Blk) ![0, 0, c] ![1, 256, 128] iq))
        (View.ld (Val := Elt Ideal) (e' := .bf16) K (Rect.unit (s := Blk) ![0, 0, c] ![1, 256, 128] ik)) a1 a2 a3)
        (shapeCast (V2 1 256) (View.ld (Val := Elt Ideal) (e' := .f32) D (Rect.unit (s := DBlk) ![0, 0, w, 0] ![1, 1, 1, 256] ir)) d1) a4) a5 a6)
      (View.ld (Val := Elt Ideal) (e' := .bf16) V (Rect.unit (s := Blk) ![0, 0, c] ![1, 256, 128] iv)) b1 b2 b3 b4 b5 b6 b7 b8 x
      = row (0 + (x 1).val) (logit Q K D c w (0 + (x 1).val)) fun j => at3 V 0 j (c + (x 2).val) := by
  obtain ⟨r, d, rfl⟩ := tile_index x
  rw [Nat.zero_add]
  refine tile_row_first hi hm he _ _ _ _ r d _ _ (fun j => ?_) (fun j => ?_) ..
  · unfold logit
    rw [← logitOf_scaled]
    · refine congrArg₂ (· - · * _) (Finset.sum_congr rfl fun e _ => congrArg₂ (· * ·) ?_ ?_) ?_
      · exact at3_of Q _ (Rect.idx_unit_val ..) ((Rect.idx_unit_val ..).trans (Nat.zero_add _)) (Rect.idx_unit_val ..)
      · exact at3_of K _ (Rect.idx_unit_val ..) ((Rect.idx_unit_val ..).trans (Nat.zero_add _)) (Rect.idx_unit_val ..)
      · pointwise
        have hj := j.isLt
        exact at4_of D _ rfl (by show 0 = j.val / 256; omega) rfl (by show j.val = j.val % 256; omega)
    · exact finite_sum _ _ fun e => finite_mul (at3_finite hQ _ _ _) (at3_finite hK _ _ _)
    · exact hD _ _
  · exact at3_of V _ (Rect.idx_unit_val ..) ((Rect.idx_unit_val ..).trans (Nat.zero_add _)) (Rect.idx_unit_val ..)

end Tile

end Cert.Fox

end
-- ==== Proof.Fox.Outs.lean ====
module

public import proofs.«01_k».proof.Proof.Gen.KernelIdeal.Value
public import Idealize.ShloMosaic.Lib.Pipeline.ReadBack
public import proofs.«01_k».proof.Proof.Fox.Block

@[expose] public section

set_option maxRecDepth 16384

noncomputable section

namespace Cert.Fox

open Cert.KernelIdeal Cert.KernelIdeal.Gen Idealize.ShloMosaic Idealize.ShloMosaic.TcCoe Idealize.SL.Sem

variable (m : (ℓ : Loc nD τ sig) → Buf (Elt Ideal) ℓ)

/-- The decay row of a grid point's head, as the kernel computes it. -/
def decayRow (i : grid0.Coords) (w : BitVec 32) : ℕ :=
  (Scalar.indexCast (Scalar.addi (Scalar.addi 4#32 (Scalar.muli (BitVec.ofNat 32 (i 1).val) 2#32)) w)).toNat

theorem decayRow_eq (i : grid0.Coords) (w : Fin 2) : decayRow i (BitVec.ofNat 32 w.val) = 4 + 2 * (i 1).val + w := by
  have h : ∀ (k : Fin 3) (w : Fin 2), (Scalar.indexCast (Scalar.addi (Scalar.addi 4#32 (Scalar.muli (BitVec.ofNat 32 k.val) 2#32))
      (BitVec.ofNat 32 w.val))).toNat = 4 + 2 * k.val + w := by decide
  exact h (i 1) w

theorem inv_scale : Named.named (F := Ideal) Cert.KernelIdeal.κ "inv_scale" (φ := .f32) 0x413504F3#32 = ((Real.sqrt 128 : ℝ) : EReal) :=
  IdealRules.named_const.ideal_named_scalar _ _ _ _ rfl
theorem mask : Named.named (F := Ideal) Cert.KernelIdeal.κ "mask" (φ := .f32) 0xF149F2CA#32 = (⊥ : EReal) :=
  IdealRules.named_const.ideal_named_scalar _ _ _ _ rfl
theorem exp2_scale : Named.named (F := Ideal) Cert.KernelIdeal.κ "exp2_scale" (φ := .f32) 0x3E0293EE#32
    = (((Real.sqrt 128)⁻¹ * (Real.log 2)⁻¹ : ℝ) : EReal) :=
  IdealRules.named_const.ideal_named_scalar _ _ _ _ rfl

/-- A block of the result, from the point's blocks of queries, keys, values and decays: the attention row of each
    query in each of the point's two heads. -/
def block (Q K V : Blk.Idx → EReal) (D : DBlk.Idx → EReal) (w : ℕ) (y : Blk.Idx) : EReal :=
  row (y 1).val (logit Q K D (128 * ((y 2).val / 128)) (w + (y 2).val / 128) (y 1).val) fun j => at3 V 0 j (y 2).val

theorem block_of_tile (Q K V : Blk.Idx → EReal) (D : DBlk.Idx → EReal) (w w' h : ℕ) (hw : w' = w + h) (y : Blk.Idx) (x : (V3 256 128).Idx)
    (a b : ℕ) (h1 : (y 1).val = a + (x 1).val) (h2 : (y 2).val = b + (x 2).val) (hb : b = 128 * h) :
    row (a + (x 1).val) (logit Q K D b w' (a + (x 1).val)) (fun j => at3 V 0 j (b + (x 2).val)) = block Q K V D w y := by
  have hx : (x 2).val < 128 := (x 2).isLt
  have e : (y 2).val / 128 = h := by omega
  unfold block
  rw [e, h1, h2, ← hb, ← hw]

/-- The last 256 keys of a tile are keys of the tile. -/
theorem last_keys {m n : ℕ} (hn : n = m + 256) : (V2 256 n).Slices ![0, m] (V2 256 256) := by
  subst hn
  exact ⟨rfl, fun a => match a with
    | ⟨0, _⟩ => le_rfl
    | ⟨1, _⟩ => le_rfl⟩

/-- A decay row of a key block is inside the block of decays. -/
theorem decay_inb {N w : ℕ} (hN : N ≤ 8) (hw : w < 16) (i : Fin N) (a : Fin 4) :
    (![0, i.val, w, 0] : Fin 4 → ℕ) a + (![1, 1, 1, 256] : Fin 4 → ℕ) a ≤ DBlk.size a := by
  have := i.isLt
  match a with
  | ⟨0, _⟩ => exact le_rfl
  | ⟨1, _⟩ => show i.val + 1 ≤ 8; omega
  | ⟨2, _⟩ => show w + 1 ≤ 16; omega
  | ⟨3, _⟩ => exact le_rfl

set_option maxHeartbeats 1000000 in
/-- What a grid point's body leaves in the result's block: every one of its sixteen tiles is the attention of its queries. -/
theorem outs_apply (c : Dev nD) (t : Fin cfg0.N) (y) (hQ : ∀ x, Fin' (iblk m c 0 t x)) (hK : ∀ x, Fin' (iblk m c 1 t x))
    (hD : ∀ (h : Fin 2) a l, Fin' (at4 (iblk m c 3 t) 0 a (4 + 2 * (grid0.coords t 1).val + h) l)) :
    outsAt0 m c t y = block (iblk m c 0 t) (iblk m c 1 t) (iblk m c 2 t) (iblk m c 3 t) (4 + 2 * (grid0.coords t 1).val) y := by
  have h3 : (grid0.coords t 1).val < 3 := (grid0.coords t 1).isLt
  have e0 : decayRow (grid0.coords t) 0#32 = 4 + 2 * (grid0.coords t 1).val + 0 := decayRow_eq (grid0.coords t) 0
  have e1 : decayRow (grid0.coords t) 1#32 = 4 + 2 * (grid0.coords t 1).val + 1 := decayRow_eq (grid0.coords t) 1
  have hw0 : decayRow (grid0.coords t) 0#32 < 16 := by omega
  have hw1 : decayRow (grid0.coords t) 1#32 < 16 := by omega
  have hD0 : ∀ a l, Fin' (at4 (iblk m c 3 t) 0 a (decayRow (grid0.coords t) 0#32) l) := fun a l => by rw [e0]; exact hD 0 a l
  have hD1 : ∀ a l, Fin' (at4 (iblk m c 3 t) 0 a (decayRow (grid0.coords t) 1#32) l) := fun a l => by rw [e1]; exact hD 1 a l
  have first := fun (x : (V3 256 128).Idx) c' w hw' => tile_entry_first inv_scale mask exp2_scale (iblk m c 0 t) (iblk m c 1 t) (iblk m c 2 t)
    (iblk m c 3 t) hQ hK c' w hw' x
  have later := fun (x : (V3 256 128).Idx) c' w hw' (hw : w < 16) m' n' N hn hN (h8 : N ≤ 8) iq ik iv =>
    tile_entry (m := m') (n := n') inv_scale mask exp2_scale (iblk m c 0 t) (iblk m c 1 t) (iblk m c 2 t)
      (iblk m c 3 t) hQ hK c' w hw' N hn hN x iq ik iv (decay_inb h8 hw)
  unfold outsAt0
  frame_open
  simp (disch := decide) only [↓ View.readCov_skip, ↓ View.readCov_cons_toLoadRect, ↓ View.readCov_fill]
  frame_out
  canon_tiles x h
  · exact (later x 128 _ hD1 hw1 1792 2048 8 rfl rfl (by norm_num) (a8 := last_keys rfl) ..).trans
      (block_of_tile _ _ _ _ _ _ 1 e1 y x 1792 128 h1 h2 rfl)
  · exact (later x 128 _ hD1 hw1 1536 1792 7 rfl rfl (by norm_num) (a8 := last_keys rfl) ..).trans
      (block_of_tile _ _ _ _ _ _ 1 e1 y x 1536 128 h1 h2 rfl)
  · exact (later x 128 _ hD1 hw1 1280 1536 6 rfl rfl (by norm_num) (a8 := last_keys rfl) ..).trans
      (block_of_tile _ _ _ _ _ _ 1 e1 y x 1280 128 h1 h2 rfl)
  · exact (later x 128 _ hD1 hw1 1024 1280 5 rfl rfl (by norm_num) (a8 := last_keys rfl) ..).trans
      (block_of_tile _ _ _ _ _ _ 1 e1 y x 1024 128 h1 h2 rfl)
  · exact (later x 128 _ hD1 hw1 768 1024 4 rfl rfl (by norm_num) (a8 := last_keys rfl) ..).trans
      (block_of_tile _ _ _ _ _ _ 1 e1 y x 768 128 h1 h2 rfl)
  · exact (later x 128 _ hD1 hw1 512 768 3 rfl rfl (by norm_num) (a8 := last_keys rfl) ..).trans
      (block_of_tile _ _ _ _ _ _ 1 e1 y x 512 128 h1 h2 rfl)
  · exact (later x 128 _ hD1 hw1 256 512 2 rfl rfl (by norm_num) (a8 := last_keys rfl) ..).trans
      (block_of_tile _ _ _ _ _ _ 1 e1 y x 256 128 h1 h2 rfl)
  · exact (first x 128 _ hD1 ..).trans (block_of_tile _ _ _ _ _ _ 1 e1 y x 0 128 (by omega) h2 rfl)
  · exact (later x 0 _ hD0 hw0 1792 2048 8 rfl rfl (by norm_num) (a8 := last_keys rfl) ..).trans
      (block_of_tile _ _ _ _ _ _ 0 e0 y x 1792 0 h1 (by omega) rfl)
  · exact (later x 0 _ hD0 hw0 1536 1792 7 rfl rfl (by norm_num) (a8 := last_keys rfl) ..).trans
      (block_of_tile _ _ _ _ _ _ 0 e0 y x 1536 0 h1 (by omega) rfl)
  · exact (later x 0 _ hD0 hw0 1280 1536 6 rfl rfl (by norm_num) (a8 := last_keys rfl) ..).trans
      (block_of_tile _ _ _ _ _ _ 0 e0 y x 1280 0 h1 (by omega) rfl)
  · exact (later x 0 _ hD0 hw0 1024 1280 5 rfl rfl (by norm_num) (a8 := last_keys rfl) ..).trans
      (block_of_tile _ _ _ _ _ _ 0 e0 y x 1024 0 h1 (by omega) rfl)
  · exact (later x 0 _ hD0 hw0 768 1024 4 rfl rfl (by norm_num) (a8 := last_keys rfl) ..).trans
      (block_of_tile _ _ _ _ _ _ 0 e0 y x 768 0 h1 (by omega) rfl)
  · exact (later x 0 _ hD0 hw0 512 768 3 rfl rfl (by norm_num) (a8 := last_keys rfl) ..).trans
      (block_of_tile _ _ _ _ _ _ 0 e0 y x 512 0 h1 (by omega) rfl)
  · exact (later x 0 _ hD0 hw0 256 512 2 rfl rfl (by norm_num) (a8 := last_keys rfl) ..).trans
      (block_of_tile _ _ _ _ _ _ 0 e0 y x 256 0 h1 (by omega) rfl)
  · exact (first x 0 _ hD0 ..).trans (block_of_tile _ _ _ _ _ _ 0 e0 y x 0 0 (by omega) (by omega) rfl)

end Cert.Fox

end
-- ==== Proof.Fox.Attend.lean ====
module

public import proofs.«01_k».proof.Proof.Fox.Block

@[expose] public section

noncomputable section

namespace Cert.Fox

open Idealize.ShloMosaic

/-- The logit of query `R` and key `j` in head `h` of batch `b`: their scaled score less the key's cumulative decay. -/
def score (U : (⟨3, ![8, 2048, 5632]⟩ : Shape).Idx → EReal) (C : (⟨3, ![8, 6, 2048]⟩ : Shape).Idx → EReal) (b h R j : ℕ) : ℝ :=
  logitOf (∑ e : Fin 128, at3 U b R (2304 + 128 * h + e) * at3 U b j (3072 + 128 * h + e)) (at3 C b h j)

/-- The attention of a whole batch of sequences: each query's row over the keys up to it. -/
def attend (U : (⟨3, ![8, 2048, 5632]⟩ : Shape).Idx → EReal) (C : (⟨3, ![8, 6, 2048]⟩ : Shape).Idx → EReal)
    (i : (⟨3, ![8, 2048, 768]⟩ : Shape).Idx) : EReal :=
  row (i 1).val (score U C (i 0).val ((i 2).val / 128) (i 1).val) fun j => at3 U (i 0).val j (3840 + (i 2).val)

end Cert.Fox

end
-- ==== Proof.Fox.Array.lean ====
module

public import proofs.«01_k».proof.Proof.Fox.Outs
public import proofs.«01_k».proof.Proof.Fox.Attend

@[expose] public section

set_option maxRecDepth 16384

noncomputable section

namespace Cert.Fox

open Cert.KernelIdeal Cert.KernelIdeal.Gen Idealize.ShloMosaic Idealize.ShloMosaic.TcCoe Idealize.SL.Sem

variable (m : (ℓ : Loc nD τ sig) → Buf (Elt Ideal) ℓ) (c : Dev nD)

/-- The packed projections the call is given, on a device. -/
abbrev packed : (⟨3, ![8, 2048, 5632]⟩ : Shape).Idx → EReal := m ((c : Thread nD τ).loc main_arg0)
/-- The cumulative decays the call is given, on a device. -/
abbrev decays : (⟨3, ![8, 6, 2048]⟩ : Shape).Idx → EReal := m ((c : Thread nD τ).loc main_arg1)

theorem idx : ∀ t : Fin cfg0.N, win0_0.index t = ![(grid0.coords t 0).val, 0, 9 + (grid0.coords t 1).val]
    ∧ win0_1.index t = ![(grid0.coords t 0).val, 0, 12 + (grid0.coords t 1).val]
    ∧ win0_2.index t = ![(grid0.coords t 0).val, 0, 15 + (grid0.coords t 1).val]
    ∧ win0_3.index t = ![(grid0.coords t 0).val, 0, 0, 0]
    ∧ win0_4.index t = ![(grid0.coords t 0).val, 0, (grid0.coords t 1).val] :=
  (by decide +kernel : ∀ t : Fin grid0.N, _)

variable (t : Fin cfg0.N)

theorem coord0 : (grid0.coords t 0).val < 8 := (grid0.coords t 0).isLt
theorem coord1 : (grid0.coords t 1).val < 3 := (grid0.coords t 1).isLt

theorem query_block (x) : iblk m c 0 t x
    = at3 (packed m c) (grid0.coords t 0).val (x 1).val (2304 + 256 * (grid0.coords t 1).val + (x 2).val) := by
  have h0 := coord0 t; have h1 := coord1 t
  have x1 : (x 1).val < 2048 := (x 1).isLt
  have x2 : (x 2).val < 256 := (x 2).isLt
  rw [at3, dif_pos ⟨h0, x1, by omega⟩]
  blk_ext [iblk, V, idx t]

theorem key_block (x) : iblk m c 1 t x
    = at3 (packed m c) (grid0.coords t 0).val (x 1).val (3072 + 256 * (grid0.coords t 1).val + (x 2).val) := by
  have h0 := coord0 t; have h1 := coord1 t
  have x1 : (x 1).val < 2048 := (x 1).isLt
  have x2 : (x 2).val < 256 := (x 2).isLt
  rw [at3, dif_pos ⟨h0, x1, by omega⟩]
  blk_ext [iblk, V, idx t]

theorem value_block (x) : iblk m c 2 t x
    = at3 (packed m c) (grid0.coords t 0).val (x 1).val (3840 + 256 * (grid0.coords t 1).val + (x 2).val) := by
  have h0 := coord0 t; have h1 := coord1 t
  have x1 : (x 1).val < 2048 := (x 1).isLt
  have x2 : (x 2).val < 256 := (x 2).isLt
  rw [at3, dif_pos ⟨h0, x1, by omega⟩]
  blk_ext [iblk, V, idx t]

/-- Entry of a point's block of decays: decay row `4 + h` holds the decays of head `h`, 256 keys to a row of lanes. -/
theorem decay_block (h : Fin 6) (a : Fin 8) (l : Fin 256) : iblk m c 3 t (ix4 0 a ⟨4 + h, by omega⟩ l)
    = at3 (decays m c) (grid0.coords t 0).val h (256 * a + l) := by
  have h0 := coord0 t
  rw [at3, dif_pos ⟨h0, h.isLt, by omega⟩]
  have e : ((cfg0.win 3).blk t).view.emb (ix4 0 a ⟨4 + h, by omega⟩ l) = ix4 (grid0.coords t 0) a ⟨4 + h, by omega⟩ l := by
    blk_ext [idx t]
  show V m c main_v2 (((cfg0.win 3).blk t).view.emb (ix4 0 a ⟨4 + h, by omega⟩ l)) = _
  rw [e]
  entry_read
  pointwise
  refine congrArg (m (c, Proc.tc.devRef main_arg1)) (congrArg (ix3 (grid0.coords t 0 : Fin 8) h) (Fin.ext ?_))
  show a.val * 256 + l.val = 256 * a.val + l.val
  omega

/-- The attention holds on a result block: what a point's body leaves is the attention at the block's place in the result. -/
theorem block_apply (hU : ∀ b i j, 2304 ≤ j → j < 3840 → Fin' (at3 (packed m c) b i j)) (hC : ∀ x, Fin' (decays m c x)) (y : Blk.Idx) :
    outsAt0 m c t y = attend (packed m c) (decays m c) (ix3 (grid0.coords t 0) (y 1)
      ⟨256 * (grid0.coords t 1).val + (y 2).val, by
        have h1 := coord1 t; have x2 : (y 2).val < 256 := (y 2).isLt; omega⟩) := by
  have h0 := coord0 t; have h1 := coord1 t
  have y1 : (y 1).val < 2048 := (y 1).isLt
  have y2 : (y 2).val < 256 := (y 2).isLt
  have hq : ∀ R e : ℕ, R < 2048 → e < 256 → at3 (iblk m c 0 t) 0 R e
      = at3 (packed m c) (grid0.coords t 0).val R (2304 + 256 * (grid0.coords t 1).val + e) := fun R e hR he => by
    rw [at3, dif_pos ⟨Nat.one_pos, hR, he⟩]; exact query_block m c t _
  have hk : ∀ R e : ℕ, R < 2048 → e < 256 → at3 (iblk m c 1 t) 0 R e
      = at3 (packed m c) (grid0.coords t 0).val R (3072 + 256 * (grid0.coords t 1).val + e) := fun R e hR he => by
    rw [at3, dif_pos ⟨Nat.one_pos, hR, he⟩]; exact key_block m c t _
  have hv : ∀ R e : ℕ, R < 2048 → e < 256 → at3 (iblk m c 2 t) 0 R e
      = at3 (packed m c) (grid0.coords t 0).val R (3840 + 256 * (grid0.coords t 1).val + e) := fun R e hR he => by
    rw [at3, dif_pos ⟨Nat.one_pos, hR, he⟩]; exact value_block m c t _
  have hd : ∀ h a l : ℕ, h < 6 → a < 8 → l < 256 → at4 (iblk m c 3 t) 0 a (4 + h) l
      = at3 (decays m c) (grid0.coords t 0).val h (256 * a + l) := fun h a l hh ha hl => by
    rw [at4, dif_pos ⟨Nat.one_pos, ha, by omega, hl⟩]; exact decay_block m c t ⟨h, hh⟩ ⟨a, ha⟩ ⟨l, hl⟩
  rw [outs_apply m c t y]
  · unfold block attend
    show row (y 1).val _ _ = row (y 1).val _ _
    refine row_congr (fun j hj => ?_) fun j hj => ?_
    · have hj' : j < 2048 := by omega
      unfold logit score
      have hh : (256 * (grid0.coords t 1).val + (y 2).val) / 128 = 2 * (grid0.coords t 1).val + (y 2).val / 128 := by omega
      show logitOf _ _ = logitOf (∑ e : Fin 128, at3 (packed m c) (grid0.coords t 0).val (y 1).val
        (2304 + 128 * ((256 * (grid0.coords t 1).val + (y 2).val) / 128) + e) * at3 (packed m c) (grid0.coords t 0).val j
        (3072 + 128 * ((256 * (grid0.coords t 1).val + (y 2).val) / 128) + e))
        (at3 (decays m c) (grid0.coords t 0).val ((256 * (grid0.coords t 1).val + (y 2).val) / 128) j)
      rw [hh]
      refine congrArg₂ logitOf (Finset.sum_congr rfl fun e _ => ?_) ?_
      · have he := e.isLt
        rw [hq _ _ y1 (by omega), hk _ _ hj' (by omega)]
        refine congrArg₂ (· * ·) (congrArg _ ?_) (congrArg _ ?_) <;> omega
      · rw [add_assoc, hd _ _ _ (by omega) (by omega) (Nat.mod_lt _ (by norm_num))]
        exact congrArg _ (Nat.div_add_mod j 256)
    · rw [hv _ _ (by omega) y2]
      exact congrArg _ (add_assoc _ _ _)
  · intro x
    have x2 : (x 2).val < 256 := (x 2).isLt
    rw [query_block]; exact hU _ _ _ (by omega) (by omega)
  · intro x
    have x2 : (x 2).val < 256 := (x 2).isLt
    rw [key_block]; exact hU _ _ _ (by omega) (by omega)
  · intro h a l
    by_cases hx : a < 8 ∧ l < 256
    · have := h.isLt
      rw [add_assoc, hd _ _ _ (by omega) hx.1 hx.2]
      exact at3_finite hC _ _ _
    · rw [at4, dif_neg fun hh => hx ⟨hh.2.1, hh.2.2.2⟩]
      exact ⟨0, rfl⟩

/-- The result's array after the run is the attention of the packed projections. -/
theorem array_eq (hU : ∀ b i j, 2304 ≤ j → j < 3840 → Fin' (at3 (packed m c) b i j)) (hC : ∀ x, Fin' (decays m c x)) :
    (dats m 0 c).arrAt 4 cfg0.N = attend (packed m c) (decays m c) := by
  refine (dats m 0 c).arrAt_eq_of_covers 4 _ (by decide +kernel) fun t hf y => ?_
  have e : ((cfg0.win 4).blk t).view.emb y = ix3 (grid0.coords t 0) (y 1)
      ⟨256 * (grid0.coords t 1).val + (y 2).val, by
        have h1 := coord1 t; have x2 : (y 2).val < 256 := (y 2).isLt; omega⟩ := by
    blk_ext [idx t]
  rw [e]
  blk_simp
  rw [after0_4]
  exact block_apply m c t hU hC y

end Cert.Fox

end
-- ==== Proof.Fox.Reference.lean ====
module

public import proofs.«01_k».proof.Proof.Gen.ReferenceIdeal.Read
public import proofs.«01_k».proof.Proof.Fox.Attend

@[expose] public section

set_option maxRecDepth 16384

noncomputable section

namespace Cert.Fox.Reference

open Cert.ReferenceIdeal Cert.ReferenceIdeal.Gen Idealize.ShloMosaic Idealize.ShloMosaic.TcCoe Idealize.SL.Sem
open Cert.ReferenceIdeal.Read

variable (U : (⟨3, ![8, 2048, 5632]⟩ : Shape).Idx → EReal) (C : (⟨3, ![8, 6, 2048]⟩ : Shape).Idx → EReal)

/-- The product of a query and a key, at natural coordinates. -/
theorem scores_apply (b : Fin 8) (h : Fin 6) (r s : Fin 2048) : val_main_v9 (F := Ideal) U (ix4 b h r s)
    = ∑ e : Fin 128, at3 U b r (2304 + 128 * h + e) * at3 U b s (3072 + 128 * h + e) := by
  have hb := b.isLt; have hh := h.isLt; have hr := r.isLt; have hs := s.isLt
  rw [val_main_v9_apply]
  refine Finset.sum_congr rfl fun e _ => ?_
  have he := e.isLt
  rw [val_main_v2_apply, val_main_v1_apply, val_main_v0_apply, val_main_v5_apply, val_main_v4_apply, val_main_v3_apply]
  refine congrArg₂ (· * ·) (at3_of U _ ?_ ?_ ?_) (at3_of U _ ?_ ?_ ?_)
  all_goals (dsimp only [idx_main_v0, idx_main_v2, lidx_main_v9, idx_main_v3, idx_main_v5, ridx_main_v9, ix4]; omega)

theorem sqrt_constant : Ideal.sqrt (Ideal.ofBits .f32 0x43000000#32) = ((Real.sqrt 128 : ℝ) : EReal) := by
  have : Ideal.ofBits .f32 0x43000000#32 = ((128 : ℝ) : EReal) := by
    simp [Ideal.ofBits, Ideal.ieee, ← EReal.coe_mul]; norm_num
  rw [this, Ideal.sqrt_coe, if_neg (by norm_num)]

theorem bot_constant : Ideal.ofBits .f32 0xFF800000#32 = ⊥ := by simp [Ideal.ofBits, Ideal.ieee]

/-- The masked logit: the logit with the query's own decay added for a key up to the query, minus infinity after it. -/
theorem masked_apply (hU : ∀ b i j, 2304 ≤ j → j < 3840 → Fin' (at3 U b i j)) (hC : ∀ x, Fin' (C x)) (b : Fin 8) (h : Fin 6) (r s : Fin 2048) :
    val_main_v26 (F := Ideal) U C (ix4 b h r s)
      = if s.val ≤ r.val then ((score U C b h r s + (at3 C b h r).toReal : ℝ) : EReal) else ⊥ := by
  have hS : Fin' (∑ e : Fin 128, at3 U b r (2304 + 128 * h + e) * at3 U b s (3072 + 128 * h + e)) :=
    finite_sum _ _ fun e => finite_mul (hU _ _ _ (by omega) (by omega)) (hU _ _ _ (by omega) (by omega))
  rw [val_main_v26_apply]
  pointwise [val_main_call0_v1, val_main_v25, val_main_v24, val_main_v22, val_main_v23, val_main_v20, val_main_v21, val_main_v19,
    val_main_v18, val_main_v15, val_main_v14, val_main_v13, val_main_v12, val_main_v11, val_main_v10, val_main_cst, val_main_v16, val_main_v17,
    val_main_call0_v2, val_main_call0_v0, val_main_cst_0]
  rw [scores_apply, sqrt_constant, Ideal.div_coe sqrt128_pos.ne', at3_of C (ix3 b h r) (i := b) (j := h) (k := r) rfl rfl rfl,
    at3_of C (ix3 b h s) (i := b) (j := h) (k := s) rfl rfl rfl,
    WordCmp.cmpi_sle_ofNat (by omega) (by omega), WordCmp.select_ofBool]
  by_cases hrs : s.val ≤ r.val
  · rw [if_pos hrs, if_pos (by simpa using hrs)]
    unfold score logitOf
    obtain ⟨x, hx⟩ := hS
    obtain ⟨p, hp⟩ := at3_finite hC b h r
    obtain ⟨q, hq⟩ := at3_finite hC b h s
    rw [hx, hp, hq, ← EReal.coe_mul, ← EReal.coe_add, ← EReal.coe_sub]
    simp only [EReal.toReal_coe]
    congr 1; ring
  · rw [if_neg hrs, if_neg (by simpa using hrs)]
    exact bot_constant

theorem max_apply (b : Fin 8) (h : Fin 6) (r : Fin 2048) : val_main_v27 (F := Ideal) U C (ix3 b h r)
    = Finset.univ.fold max ⊥ fun s : Fin 2048 => val_main_v26 (F := Ideal) U C (ix4 b h r s) := by
  pointwise [val_main_v27, val_main_cst_1]
  rw [bot_constant]

/-- The exponential of a masked logit less its row's maximum. -/
theorem exp_apply (b : Fin 8) (h : Fin 6) (r s : Fin 2048) : val_main_v33 (F := Ideal) U C (ix4 b h r s)
    = Ideal.exp (val_main_v26 (F := Ideal) U C (ix4 b h r s)
      - Finset.univ.fold max ⊥ fun s : Fin 2048 => val_main_v26 (F := Ideal) U C (ix4 b h r s)) := by
  rw [val_main_v33_apply, val_main_v32_apply, val_main_v31_apply, val_main_v30_apply, val_main_v29_apply, val_main_v28_apply, val_main_cst_2_apply]
  have e : idx_main_v30 (idx_main_v31 (ix4 b h r s)) = ix3 b h r := by blk_ext
  rw [e, max_apply]
  show Ideal.exp (_ - max (Ideal.ofBits .f32 0xFF800000#32) _) = _
  rw [bot_constant, max_eq_right bot_le]

/-- A softmax weight. -/
theorem weight_apply (b : Fin 8) (h : Fin 6) (r s : Fin 2048) : val_main_v37 (F := Ideal) U C (ix4 b h r s)
    = Ideal.div (val_main_v33 (F := Ideal) U C (ix4 b h r s)) (∑ s : Fin 2048, val_main_v33 (F := Ideal) U C (ix4 b h r s)) := by
  rw [val_main_v37_apply, val_main_v36_apply, val_main_v35_apply, val_main_v34_apply, val_main_cst_3_apply]
  show Ideal.div _ (Ideal.ofBits .f32 0x00000000#32 + _) = _
  have zero : Ideal.ofBits .f32 0x00000000#32 = 0 := by simp [Ideal.ofBits, Ideal.ieee]
  rw [zero, zero_add]
  refine congrArg (Ideal.div _) (Finset.sum_congr rfl fun k _ => congrArg _ ?_)
  blk_ext

/-- The value a key carries, at natural coordinates. -/
theorem values_apply (b : Fin 8) (s : Fin 2048) (h : Fin 6) (d : Fin 128) : val_main_v8 (F := Ideal) U (ix4 b s h d)
    = at3 U b s (3840 + (128 * h + d)) := by
  have hb := b.isLt; have hh := h.isLt; have hs := s.isLt; have hd := d.isLt
  rw [val_main_v8_apply, val_main_v7_apply, val_main_v6_apply]
  refine at3_of U _ ?_ ?_ ?_
  all_goals (dsimp only [idx_main_v6, idx_main_v8, ix4]; omega)

/-- The reference's result is the attention of the packed projections. -/
theorem result_eq (hU : ∀ b i j, 2304 ≤ j → j < 3840 → Fin' (at3 U b i j)) (hC : ∀ x, Fin' (C x)) :
    val_main_v41 (F := Ideal) U C = attend U C := by
  funext i
  obtain ⟨b, r, l, rfl⟩ : ∃ (b : Fin 8) (r : Fin 2048) (l : Fin 768), i = ix3 b r l := ⟨i 0, i 1, i 2, by blk_ext⟩
  rw [val_main_v41_apply, val_main_v40_apply, val_main_v39_apply]
  have e : idx_main_v39 (idx_main_v40 (ix3 b r l)) = ix4 b ⟨l / 128, by omega⟩ ⟨l % 128, by omega⟩ r := by
    have hb := b.isLt; have hr := r.isLt; have hl := l.isLt
    blk_ext
  rw [e]
  show val_main_v38 (F := Ideal) U C _ = row r.val (score U C b (l / 128) r) fun j => at3 U b j (3840 + l)
  rw [val_main_v38_apply, ← reference_row r.isLt (score U C b (l / 128) r) (at3 C b (l / 128) r).toReal (fun j => at3 U b j (3840 + l))
    (fun s => val_main_v26 (F := Ideal) U C (ix4 b ⟨l / 128, by omega⟩ r s)) fun s => masked_apply U C hU hC _ _ _ _]
  refine Finset.sum_congr rfl fun s _ => ?_
  have el : lidx_main_v38 (ix4 b ⟨l / 128, by omega⟩ ⟨l % 128, by omega⟩ r) s = ix4 b s ⟨l / 128, by omega⟩ ⟨l % 128, by omega⟩ := by blk_ext
  have er : ridx_main_v38 (ix4 b ⟨l / 128, by omega⟩ ⟨l % 128, by omega⟩ r) s = ix4 b ⟨l / 128, by omega⟩ r s := by blk_ext
  rw [el, er, values_apply, weight_apply]
  simp only [exp_apply]
  refine congrArg₂ (· * ·) (congrArg _ ?_) rfl
  show 3840 + (128 * (l.val / 128) + l.val % 128) = 3840 + l.val
  omega

end Cert.Fox.Reference

end
-- ==== Proof.Fox.Finite.lean ====
module

public import proofs.«01_k».proof.Pre_finite_scores
public import proofs.«01_k».proof.Proof.Fox.Attend

@[expose] public section

noncomputable section

namespace Cert.Fox

open Idealize.ShloMosaic Cert.Pre_finite_scores

/-- The shape relations the precondition's operations take. -/
theorem pre_facts : Cert.Pre_finite_scores.Facts where
  slices_S8x2048x5632_S8x2048x1536_0_0_2304 := by decide
  bitsLt_bf16_f32 := by decide
  bcast_S_S8x2048x1536 := by decide
  bcast_S_S8x6x2048 := by decide

theorem inf_constant : Ideal.ofBits .f32 0x7F800000#32 = ⊤ := by simp [Ideal.ofBits, Ideal.ieee]

/-- An extended real whose magnitude compares below infinity is a real number. -/
theorem finite_of_abs_lt (x : EReal) (h : BitVec.ofBool (decide (max x (-x) < Ideal.ofBits .f32 0x7F800000#32)) = 1#1) : Fin' x := by
  rw [inf_constant] at h
  have h : max x (-x) < ⊤ := by
    by_contra hn
    rw [decide_eq_false hn] at h
    exact absurd h (by decide)
  rw [max_lt_iff] at h
  induction x with
  | bot => exact absurd h.2 (by simp)
  | top => exact absurd h.1 (lt_irrefl _)
  | coe r => exact ⟨r, rfl⟩

variable (U : (⟨3, ![8, 2048, 5632]⟩ : Shape).Idx → EReal) (C : (⟨3, ![8, 6, 2048]⟩ : Shape).Idx → EReal)

/-- The precondition makes the query and key columns finite. -/
theorem packed_finite [Facts] (h : (fn (F := Ideal) U C).1 = fun _ => 1#1) (b i j : ℕ) (h1 : 2304 ≤ j) (h2 : j < 3840) : Fin' (at3 U b i j) := by
  unfold at3
  split
  case isFalse => exact ⟨0, rfl⟩
  case isTrue hx =>
    have := congrFun h (ix3 ⟨b, hx.1⟩ ⟨i, hx.2.1⟩ ⟨j - 2304, by omega⟩)
    dsimp only [fn] at this
    pointwise at this
    have e : (⟨2304 + (j - 2304), by omega⟩ : Fin 5632) = ⟨j, hx.2.2⟩ := Fin.ext (by show 2304 + (j - 2304) = j; omega)
    have h := finite_of_abs_lt _ this
    rw [e] at h
    exact h

/-- The precondition makes the decays finite. -/
theorem decays_finite [Facts] (h : (fn (F := Ideal) U C).2 = fun _ => 1#1) (x) : Fin' (C x) := by
  have := congrFun h x
  dsimp only [fn] at this
  pointwise at this
  exact finite_of_abs_lt _ this

end Cert.Fox

end
-- ==== Proof.Fox.Claims.lean ====
module

public import proofs.«01_k».proof.Defs
public import proofs.«01_k».proof.Proof.Gen.Kernel.Frame
public import proofs.«01_k».proof.Proof.Fox.Array
public import proofs.«01_k».proof.Proof.Fox.Reference
public import proofs.«01_k».proof.Proof.Fox.Finite
public import Idealize.ShloMosaic.Lib.Quiescent

@[expose] public section

noncomputable section

namespace Cert.Fox

open Idealize.ShloMosaic Idealize.SL.Sem

/-- The attention call runs, leaves its arguments alone and every counter at zero. -/
theorem frame_kernel : Cert.quiescent_Kernel := fun m ρ _ => Cert.Kernel.Gen.frame m ρ
/-- So does its idealized program, -/
theorem frame_ideal : Cert.quiescent_KernelIdeal := fun m ρ _ => Cert.KernelIdeal.Gen.frame m ρ
/-- also where the scores are finite. -/
theorem frame_ideal_pre : @Cert.quiescent_KernelIdeal_pre_finite_scores Cert.KernelIdeal.Gen.facts pre_facts :=
  fun m ρ _ => Cert.KernelIdeal.Gen.frame m ρ
/-- The reference runs, leaves its arguments alone and every counter at zero, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- also where the scores are finite. -/
theorem frame_reference_pre : @Cert.quiescent_ReferenceIdeal_pre_finite_scores Cert.ReferenceIdeal.Gen.facts pre_facts :=
  fun m ρ _ => frame_reference m ρ trivial

/-- The idealized program names three constants of the kernel: `√128`, the mask, and `1/(√128 log 2)`. -/
theorem preserves : Cert.preserves_Kernel_KernelIdeal :=
  ⟨IdealRules.named_const.statement Cert.KernelIdeal.κ "inv_scale" .f32 0x413504F3#32 _ rfl,
    IdealRules.named_const.statement Cert.KernelIdeal.κ "mask" .f32 0xF149F2CA#32 _ rfl,
    IdealRules.named_const.statement Cert.KernelIdeal.κ "exp2_scale" .f32 0x3E0293EE#32 _ rfl⟩

/-- Where queries, keys and decays are finite, kernel and reference both end with the attention `attend`. -/
theorem algebraic : @Cert.algebraic_KernelIdeal_ReferenceIdeal_pre_finite_scores Cert.KernelIdeal.Gen.facts
    Cert.ReferenceIdeal.Gen.facts pre_facts := by
  intro m ρ m' ρ' hpre hagree
  have hU := fun c => @packed_finite _ _ pre_facts (hpre c).1
  have hC := fun c => @decays_finite _ _ pre_facts (hpre c).2
  refine ⟨fun c => attend (packed m c) (decays m c), ?_, ?_⟩
  · refine (θ_run Cert.KernelIdeal.defs _ _).mono (fun _ h c => ⟨(h c).1.trans ?_, (h c).2⟩)
      (Cert.KernelIdeal.Value.run_blocks (F := Ideal) m ρ)
    exact array_eq m c (hU c) (hC c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, (hagree c).1, (hagree c).2]
    exact Reference.result_eq _ _ (hU c) (hC c)

end Cert.Fox

end
-- ==== Proof.Ffn.Body.lean ====
/- The body of one grid point of the channel mixer, cut into its four stretches: the two conditional initialisations, the
   work on one block of hidden channels, and the conditional normalisation at the end. -/
module

public import proofs.«01_k».proof.Proof.Gen.FfnIdeal.Frame
public import proofs.«01_k».proof.Proof.Gen.FfnIdeal.Skeleton
public import Idealize.ShloMosaic.Lib.Tactic

@[expose] public section

set_option maxRecDepth 65536

noncomputable section

namespace Cert.ChannelMixer

open Idealize.ShloMosaic Idealize.SL.Sem
open Cert.FfnIdeal Cert.FfnIdeal.Gen

variable {F : FTy → Type} [FloatOps F]

/-- At the first block of hidden channels, the rows are rounded into the scratch and the accumulator starts at their multiple. -/
def initOutput (i : grid0.Coords) (arg2 : Memref sig .tc .vmem S512x2048 .f32) (arg12 : Memref sig .tc .vmem S512x2048 .f32) (arg13 : Memref sig .tc .vmem S512x2048 .bf16) (harg13 : arg13.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v113 : Vec F S512x2048 .f32 ← Prog.lift (.load arg2 (Rect.unit (s := S512x2048) ![0, 0] S512x2048.size inb_S512x2048_S512x2048_0_0).toLoadRect (View.loadsAt_vmem h_S512x2048))
    let v116 : Vec F S512x2048 .bf16 ← Prog.lift (.load arg13 (Rect.unit (s := S512x2048) ![0, 0] S512x2048.size inb_S512x2048_S512x2048_0_0).toLoadRect (View.loadsAt_vmem h_S512x2048))
    Prog.lift (.store arg13 (Rect.unit (s := S512x2048) ![0, 0] S512x2048.size inb_S512x2048_S512x2048_0_0) (k0_pay4 v113) Finset.univ (View.stores_vmem h_S512x2048 (harg13.storeExact_slice rfl _ packedbf16_S512x2048_S512x2048_0_0) (fun _ => rfl)) (.inl rfl))
    let v121 : Vec F S512x2048 .f32 ← Prog.lift (.load arg12 (Rect.unit (s := S512x2048) ![0, 0] S512x2048.size inb_S512x2048_S512x2048_0_0).toLoadRect (View.loadsAt_vmem h_S512x2048))
    Prog.lift (.store arg12 (Rect.unit (s := S512x2048) ![0, 0] S512x2048.size inb_S512x2048_S512x2048_0_0) (k0_pay5 v113) Finset.univ (View.stores_vmem_bits_univ h_S512x2048 rfl) (.inl rfl))
    pure ⟨⟩
  else do
    pure ⟨⟩

/-- At the first rows of a sequence, the rows before are zero. -/
def initTail (i : grid0.Coords) (arg16 : Memref sig .tc .vmem S11x8x1024 .f32) :
    Prog (TpuEff nD τ sig (Elt F) Λ₀ .tc) PUnit := do
  if k0_h2 : k0_cond2 i = 1#1 then do
    let v115 : Vec F S1x8x1024 .f32 ← Prog.lift (.load arg16 (Rect.unit (s := S11x8x1024) (k0_off1 i) S1x8x1024.size (k0_off1_inb i k0_h2)).toLoadRect (View.loadsAt_vmem h_S1x8x1024))
    Prog.lift (.store arg16 (Rect.unit (s := S11x8x1024) (k0_off1 i) S1x8x1024.size (k0_off1_inb i k0_h2)) (k0_pay6 (F := F)) Finset.univ (View.stores_vmem_bits_univ h_S1x8x1024 rfl) (.inl rfl))
    pure ⟨⟩
  else do
    pure ⟨⟩

/-- The first half's projections. -/
def headC (i : grid0.Coords) (arg3 : Memref sig .tc .vmem S1x2048x512 .bf16) (arg13 : Memref sig .tc .vmem S512x2048 .bf16) (arg14 : Memref sig .tc .vmem S520x512 .f32) (arg16 : Memref sig .tc .vmem S11x8x1024 .f32) :
    Prog (TpuEff nD τ sig (Elt F) Λ₀ .tc) (Σ' (arg1 : BitVec 32) (v16 : Vec F S512x2048 .bf16), Vec F S8x512 .f32) := do
  let arg1 : BitVec 32 := BitVec.ofNat 32 (i 1).val
  let v16 : Vec F S512x2048 .bf16 ← Prog.lift (.load arg13 (Rect.unit (s := S512x2048) ![0, 0] S512x2048.size inb_S512x2048_S512x2048_0_0).toLoadRect (View.loadsAt_vmem h_S512x2048))
  let v18 : Vec F S1x8x512 .f32 ← Prog.lift (.load arg16 (Rect.unit (s := S11x8x1024) (k0_off2 i) S1x8x512.size (k0_off2_inb i)).toLoadRect (View.loadsAt_vmem h_S1x8x512))
  let v20 : Vec F S8x512 .f32 ← Prog.lift (.load arg14 (Rect.unit (s := S520x512) ![0, 0] S8x512.size inb_S520x512_S8x512_0_0).toLoadRect (View.loadsAt_vmem h_S8x512))
  Prog.lift (.store arg14 (Rect.unit (s := S520x512) ![0, 0] S8x512.size inb_S520x512_S8x512_0_0) (k0_pay7 v18) Finset.univ (View.stores_vmem_bits_univ h_S8x512 rfl) (.inl rfl))
  let v23 : Vec F S1x2048x512 .bf16 ← Prog.lift (.load arg3 (Rect.unit (s := S1x2048x512) ![0, 0, 0] S1x2048x512.size inb_S1x2048x512_S1x2048x512_0_0_0).toLoadRect (View.loadsAt_vmem h_S1x2048x512))
  let v26 : Vec F S512x512 .f32 ← Prog.lift (.load arg14 (Rect.unit (s := S520x512) ![8, 0] S512x512.size inb_S520x512_S512x512_8_0).toLoadRect (View.loadsAt_vmem h_S512x512))
  Prog.lift (.store arg14 (Rect.unit (s := S520x512) ![8, 0] S512x512.size inb_S520x512_S512x512_8_0) (k0_pay8 v16 v23) Finset.univ (View.stores_vmem_bits_univ h_S512x512 rfl) (.inl rfl))
  let v29 : Vec F S8x512 .f32 ← Prog.lift (.load arg14 (Rect.unit (s := S520x512) ![512, 0] S8x512.size inb_S520x512_S8x512_512_0).toLoadRect (View.loadsAt_vmem h_S8x512))
  pure ⟨arg1, v16, v29⟩

/-- One block of hidden channels: projected, convolved, gated and added to the accumulator. -/
def addBlock (i : grid0.Coords) (arg2 : Memref sig .tc .vmem S512x2048 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x1024 .f32) (harg16 : arg16.IsWhole) :
    Prog (TpuEff nD τ sig (Elt F) Λ₀ .tc) PUnit := do
  let ⟨arg1, v16, v29⟩ : Σ' (arg1 : BitVec 32) (v16 : Vec F S512x2048 .bf16), Vec F S8x512 .f32 ← headC i arg3 arg13 arg14 arg16
  let v59 : FVec F S512x512 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v16 v29
  let ⟨v71, v92⟩ : Σ' (v71 : FVec F S512x512 .f32), FVec F S512x512 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v59
  let v93 : Vec F S512x2048 .f32 ← Prog.lift (.load arg12 (Rect.unit (s := S512x2048) ![0, 0] S512x2048.size inb_S512x2048_S512x2048_0_0).toLoadRect (View.loadsAt_vmem h_S512x2048))
  let v105 : Vec F S1x512x2048 .bf16 ← Prog.lift (.load arg9 (Rect.unit (s := S1x512x2048) ![0, 0, 0] S1x512x2048.size inb_S1x512x2048_S1x512x2048_0_0_0).toLoadRect (View.loadsAt_vmem h_S1x512x2048))
  let v109 : Vec F S512x2048 .f32 ← Prog.lift (.load arg12 (Rect.unit (s := S512x2048) ![0, 0] S512x2048.size inb_S512x2048_S512x2048_0_0).toLoadRect (View.loadsAt_vmem h_S512x2048))
  Prog.lift (.store arg12 (Rect.unit (s := S512x2048) ![0, 0] S512x2048.size inb_S512x2048_S512x2048_0_0) (k0_pay1 v71 v92 v93 v105) Finset.univ (View.stores_vmem_bits_univ h_S512x2048 rfl) (.inl rfl))

/-- After the last block, the accumulator is normalised. -/
def normalise (i : grid0.Coords) (arg10 : Memref sig .tc .vmem S1x1x2048 .f32) (arg11 : Memref sig .tc .vmem S1x1x2048 .f32) (arg12 : Memref sig .tc .vmem S512x2048 .f32) :
    Prog (TpuEff nD τ sig (Elt F) Λ₀ .tc) PUnit := do
  let arg1 : BitVec 32 := BitVec.ofNat 32 (i 1).val
  let v110 : BitVec 1 := Scalar.cmpi .eq arg1 10#32
  let v111 : BitVec 32 := Scalar.extui v110
  let v112 : BitVec 1 := Scalar.cmpi .ne v111 0#32
  if k0_h3 : v112 = 1#1 then do
    let v113 : Vec F S512x2048 .f32 ← Prog.lift (.load arg12 (Rect.unit (s := S512x2048) ![0, 0] S512x2048.size inb_S512x2048_S512x2048_0_0).toLoadRect (View.loadsAt_vmem h_S512x2048))
    let v115 : Vec F S1x1x2048 .f32 ← Prog.lift (.load arg10 (Rect.unit (s := S1x1x2048) ![0, 0, 0] S1x1x2048.size inb_S1x1x2048_S1x1x2048_0_0_0).toLoadRect (View.loadsAt_vmem h_S1x1x2048))
    let v117 : Vec F S1x1x2048 .f32 ← Prog.lift (.load arg11 (Rect.unit (s := S1x1x2048) ![0, 0, 0] S1x1x2048.size inb_S1x1x2048_S1x1x2048_0_0_0).toLoadRect (View.loadsAt_vmem h_S1x1x2048))
    let v139 : Vec F S512x2048 .f32 ← Prog.lift (.load arg12 (Rect.unit (s := S512x2048) ![0, 0] S512x2048.size inb_S512x2048_S512x2048_0_0).toLoadRect (View.loadsAt_vmem h_S512x2048))
    Prog.lift (.store arg12 (Rect.unit (s := S512x2048) ![0, 0] S512x2048.size inb_S512x2048_S512x2048_0_0) (k0_pay2 v113 v115 v117) Finset.univ (View.stores_vmem_bits_univ h_S512x2048 rfl) (.inl rfl))
    pure ⟨⟩
  else do
    pure ⟨⟩

/-- What follows a conditional may be moved into its branches. -/
theorem bind_dite {α β : Type} (c : Prop) [Decidable c] (t : c → Prog (TpuEff nD τ sig (Elt F) Λ₀ .tc) α)
    (e : ¬ c → Prog (TpuEff nD τ sig (Elt F) Λ₀ .tc) α) (k : α → Prog (TpuEff nD τ sig (Elt F) Λ₀ .tc) β) :
    (dite c t e) >>= k = dite c (fun h => t h >>= k) (fun h => e h >>= k) := by
  by_cases h : c
  · simp only [dif_pos h]
  · simp only [dif_neg h]

set_option maxHeartbeats 1000000 in
/-- The body is the four stretches in order. -/
theorem body_eq (i : grid0.Coords) (arg2 : Memref sig .tc .vmem S512x2048 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x1024 .f32) (harg16 : arg16.IsWhole) :
    cc0_ffn_ln (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (do
      initOutput i arg2 arg12 arg13 harg13
      initTail i arg16
      addBlock i arg2 harg2 arg3 harg3 arg4 harg4 arg5 harg5 arg6 harg6 arg7 harg7 arg8 harg8 arg9 harg9 arg10 harg10 arg11 harg11 arg12 harg12 arg13 harg13 arg14 harg14 arg15 harg15 arg16 harg16
      normalise i arg10 arg11 arg12) := by
  simp only [cc0_ffn_ln_eq_skeleton]
  unfold cc0_ffn_ln_skel addBlock normalise
  simp only [k0_part1_eq_skeleton]
  unfold k0_part1_skel initOutput initTail headC
  simp only [bind_dite, bind_assoc, pure_bind]

end Cert.ChannelMixer

end
-- ==== Proof.Ffn.Runs.lean ====
/- What each stretch of the channel mixer's body leaves in the buffers that it is given. -/
module

public import proofs.«01_k».proof.Proof.Ffn.Body
public import Idealize.ShloMosaic.Lib.Claim
public import Idealize.ShloMosaic.Lib.VecWindow
public import Idealize.ShloMosaic.Lib.ValueLayout
public import Idealize.ShloMosaic.Lib.Pipeline.ReadBack
public import Idealize.ShloMosaic.Lib.WritesUnit
public import Idealize.ShloMosaic.Lib.Pointwise

@[expose] public section

set_option maxRecDepth 65536

noncomputable section

namespace Cert.ChannelMixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen

variable {F : FTy → Type} [FloatOps F]

local notation "𝕄" => MT nD τ sig Unit (Elt F) ℕ (UR sig nD τ) ℕ

/-- The first conditional is taken at the first block of hidden channels. -/
theorem first_iff (i : grid0.Coords) :
    Scalar.cmpi .ne (Scalar.extui (Scalar.cmpi .eq (BitVec.ofNat 32 (i 1).val) 0#32) : BitVec 32) 0#32 = 1#1 ↔ (i 1).val = 0 :=
  (by decide : ∀ j : Fin 11, Scalar.cmpi .ne (Scalar.extui (Scalar.cmpi .eq (BitVec.ofNat 32 j.val) 0#32) : BitVec 32) 0#32 = 1#1 ↔ j.val = 0) (i 1)

/-- Which points start a sequence. -/
theorem start_iff (i : grid0.Coords) : (k0_cond2 i = 1#1) = ((i 0).val % 4 = 0) :=
  (by decide +kernel : ∀ a : Fin 32, ∀ b : Fin 11, (k0_cond2 (ix2 a b : grid0.Coords) = 1#1) = (a.val % 4 = 0)) (i 0) (i 1) ▸
    congrArg (fun z : grid0.Coords => k0_cond2 z = 1#1) (eq_ix2 (n0 := 32) (n1 := 11) i)

/-- The last conditional is taken after the last block of hidden channels. -/
theorem last_iff (i : grid0.Coords) :
    Scalar.cmpi .ne (Scalar.extui (Scalar.cmpi .eq (BitVec.ofNat 32 (i 1).val) 10#32) : BitVec 32) 0#32 = 1#1 ↔ (i 1).val = 10 :=
  (by decide : ∀ j : Fin 11, Scalar.cmpi .ne (Scalar.extui (Scalar.cmpi .eq (BitVec.ofNat 32 j.val) 10#32) : BitVec 32) 0#32 = 1#1 ↔ j.val = 10) (i 1)

/-- The eight rows before a block of rows, over the block: the buffer that the convolution reads. -/
def padded (t : Vec F S8x512 .f32) (P : Vec F S512x512 .f32) : Vec F S520x512 .f32 := fun y =>
  if h : (y 0).val < 8 then t (ix2 ⟨(y 0).val, h⟩ (y 1))
  else P (ix2 ⟨(y 0).val - 8, by have h : (y 0).val < 520 := (y 0).isLt; omega⟩ (y 1))

/-- The rows before, of the first half of block `j`'s hidden channels, -/
def tailA (T : Vec F S11x8x1024 .f32) (i : grid0.Coords) : Vec F S8x512 .f32 := fun y =>
  T (ix3 (i 1) (y 0) ⟨(y 1).val, by have h : (y 1).val < 512 := (y 1).isLt; omega⟩)
/-- and of the second half. -/
def tailB (T : Vec F S11x8x1024 .f32) (i : grid0.Coords) : Vec F S8x512 .f32 := fun y =>
  T (ix3 (i 1) (y 0) ⟨512 + (y 1).val, by have h : (y 1).val < 512 := (y 1).isLt; omega⟩)

/-- The rows before, block `j`'s set to zero. -/
def zeroTail (T : Vec F S11x8x1024 .f32) (i : grid0.Coords) : Vec F S11x8x1024 .f32 := fun y =>
  if (y 0).val = (i 1).val then Scalar.ofBits .f32 0x00000000#32 else T y

/-- The rows before, block `j`'s set to the last eight of the rows at hand. -/
def nextTail (T : Vec F S11x8x1024 .f32) (i : grid0.Coords) (A B : Vec F S512x512 .f32) : Vec F S11x8x1024 .f32 := fun y =>
  if (y 0).val = (i 1).val then
    if h : (y 2).val < 512 then A (ix2 ⟨504 + (y 1).val, by have h : (y 1).val < 8 := (y 1).isLt; omega⟩ ⟨(y 2).val, h⟩)
    else B (ix2 ⟨504 + (y 1).val, by have h : (y 1).val < 8 := (y 1).isLt; omega⟩
      ⟨(y 2).val - 512, by have h : (y 2).val < 1024 := (y 2).isLt; omega⟩)
  else T y

/-- The bias and the three taps applied to the rows of a padded buffer. -/
def conv (cb : Vec F S1x1x512 .f32) (cw : Vec F S1x3x512 .f32) (H : Vec F S520x512 .f32) : FVec F S512x512 .f32 :=
  k0_pay15 cb (View.ld (Val := Elt F) (e' := .f32) cw (Rect.unit (s := S1x3x512) ![0, 0, 0] S1x1x512.size inb_S1x3x512_S1x1x512_0_0_0))
    (View.ld (Val := Elt F) (e' := .f32) H (Rect.unit (s := S520x512) ![6, 0] S512x512.size inb_S520x512_S512x512_6_0))
    (View.ld (Val := Elt F) (e' := .f32) cw (Rect.unit (s := S1x3x512) ![0, 1, 0] S1x1x512.size inb_S1x3x512_S1x1x512_0_1_0))
    (View.ld (Val := Elt F) (e' := .f32) H (Rect.unit (s := S520x512) ![7, 0] S512x512.size inb_S520x512_S512x512_7_0))
    (View.ld (Val := Elt F) (e' := .f32) cw (Rect.unit (s := S1x3x512) ![0, 2, 0] S1x1x512.size inb_S1x3x512_S1x1x512_0_2_0))
    (View.ld (Val := Elt F) (e' := .f32) H (Rect.unit (s := S520x512) ![8, 0] S512x512.size inb_S520x512_S512x512_8_0))

/-- The accumulator after one block of hidden channels. -/
def added (X : Vec F S512x2048 .bf16) (ta tb : Vec F S8x512 .f32) (x3 x4 : Vec F S1x2048x512 .bf16) (x5 x6 : Vec F S1x3x512 .f32)
    (x7 x8 : Vec F S1x1x512 .f32) (x9 : Vec F S1x512x2048 .bf16) (Y : Vec F S512x2048 .f32) : Vec F S512x2048 .f32 :=
  k0_pay1 (conv x7 x5 (padded ta (k0_pay8 X x3))) (conv x8 x6 (padded tb (k0_pay8 X x4))) Y x9

/-- Two stores, of the eight rows before and of the block of rows, leave the padded buffer. -/
theorem canon_padded (t : Vec F S8x512 .f32) (P : Vec F S512x512 .f32) :
    View.canon (Val := Elt F) (s := S520x512) (e := .f32) [⟨Rect.unit ![8, 0] S512x512.size inb_S520x512_S512x512_8_0, P⟩,
      ⟨Rect.unit ![0, 0] S8x512.size inb_S520x512_S8x512_0_0, t⟩] = padded t P := by
  funext y
  have h0 : (y 0).val < 520 := (y 0).isLt
  refine View.canon_apply_of_pieces (padded t P) _ ?_ y ?_
  · intro p hp x
    rcases List.mem_cons.mp hp with rfl | hp
    · have hx : ¬ 8 + 1 * (x 0).val < 8 := by omega
      refine Eq.symm ((dif_neg hx).trans (congrArg P (funext fun a => Fin.ext ?_)))
      fin_cases a
      · show 8 + 1 * (x 0).val - 8 = (x 0).val; omega
      · show 0 + 1 * (x 1).val = (x 1).val; omega
    · obtain rfl := List.mem_singleton.mp hp
      have hb : (x 0).val < 8 := (x 0).isLt
      have hx : 0 + 1 * (x 0).val < 8 := by omega
      refine Eq.symm ((dif_pos hx).trans (congrArg t (funext fun a => Fin.ext ?_)))
      fin_cases a
      · show 0 + 1 * (x 0).val = (x 0).val; omega
      · show 0 + 1 * (x 1).val = (x 1).val; omega
  · have h1 : (y 1).val < 512 := (y 1).isLt
    by_cases h : (y 0).val < 8
    · refine ⟨⟨Rect.unit ![0, 0] S8x512.size inb_S520x512_S8x512_0_0, t⟩, List.mem_cons_of_mem _ (List.mem_singleton_self _), ?_⟩
      refine (Rect.mem_set_unit (inb := inb_S520x512_S8x512_0_0)).mpr fun a => ?_
      fin_cases a
      · exact ⟨Nat.zero_le _, by show (y 0).val < 0 + 8; omega⟩
      · exact ⟨Nat.zero_le _, by show (y 1).val < 0 + 512; omega⟩
    · refine ⟨_, List.mem_cons_self .., (Rect.mem_set_unit (inb := inb_S520x512_S512x512_8_0)).mpr fun a => ?_⟩
      fin_cases a
      · exact ⟨by show 8 ≤ (y 0).val; omega, by show (y 0).val < 8 + 512; omega⟩
      · exact ⟨Nat.zero_le _, by show (y 1).val < 0 + 512; omega⟩

/-- A load after the two stores reads the padded buffer. -/
theorem readCov_padded (m : Memref sig .tc .vmem S520x512 .f32) (t : Vec F S8x512 .f32) (P : Vec F S512x512 .f32) (r : Rect S520x512) :
    m.view.readCov (Val := Elt F) [⟨Rect.unit ![8, 0] ![512, 512] inb_S520x512_S512x512_8_0, P⟩,
      ⟨Rect.unit ![0, 0] ![8, 512] inb_S520x512_S8x512_0_0, t⟩] r.toLoadRect = View.ld (Val := Elt F) (padded t P) r :=
  (View.readCov_eq_canon' _ _ _).trans (funext fun j => congrFun (canon_padded t P) _)

/-- The two halves are projected alike, -/
theorem pay11_eq : k0_pay11 (F := F) = k0_pay8 := rfl
/-- and convolved alike. -/
theorem pay14_eq (a : Vec F S1x1x512 .f32) (b : Vec F S1x1x512 .f32) (c : Vec F S512x512 .f32) (d : Vec F S1x1x512 .f32)
    (e : Vec F S512x512 .f32) (f : Vec F S1x1x512 .f32) (g : Vec F S512x512 .f32) :
    k0_pay14 (k0_pay13 a b c) d e f g = k0_pay15 a b c d e f g := rfl

/-- A store of the whole leaves what is stored. -/
theorem stored_whole {e : EltTy} (m : Memref sig .tc .vmem S512x2048 e) (f : m.view.ty.Contents (Elt F)) (w : S512x2048.Idx → Elt F e) :
    View.read (Elt F) m.view (m.view.writes (Elt F) f [⟨Rect.unit ![0, 0] ![512, 2048] inb_S512x2048_S512x2048_0_0, w⟩]) = w :=
  View.read_writes_full m.view f inb_S512x2048_S512x2048_0_0 w []

/-- Eight rows without their unit axis, -/
theorem drop_unit (x : S1x8x512.Idx → F .f32) (h : S1x8x512.ShapeCasts S8x512) (y : S8x512.Idx) :
    shapeCast S8x512 x h y = x (ix3 (0 : Fin 1) (y 0 : Fin 8) (y 1 : Fin 512)) :=
  shapeCast_apply x h _ _ (by
    rw [Shape.rowMajor_val_three, Shape.rowMajor_val_two]
    show (0 * 8 + (y 0).val) * 512 + (y 1).val = (y 0).val * 512 + (y 1).val
    rw [Nat.zero_mul, Nat.zero_add])
/-- and with it. -/
theorem add_unit (x : S8x512.Idx → F .f32) (h : S8x512.ShapeCasts S1x8x512) (y : S1x8x512.Idx) :
    shapeCast S1x8x512 x h y = x (ix2 (y 1 : Fin 8) (y 2 : Fin 512)) :=
  shapeCast_apply x h _ _ (by
    have h0 : (y 0).val < 1 := (y 0).isLt
    rw [Shape.rowMajor_val_three, Shape.rowMajor_val_two]
    show (y 1).val * 512 + (y 2).val = ((y 0).val * 8 + (y 1).val) * 512 + (y 2).val
    omega)

theorem pay7_apply (v : Vec F S1x8x512 .f32) (y : S8x512.Idx) : k0_pay7 v y = v (ix3 (0 : Fin 1) (y 0 : Fin 8) (y 1 : Fin 512)) :=
  (congrFun (shapeCast_self (shapeCast S8x512 v shapeCasts_S1x8x512_S8x512) shapeCasts_S8x512_S8x512) y).trans (drop_unit v _ y)
theorem pay9_apply (v : Vec F S8x512 .f32) (y : S1x8x512.Idx) : k0_pay9 v y = v (ix2 (y 1 : Fin 8) (y 2 : Fin 512)) :=
  add_unit v _ y

/-- The load of block `j`'s rows before, first half, -/
theorem ld_tailA (T : Vec F S11x8x1024 .f32) (i : grid0.Coords) :
    k0_pay7 (View.ld (Val := Elt F) (e' := .f32) T (Rect.unit (s := S11x8x1024) (k0_off2 i) S1x8x512.size (k0_off2_inb i))) = tailA T i := by
  funext y
  refine (pay7_apply _ y).trans (congrArg T (funext fun a => Fin.ext ?_))
  have ho := congrFun (k0_off2_eq i) a
  show k0_off2 i a + 1 * _ = _
  rw [ho]
  fin_cases a
  · show (i 1).val + 1 * 0 = (i 1).val; omega
  · show 0 + 1 * (y 0).val = (y 0).val; omega
  · show 0 + 1 * (y 1).val = (y 1).val; omega
/-- and second half. -/
theorem ld_tailB (T : Vec F S11x8x1024 .f32) (i : grid0.Coords) :
    k0_pay10 (View.ld (Val := Elt F) (e' := .f32) T (Rect.unit (s := S11x8x1024) (k0_off3 i) S1x8x512.size (k0_off3_inb i))) = tailB T i := by
  funext y
  refine (pay7_apply _ y).trans (congrArg T (funext fun a => Fin.ext ?_))
  have ho := congrFun (k0_off3_eq i) a
  show k0_off3 i a + 1 * _ = _
  rw [ho]
  fin_cases a
  · show (i 1).val + 1 * 0 = (i 1).val; omega
  · show 0 + 1 * (y 0).val = (y 0).val; omega
  · show 512 + 1 * (y 1).val = 512 + (y 1).val; omega

/-- The last eight rows of a padded buffer. -/
theorem last_rows (t : Vec F S8x512 .f32) (P : Vec F S512x512 .f32) (x : S1x8x512.Idx) :
    k0_pay9 (View.ld (Val := Elt F) (e' := .f32) (padded t P) (Rect.unit (s := S520x512) ![512, 0] S8x512.size inb_S520x512_S8x512_512_0)) x
      = P (ix2 ⟨504 + (x 1).val, by have h : (x 1).val < 8 := (x 1).isLt; omega⟩ (x 2)) := by
  have hx : ¬ 512 + 1 * (x 1).val < 8 := by omega
  refine (pay9_apply _ x).trans ((dif_neg hx).trans (congrArg P (funext fun a => Fin.ext ?_)))
  fin_cases a
  · show 512 + 1 * (x 1).val - 8 = 504 + (x 1).val; omega
  · show 0 + 1 * (x 2).val = (x 2).val; omega

/-- The two stores of the last rows leave the next rows before. -/
theorem stored_tail (m : Memref sig .tc .vmem S11x8x1024 .f32) (hm : m.IsWhole) (T : Vec F S11x8x1024 .f32) (i : grid0.Coords)
    (ta tb : Vec F S8x512 .f32) (A B : Vec F S512x512 .f32) :
    View.read (Elt F) m.view (m.view.writes (Elt F) (hm.unread T)
      [⟨Rect.unit (k0_off3 i) S1x8x512.size (k0_off3_inb i),
          k0_pay12 (View.ld (Val := Elt F) (e' := .f32) (padded tb B) (Rect.unit (s := S520x512) ![512, 0] S8x512.size inb_S520x512_S8x512_512_0))⟩,
        ⟨Rect.unit (k0_off2 i) S1x8x512.size (k0_off2_inb i),
          k0_pay9 (View.ld (Val := Elt F) (e' := .f32) (padded ta A) (Rect.unit (s := S520x512) ![512, 0] S8x512.size inb_S520x512_S8x512_512_0))⟩])
      = nextTail T i A B := by
  funext y
  have h0 : (y 0).val < 11 := (y 0).isLt
  have h1 : (y 1).val < 8 := (y 1).isLt
  have h2 : (y 2).val < 1024 := (y 2).isLt
  unfold nextTail
  by_cases hj : (y 0).val = (i 1).val
  · rw [if_pos hj]
    by_cases hh : (y 2).val < 512
    · rw [dif_pos hh, View.read_writes_cons_unit_of_not_mem _ _ (s := S11x8x1024) (size := ![1, 8, 512]) _ _ _ y (k0_off3_eq i) 2 (.inl (by show (y 2).val < 512; omega)),
        View.read_writes_cons_unit_of_mem _ _ (s := S11x8x1024) (size := ![1, 8, 512]) _ _ _ y (ix3 (0 : Fin 1) (y 1 : Fin 8) (⟨(y 2).val, hh⟩ : Fin 512)) (k0_off2_eq i) ?_]
      · exact last_rows _ _ _
      · intro a
        fin_cases a
        · show (y 0).val = (i 1).val + 0; omega
        · show (y 1).val = 0 + (y 1).val; omega
        · show (y 2).val = 0 + (y 2).val; omega
    · rw [dif_neg hh, View.read_writes_cons_unit_of_mem _ _ (s := S11x8x1024) (size := ![1, 8, 512]) _ _ _ y (ix3 (0 : Fin 1) (y 1 : Fin 8) (⟨(y 2).val - 512, by omega⟩ : Fin 512)) (k0_off3_eq i) ?_]
      · exact last_rows _ _ _
      · intro a
        fin_cases a
        · show (y 0).val = (i 1).val + 0; omega
        · show (y 1).val = 0 + (y 1).val; omega
        · show (y 2).val = 512 + ((y 2).val - 512); omega
  · have hb : (y 0).val < (i 1).val ∨ (i 1).val + 1 ≤ (y 0).val := by omega
    rw [if_neg hj, View.read_writes_cons_unit_of_not_mem _ _ (s := S11x8x1024) (size := ![1, 8, 512]) _ _ _ y (k0_off3_eq i) 0 hb,
      View.read_writes_cons_unit_of_not_mem _ _ (s := S11x8x1024) (size := ![1, 8, 512]) _ _ _ y (k0_off2_eq i) 0 hb, View.writes_nil, hm.read_unread]

/-- The store of zeros leaves block `j`'s rows before at zero. -/
theorem stored_zero (m : Memref sig .tc .vmem S11x8x1024 .f32) (hm : m.IsWhole) (T : Vec F S11x8x1024 .f32) (i : grid0.Coords)
    (hi : k0_cond2 i = 1#1) :
    View.read (Elt F) m.view (m.view.writes (Elt F) (hm.unread T) [⟨Rect.unit (k0_off1 i) S1x8x1024.size (k0_off1_inb i hi), k0_pay6⟩])
      = zeroTail T i := by
  funext y
  have h0 : (y 0).val < 11 := (y 0).isLt
  unfold zeroTail
  by_cases hj : (y 0).val = (i 1).val
  · rw [if_pos hj, View.read_writes_cons_unit_of_mem _ _ (s := S11x8x1024) (size := ![1, 8, 1024]) _ _ _ y (ix3 (0 : Fin 1) (y 1 : Fin 8) (y 2 : Fin 1024)) (k0_off1_eq i) ?_]
    · rfl
    · intro a
      fin_cases a
      · show (y 0).val = (i 1).val + 0; omega
      · show (y 1).val = 0 + (y 1).val; omega
      · show (y 2).val = 0 + (y 2).val; omega
  · have hb : (y 0).val < (i 1).val ∨ (i 1).val + 1 ≤ (y 0).val := by omega
    rw [if_neg hj, View.read_writes_cons_unit_of_not_mem _ _ (s := S11x8x1024) (size := ![1, 8, 1024]) _ _ _ y (k0_off1_eq i) 0 hb, View.writes_nil, hm.read_unread]

/-- The first stretch: at the first block, the accumulator starts at a multiple of the rows and the rows are rounded. -/
theorem initOutput_spec (c : Dev nD) (i : grid0.Coords) (arg2 : Memref sig .tc .vmem S512x2048 .f32) (harg2 : arg2.IsWhole)
    (arg12 : Memref sig .tc .vmem S512x2048 .f32) (harg12 : arg12.IsWhole) (arg13 : Memref sig .tc .vmem S512x2048 .bf16) (harg13 : arg13.IsWhole)
    (x : Vec F S512x2048 .f32) (Y : Vec F S512x2048 .f32) (X : Vec F S512x2048 .bf16) (E : Set ℕ) (K : PUnit → sProp 𝕄) :
    iprop(owns (c : Thread nD τ) arg2 fullShare x ∗ owns (c : Thread nD τ) arg12 fullShare Y ∗ owns (c : Thread nD τ) arg13 fullShare X
      ∗ (iprop(owns (c : Thread nD τ) arg2 fullShare x ∗ owns (c : Thread nD τ) arg12 fullShare (if (i 1).val = 0 then k0_pay5 x else Y)
          ∗ owns (c : Thread nD τ) arg13 fullShare (if (i 1).val = 0 then k0_pay4 x else X)) -∗ K ⟨⟩))
      ⊢ wp frame (wpE (defs₀ (F := F)) Variants.none c none) E (initOutput i arg2 arg12 arg13 harg13) K := by
  unfold owns initOutput
  iintro ⟨⟨%f0, %hf0, H0⟩, ⟨%f1, %hf1, H1⟩, ⟨%f2, %hf2, H2⟩, Hk⟩
  obtain rfl := harg2.eq_unread hf0; obtain rfl := harg12.eq_unread hf1; obtain rfl := harg13.eq_unread hf2
  by_cases h : (i 1).val = 0
  · have hc := (first_iff i).mpr h
    simp only [if_pos h]
    sl_exec (disch := sl_exact hc)
    sl_step
    iapply Hk
    isplitl [H0]
    · iexists _; isplitr; · ipureintro; exact harg2.read_unread _
      iexact H0
    isplitl [H1]
    · iexists _; isplitr; swap; · iexact H1
      ipureintro
      have e2 : View.readAt (Elt F) arg2.view (Rect.unit ![0, 0] S512x2048.size inb_S512x2048_S512x2048_0_0).toLoadRect (harg2.unread x) = x :=
        (View.readAt_full _ _ _).trans (harg2.read_unread _)
      simp only [View.readAt_eq_ld] at e2 ⊢
      simp only [e2]
      exact stored_whole _ _ _
    iexists _; isplitr; swap; · iexact H2
    ipureintro
    have e2 : View.readAt (Elt F) arg2.view (Rect.unit ![0, 0] S512x2048.size inb_S512x2048_S512x2048_0_0).toLoadRect (harg2.unread x) = x :=
      (View.readAt_full _ _ _).trans (harg2.read_unread _)
    simp only [View.readAt_eq_ld] at e2 ⊢
    simp only [e2]
    exact stored_whole _ _ _
  · have hc := (first_iff i).not.mpr h
    simp only [if_neg h]
    sl_exec (disch := sl_exact hc)
    sl_step
    iapply Hk
    isplitl [H0]
    · iexists _; isplitr; · ipureintro; exact harg2.read_unread _
      iexact H0
    isplitl [H1]
    · iexists _; isplitr; · ipureintro; exact harg12.read_unread _
      iexact H1
    iexists _; isplitr; · ipureintro; exact harg13.read_unread _
    iexact H2

/-- The second stretch: at the start of a sequence, the rows before are set to zero. -/
theorem initTail_spec (c : Dev nD) (i : grid0.Coords) (arg16 : Memref sig .tc .vmem S11x8x1024 .f32) (harg16 : arg16.IsWhole)
    (T : Vec F S11x8x1024 .f32) (E : Set ℕ) (K : PUnit → sProp 𝕄) :
    iprop(owns (c : Thread nD τ) arg16 fullShare T
      ∗ (iprop(owns (c : Thread nD τ) arg16 fullShare (if (i 0).val % 4 = 0 then zeroTail T i else T)) -∗ K ⟨⟩))
      ⊢ wp frame (wpE (defs₀ (F := F)) Variants.none c none) E (initTail i arg16) K := by
  unfold owns initTail
  iintro ⟨⟨%f0, %hf0, H0⟩, Hk⟩
  obtain rfl := harg16.eq_unread hf0
  by_cases h : (i 0).val % 4 = 0
  · have hc : k0_cond2 i = 1#1 := (start_iff i).mpr h
    simp only [if_pos h]
    sl_exec (disch := sl_exact hc)
    sl_step
    iapply Hk
    iexists _; isplitr; swap; · iexact H0
    ipureintro
    exact stored_zero _ _ _ _ hc
  · have hc : ¬ k0_cond2 i = 1#1 := fun e => h ((start_iff i).mp e)
    simp only [if_neg h]
    sl_exec (disch := sl_exact hc)
    sl_step
    iapply Hk
    iexists _; isplitr; · ipureintro; exact harg16.read_unread _
    iexact H0

/-- The last stretch: after the last block, the accumulator is normalised. -/
theorem normalise_spec (c : Dev nD) (i : grid0.Coords) (arg10 : Memref sig .tc .vmem S1x1x2048 .f32) (harg10 : arg10.IsWhole)
    (arg11 : Memref sig .tc .vmem S1x1x2048 .f32) (harg11 : arg11.IsWhole) (arg12 : Memref sig .tc .vmem S512x2048 .f32) (harg12 : arg12.IsWhole)
    (x10 x11 : Vec F S1x1x2048 .f32) (Y : Vec F S512x2048 .f32) (E : Set ℕ) (K : PUnit → sProp 𝕄) :
    iprop(owns (c : Thread nD τ) arg10 fullShare x10 ∗ owns (c : Thread nD τ) arg11 fullShare x11 ∗ owns (c : Thread nD τ) arg12 fullShare Y
      ∗ (iprop(owns (c : Thread nD τ) arg10 fullShare x10 ∗ owns (c : Thread nD τ) arg11 fullShare x11
          ∗ owns (c : Thread nD τ) arg12 fullShare (if (i 1).val = 10 then k0_pay2 Y x10 x11 else Y)) -∗ K ⟨⟩))
      ⊢ wp frame (wpE (defs₀ (F := F)) Variants.none c none) E (normalise i arg10 arg11 arg12) K := by
  unfold owns normalise
  iintro ⟨⟨%f0, %hf0, H0⟩, ⟨%f1, %hf1, H1⟩, ⟨%f2, %hf2, H2⟩, Hk⟩
  obtain rfl := harg10.eq_unread hf0; obtain rfl := harg11.eq_unread hf1; obtain rfl := harg12.eq_unread hf2
  by_cases h : (i 1).val = 10
  · have hc := (last_iff i).mpr h
    simp only [if_pos h]
    sl_exec (disch := sl_exact hc)
    sl_step
    iapply Hk
    isplitl [H0]
    · iexists _; isplitr; · ipureintro; exact harg10.read_unread _
      iexact H0
    isplitl [H1]
    · iexists _; isplitr; · ipureintro; exact harg11.read_unread _
      iexact H1
    iexists _; isplitr; swap; · iexact H2
    ipureintro
    have eY : View.readAt (Elt F) arg12.view (Rect.unit ![0, 0] S512x2048.size inb_S512x2048_S512x2048_0_0).toLoadRect (harg12.unread Y) = Y :=
      (View.readAt_full _ _ _).trans (harg12.read_unread _)
    have e10 : View.readAt (Elt F) arg10.view (Rect.unit ![0, 0, 0] S1x1x2048.size inb_S1x1x2048_S1x1x2048_0_0_0).toLoadRect (harg10.unread x10) = x10 :=
      (View.readAt_full _ _ _).trans (harg10.read_unread _)
    have e11 : View.readAt (Elt F) arg11.view (Rect.unit ![0, 0, 0] S1x1x2048.size inb_S1x1x2048_S1x1x2048_0_0_0).toLoadRect (harg11.unread x11) = x11 :=
      (View.readAt_full _ _ _).trans (harg11.read_unread _)
    simp only [View.readAt_eq_ld] at eY e10 e11 ⊢
    simp only [eY, e10, e11]
    exact stored_whole _ _ _
  · have hc := (last_iff i).not.mpr h
    simp only [if_neg h]
    sl_exec (disch := sl_exact hc)
    sl_step
    iapply Hk
    isplitl [H0]
    · iexists _; isplitr; · ipureintro; exact harg10.read_unread _
      iexact H0
    isplitl [H1]
    · iexists _; isplitr; · ipureintro; exact harg11.read_unread _
      iexact H1
    iexists _; isplitr; · ipureintro; exact harg12.read_unread _
    iexact H2

set_option maxHeartbeats 800000 in
/-- The third stretch: the block is added to the accumulator, and its last rows kept. -/
theorem addBlock_spec (c : Dev nD) (i : grid0.Coords) (arg2 : Memref sig .tc .vmem S512x2048 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x1024 .f32) (harg16 : arg16.IsWhole)
    (x3 : Vec F S1x2048x512 .bf16) (x4 : Vec F S1x2048x512 .bf16) (x5 : Vec F S1x3x512 .f32) (x6 : Vec F S1x3x512 .f32) (x7 : Vec F S1x1x512 .f32) (x8 : Vec F S1x1x512 .f32) (x9 : Vec F S1x512x2048 .bf16) (Y : Vec F S512x2048 .f32) (X : Vec F S512x2048 .bf16) (T : Vec F S11x8x1024 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
      ∗ owns (c : Thread nD τ) arg12 fullShare Y ∗ owns (c : Thread nD τ) arg13 fullShare X ∗ (∃ d, owns (c : Thread nD τ) arg14 fullShare d) ∗ (∃ d, owns (c : Thread nD τ) arg15 fullShare d) ∗ owns (c : Thread nD τ) arg16 fullShare T
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ owns (c : Thread nD τ) arg12 fullShare (added X (tailA T i) (tailB T i) x3 x4 x5 x6 x7 x8 x9 Y) ∗ owns (c : Thread nD τ) arg13 fullShare X ∗ (∃ d, owns (c : Thread nD τ) arg14 fullShare d) ∗ (∃ d, owns (c : Thread nD τ) arg15 fullShare d) ∗ owns (c : Thread nD τ) arg16 fullShare (nextTail T i (k0_pay8 X x3) (k0_pay8 X x4))) -∗ K ⟨⟩))
      ⊢ wp frame (wpE (defs₀ (F := F)) Variants.none c none) E (addBlock i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns addBlock headC
  simp only [k0_part2_eq_skeleton, k0_part3_eq_skeleton]
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%fY, %hY, HY⟩, ⟨%fX, %hX, HX⟩, ⟨%dA, %fA, -, HA⟩, ⟨%dB, %fB, -, HB⟩, ⟨%fT, %hT, HT⟩, Hk⟩
  obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9
  obtain rfl := harg12.eq_unread hY; obtain rfl := harg13.eq_unread hX; obtain rfl := harg16.eq_unread hT
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [HY]
  · iexists _; isplitr; swap; · iexact HY
    ipureintro
    sl_unfold_run_names
    dsimp only
    have eY : View.readAt (Elt F) arg12.view (Rect.unit ![0, 0] S512x2048.size inb_S512x2048_S512x2048_0_0).toLoadRect (harg12.unread Y) = Y :=
      (View.readAt_full _ _ _).trans (harg12.read_unread _)
    have eX : View.readAt (Elt F) arg13.view (Rect.unit ![0, 0] S512x2048.size inb_S512x2048_S512x2048_0_0).toLoadRect (harg13.unread X) = X :=
      (View.readAt_full _ _ _).trans (harg13.read_unread _)
    have e3 : View.readAt (Elt F) arg3.view (Rect.unit ![0, 0, 0] S1x2048x512.size inb_S1x2048x512_S1x2048x512_0_0_0).toLoadRect (harg3.unread x3) = x3 :=
      (View.readAt_full _ _ _).trans (harg3.read_unread _)
    have e4 : View.readAt (Elt F) arg4.view (Rect.unit ![0, 0, 0] S1x2048x512.size inb_S1x2048x512_S1x2048x512_0_0_0).toLoadRect (harg4.unread x4) = x4 :=
      (View.readAt_full _ _ _).trans (harg4.read_unread _)
    have e7 : View.readAt (Elt F) arg7.view (Rect.unit ![0, 0, 0] S1x1x512.size inb_S1x1x512_S1x1x512_0_0_0).toLoadRect (harg7.unread x7) = x7 :=
      (View.readAt_full _ _ _).trans (harg7.read_unread _)
    have e8 : View.readAt (Elt F) arg8.view (Rect.unit ![0, 0, 0] S1x1x512.size inb_S1x1x512_S1x1x512_0_0_0).toLoadRect (harg8.unread x8) = x8 :=
      (View.readAt_full _ _ _).trans (harg8.read_unread _)
    have e9 : View.readAt (Elt F) arg9.view (Rect.unit ![0, 0, 0] S1x512x2048.size inb_S1x512x2048_S1x512x2048_0_0_0).toLoadRect (harg9.unread x9) = x9 :=
      (View.readAt_full _ _ _).trans (harg9.read_unread _)
    simp only [View.readAt_eq_ld, readCov_padded, harg5.read_unread, harg6.read_unread, harg16.read_unread, ld_tailA, ld_tailB, pay11_eq, pay14_eq] at eY eX e3 e4 e7 e8 e9 ⊢
    simp only [eY, eX, e3, e4, e7, e8, e9]
    have hA := readCov_padded arg14 (tailA T i) (k0_pay8 X x3)
    have hB := readCov_padded arg15 (tailB T i) (k0_pay8 X x4)
    refine (stored_whole _ _ _).trans ?_
    unfold added conv
    simp only [← hA, ← hB]

  isplitl [HX]
  · iexists _; isplitr; · ipureintro; exact harg13.read_unread _
    iexact HX
  isplitl [HA]
  · iexists _; iexists _; isplitr; swap; · iexact HA
    ipureintro; rfl
  isplitl [HB]
  · iexists _; iexists _; isplitr; swap; · iexact HB
    ipureintro; rfl
  iexists _; isplitr; swap; · iexact HT
  ipureintro
  sl_unfold_run_names
  dsimp only
  have eY : View.readAt (Elt F) arg12.view (Rect.unit ![0, 0] S512x2048.size inb_S512x2048_S512x2048_0_0).toLoadRect (harg12.unread Y) = Y :=
    (View.readAt_full _ _ _).trans (harg12.read_unread _)
  have eX : View.readAt (Elt F) arg13.view (Rect.unit ![0, 0] S512x2048.size inb_S512x2048_S512x2048_0_0).toLoadRect (harg13.unread X) = X :=
    (View.readAt_full _ _ _).trans (harg13.read_unread _)
  have e3 : View.readAt (Elt F) arg3.view (Rect.unit ![0, 0, 0] S1x2048x512.size inb_S1x2048x512_S1x2048x512_0_0_0).toLoadRect (harg3.unread x3) = x3 :=
    (View.readAt_full _ _ _).trans (harg3.read_unread _)
  have e4 : View.readAt (Elt F) arg4.view (Rect.unit ![0, 0, 0] S1x2048x512.size inb_S1x2048x512_S1x2048x512_0_0_0).toLoadRect (harg4.unread x4) = x4 :=
    (View.readAt_full _ _ _).trans (harg4.read_unread _)
  have e7 : View.readAt (Elt F) arg7.view (Rect.unit ![0, 0, 0] S1x1x512.size inb_S1x1x512_S1x1x512_0_0_0).toLoadRect (harg7.unread x7) = x7 :=
    (View.readAt_full _ _ _).trans (harg7.read_unread _)
  have e8 : View.readAt (Elt F) arg8.view (Rect.unit ![0, 0, 0] S1x1x512.size inb_S1x1x512_S1x1x512_0_0_0).toLoadRect (harg8.unread x8) = x8 :=
    (View.readAt_full _ _ _).trans (harg8.read_unread _)
  have e9 : View.readAt (Elt F) arg9.view (Rect.unit ![0, 0, 0] S1x512x2048.size inb_S1x512x2048_S1x512x2048_0_0_0).toLoadRect (harg9.unread x9) = x9 :=
    (View.readAt_full _ _ _).trans (harg9.read_unread _)
  simp only [View.readAt_eq_ld, readCov_padded, harg5.read_unread, harg6.read_unread, harg16.read_unread, ld_tailA, ld_tailB, pay11_eq, pay14_eq] at eY eX e3 e4 e7 e8 e9 ⊢
  simp only [eY, eX, e3, e4, e7, e8, e9]
  have hA := readCov_padded arg14 (tailA T i) (k0_pay8 X x3)
  have hB := readCov_padded arg15 (tailB T i) (k0_pay8 X x4)
  refine Eq.trans ?_ (stored_tail arg16 harg16 T i (tailA T i) (tailB T i) (k0_pay8 X x3) (k0_pay8 X x4))
  simp only [← hA, ← hB]

end Cert.ChannelMixer

end
-- ==== Proof.Ffn.Step.lean ====
/- What the channel mixer's body leaves at a grid point. -/
module

public import proofs.«01_k».proof.Proof.Ffn.Runs
public import Idealize.ShloMosaic.Lib.Claim

@[expose] public section

set_option maxRecDepth 65536

noncomputable section

namespace Cert.ChannelMixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen

variable {F : FTy → Type} [FloatOps F]

local notation "𝕄" => MT nD τ sig Unit (Elt F) ℕ (UR sig nD τ) ℕ

/-- The rounded rows that the point works with: the tile's own from its first block on. -/
def rounded (i : grid0.Coords) (x : Vec F S512x2048 .f32) (X : Vec F S512x2048 .bf16) : Vec F S512x2048 .bf16 :=
  if (i 1).val = 0 then k0_pay4 x else X

/-- The rows before that the point works with: zeros at the start of a sequence. -/
def started (i : grid0.Coords) (T : Vec F S11x8x1024 .f32) : Vec F S11x8x1024 .f32 :=
  if (i 0).val % 4 = 0 then zeroTail T i else T

/-- What the point leaves in the accumulator: started at the first block, added to, and normalised at the last block. -/
def stepY (i : grid0.Coords) (X : Vec F S512x2048 .bf16) (T : Vec F S11x8x1024 .f32) (x2 : Vec F S512x2048 .f32) (x3 : Vec F S1x2048x512 .bf16) (x4 : Vec F S1x2048x512 .bf16) (x5 : Vec F S1x3x512 .f32) (x6 : Vec F S1x3x512 .f32) (x7 : Vec F S1x1x512 .f32) (x8 : Vec F S1x1x512 .f32) (x9 : Vec F S1x512x2048 .bf16) (x10 : Vec F S1x1x2048 .f32) (x11 : Vec F S1x1x2048 .f32) (Y : Vec F S512x2048 .f32) : Vec F S512x2048 .f32 :=
  if (i 1).val = 10 then k0_pay2 (added X (tailA T i) (tailB T i) x3 x4 x5 x6 x7 x8 x9 (if (i 1).val = 0 then k0_pay5 x2 else Y)) x10 x11
  else added X (tailA T i) (tailB T i) x3 x4 x5 x6 x7 x8 x9 (if (i 1).val = 0 then k0_pay5 x2 else Y)

set_option maxHeartbeats 1000000 in
/-- The body at a grid point. -/
theorem step_spec (c : Dev nD) (i : grid0.Coords) (arg2 : Memref sig .tc .vmem S512x2048 .f32) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x1024 .f32) (harg16 : arg16.IsWhole)
    (x2 : Vec F S512x2048 .f32) (x3 : Vec F S1x2048x512 .bf16) (x4 : Vec F S1x2048x512 .bf16) (x5 : Vec F S1x3x512 .f32) (x6 : Vec F S1x3x512 .f32) (x7 : Vec F S1x1x512 .f32) (x8 : Vec F S1x1x512 .f32) (x9 : Vec F S1x512x2048 .bf16) (x10 : Vec F S1x1x2048 .f32) (x11 : Vec F S1x1x2048 .f32) (Y : Vec F S512x2048 .f32) (X : Vec F S512x2048 .bf16) (T : Vec F S11x8x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare Y ∗ owns (c : Thread nD τ) arg13 fullShare X ∗ (∃ d, owns (c : Thread nD τ) arg14 fullShare d) ∗ (∃ d, owns (c : Thread nD τ) arg15 fullShare d) ∗ owns (c : Thread nD τ) arg16 fullShare T
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (stepY i (rounded i x2 X) (started i T) x2 x3 x4 x5 x6 x7 x8 x9 x10 x11 Y) ∗ owns (c : Thread nD τ) arg13 fullShare (rounded i x2 X) ∗ (∃ d, owns (c : Thread nD τ) arg14 fullShare d) ∗ (∃ d, owns (c : Thread nD τ) arg15 fullShare d) ∗ owns (c : Thread nD τ) arg16 fullShare (nextTail (started i T) i (k0_pay8 (rounded i x2 X) x3) (k0_pay8 (rounded i x2 X) x4))) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind, wp_bind, wp_bind]
  iintro ⟨H2, H3, H4, H5, H6, H7, H8, H9, H10, H11, H12, H13, H14, H15, H16, Hk⟩
  iapply initOutput_spec c i arg2 harg2 arg12 harg12 arg13 harg13 x2 Y X
  isplitl [H2]; · iexact H2
  isplitl [H12]; · iexact H12
  isplitl [H13]; · iexact H13
  iintro ⟨H2, H12, H13⟩
  iapply initTail_spec c i arg16 harg16 T
  isplitl [H16]; · iexact H16
  iintro H16
  iapply addBlock_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 (if (i 1).val = 0 then k0_pay5 x2 else Y) (rounded i x2 X) (started i T)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  isplitl [H14]; · iexact H14
  isplitl [H15]; · iexact H15
  isplitl [H16]; · iexact H16
  iintro ⟨H3, H4, H5, H6, H7, H8, H9, H12, H13, H14, H15, H16⟩
  iapply normalise_spec c i arg10 harg10 arg11 harg11 arg12 harg12 x10 x11
  isplitl [H10]; · iexact H10
  isplitl [H11]; · iexact H11
  isplitl [H12]; · iexact H12
  iintro ⟨H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.ChannelMixer

end
-- ==== Proof.Ffn.Points.lean ====
/- What the channel mixer's buffers hold at every point of the pipeline's grid: the rounded rows, the rows before each
   block of hidden channels, and the accumulator. -/
module

public import proofs.«01_k».proof.Proof.Ffn.Step

@[expose] public section

set_option maxRecDepth 65536

noncomputable section

namespace Cert.ChannelMixer

open Idealize.ShloMosaic Idealize.ShloMosaic.TcCoe
open Cert.FfnIdeal Cert.FfnIdeal.Gen

variable {F : FTy → Type} [FloatOps F]

variable (m : (ℓ : Loc nD τ sig) → Buf (Elt F) ℓ) (c : Dev nD)

/-- The coordinates of a point: its row tile, -/
theorem coord0 (t : Fin cfg0.N) : (grid0.coords t 0).val = t.val / 11 :=
  (by decide +kernel : ∀ t : Fin grid0.N, (grid0.coords t 0).val = t.val / 11) t
/-- and its block of hidden channels. -/
theorem coord1 (t : Fin cfg0.N) : (grid0.coords t 1).val = t.val % 11 :=
  (by decide +kernel : ∀ t : Fin grid0.N, (grid0.coords t 1).val = t.val % 11) t

theorem lt_N (t : Fin cfg0.N) : t.val < 352 := t.isLt

/-- The first point of a point's row tile. -/
def first (t : Fin cfg0.N) : Fin cfg0.N := ⟨11 * (t.val / 11), by have h := lt_N t; show _ < 352; omega⟩

/-- The rounded rows of a point's tile. -/
def rows (t : Fin cfg0.N) : Vec F S512x2048 .bf16 := k0_pay4 (iblk m c 0 (first t))

/-- The first half's projections at a point, -/
def projA (t : Fin cfg0.N) : Vec F S512x512 .f32 := k0_pay8 (rows m c t) (iblk m c 1 t)
/-- and the second half's. -/
def projB (t : Fin cfg0.N) : Vec F S512x512 .f32 := k0_pay8 (rows m c t) (iblk m c 2 t)

/-- The last eight rows of a block. -/
def lastEight (P : Vec F S512x512 .f32) : Vec F S8x512 .f32 := fun y =>
  P (ix2 ⟨504 + (y 0).val, by have h : (y 0).val < 8 := (y 0).isLt; omega⟩ (y 1))

/-- The rows before at a point, of the first half: the last of the tile before, zeros at the start of a sequence, -/
def beforeA (t : Fin cfg0.N) : Vec F S8x512 .f32 :=
  if t.val / 11 % 4 = 0 then fun _ => Scalar.ofBits .f32 0x00000000#32
  else lastEight (projA m c ⟨t.val - 11, lt_of_le_of_lt (Nat.sub_le _ _) t.isLt⟩)
/-- and of the second. -/
def beforeB (t : Fin cfg0.N) : Vec F S8x512 .f32 :=
  if t.val / 11 % 4 = 0 then fun _ => Scalar.ofBits .f32 0x00000000#32
  else lastEight (projB m c ⟨t.val - 11, lt_of_le_of_lt (Nat.sub_le _ _) t.isLt⟩)

/-- The accumulator with a point's block added. -/
def addedAt (t : Fin cfg0.N) (Y : Vec F S512x2048 .f32) : Vec F S512x2048 .f32 :=
  added (rows m c t) (beforeA m c t) (beforeB m c t) (iblk m c 1 t) (iblk m c 2 t) (iblk m c 3 t) (iblk m c 4 t) (iblk m c 5 t) (iblk m c 6 t)
    (iblk m c 7 t) Y

/-- What a point leaves, from the accumulator that it works with. -/
def leftAt (t : Fin cfg0.N) (Y : Vec F S512x2048 .f32) : Vec F S512x2048 .f32 :=
  if t.val % 11 = 10 then k0_pay2 (addedAt m c t Y) (iblk m c 8 t) (iblk m c 9 t) else addedAt m c t Y

/-- What the accumulator holds after each point. -/
def outsAt : (n : ℕ) → n < 352 → Vec F S512x2048 .f32
  | 0, h => leftAt m c ⟨0, h⟩ (k0_pay5 (iblk m c 0 ⟨0, h⟩))
  | n + 1, h => leftAt m c ⟨n + 1, h⟩ (if (n + 1) % 11 = 0 then k0_pay5 (iblk m c 0 ⟨n + 1, h⟩) else outsAt n (Nat.lt_of_succ_lt h))

theorem outsAt_first (t : Fin cfg0.N) (h : t.val % 11 = 0) : outsAt m c t.val t.isLt = leftAt m c t (k0_pay5 (iblk m c 0 t)) := by
  obtain ⟨n, hn⟩ := t
  cases n with
  | zero => rfl
  | succ n => exact congrArg (leftAt m c ⟨n + 1, hn⟩) (if_pos h)

theorem outsAt_next (t : Fin cfg0.N) (h : t.val % 11 ≠ 0) :
    outsAt m c t.val t.isLt = leftAt m c t (outsAt m c (t.val - 1) (lt_of_le_of_lt (Nat.sub_le _ _) t.isLt)) := by
  obtain ⟨n, hn⟩ := t
  cases n with
  | zero => exact absurd rfl h
  | succ n => exact congrArg (leftAt m c ⟨n + 1, hn⟩) (if_neg h)

/-- The rows kept by a point for the next tile. -/
def kept (t : Fin cfg0.N) (y : S11x8x1024.Idx) : F .f32 :=
  if h : (y 2).val < 512 then projA m c t (ix2 ⟨504 + (y 1).val, by have h : (y 1).val < 8 := (y 1).isLt; omega⟩ ⟨(y 2).val, h⟩)
  else projB m c t (ix2 ⟨504 + (y 1).val, by have h : (y 1).val < 8 := (y 1).isLt; omega⟩
    ⟨(y 2).val - 512, by have h : (y 2).val < 1024 := (y 2).isLt; omega⟩)

/-- What is known before point `n`: within a tile, the rounded rows; and the rows that the last eleven points kept. -/
def Known (n : ℕ) (X : Vec F S512x2048 .bf16) (T : Vec F S11x8x1024 .f32) : Prop :=
  (n % 11 ≠ 0 → ∀ h : n < 352, X = rows m c ⟨n, h⟩)
    ∧ ∀ (k : ℕ) (hk : k < 352), k < n → n ≤ k + 11 → ∀ y : S11x8x1024.Idx, (y 0).val = k % 11 → T y = kept m c ⟨k, hk⟩ y

theorem known_zero (X : Vec F S512x2048 .bf16) (T : Vec F S11x8x1024 .f32) : Known m c 0 X T :=
  ⟨fun h => absurd rfl h, fun k _ h => absurd h (Nat.not_lt_zero k)⟩

variable {m c}

/-- The point works with its tile's rounded rows. -/
theorem rounded_eq (t : Fin cfg0.N) {X : Vec F S512x2048 .bf16} {T : Vec F S11x8x1024 .f32} (h : Known m c t.val X T) :
    rounded (grid0.coords t) (iblk m c 0 t) X = rows m c t := by
  unfold rounded
  rw [coord1]
  by_cases h0 : t.val % 11 = 0
  · have e : first t = t := Fin.ext (by show 11 * (t.val / 11) = t.val; omega)
    rw [if_pos h0, rows, e]
  · rw [if_neg h0]; exact h.1 h0 t.isLt

/-- The point works with the rows before, first half, -/
theorem tailA_eq (t : Fin cfg0.N) {X : Vec F S512x2048 .bf16} {T : Vec F S11x8x1024 .f32} (h : Known m c t.val X T) :
    tailA (started (grid0.coords t) T) (grid0.coords t) = beforeA m c t := by
  have ht := lt_N t
  unfold started beforeA
  rw [coord0]
  by_cases h4 : t.val / 11 % 4 = 0
  · rw [if_pos h4, if_pos h4]; funext y
    exact if_pos rfl
  · rw [if_neg h4, if_neg h4]; funext y
    have hy : (y 1).val < 512 := (y 1).isLt
    exact (h.2 (t.val - 11) (by omega) (by omega) (by omega) _ (by
      show (grid0.coords t 1).val = _
      rw [coord1]; omega)).trans (dif_pos hy)
/-- and second half. -/
theorem tailB_eq (t : Fin cfg0.N) {X : Vec F S512x2048 .bf16} {T : Vec F S11x8x1024 .f32} (h : Known m c t.val X T) :
    tailB (started (grid0.coords t) T) (grid0.coords t) = beforeB m c t := by
  have ht := lt_N t
  unfold started beforeB
  rw [coord0]
  by_cases h4 : t.val / 11 % 4 = 0
  · rw [if_pos h4, if_pos h4]; funext y
    exact if_pos rfl
  · rw [if_neg h4, if_neg h4]; funext y
    have hy : ¬ 512 + (y 1).val < 512 := by omega
    refine (h.2 (t.val - 11) (by omega) (by omega) (by omega) _ (by
      show (grid0.coords t 1).val = _
      rw [coord1]; omega)).trans ((dif_neg hy).trans (congrArg _ (congrArg _ (Fin.ext ?_))))
    show 512 + (y 1).val - 512 = (y 1).val
    omega

/-- What is known before the next point. -/
theorem known_succ (t : Fin cfg0.N) {X : Vec F S512x2048 .bf16} {T : Vec F S11x8x1024 .f32} (h : Known m c t.val X T) :
    Known m c (t.val + 1) (rows m c t) (nextTail (started (grid0.coords t) T) (grid0.coords t) (projA m c t) (projB m c t)) := by
  have ht := lt_N t
  refine ⟨fun h1 h2 => ?_, fun k hk h1 h2 y hy => ?_⟩
  · have e : first t = first ⟨t.val + 1, h2⟩ := Fin.ext (by show 11 * (t.val / 11) = 11 * ((t.val + 1) / 11); omega)
    rw [rows, rows, e]
  · unfold nextTail
    rw [coord1]
    by_cases hkt : k = t.val
    · subst hkt
      exact if_pos hy
    · have hne : (y 0).val ≠ t.val % 11 := by omega
      rw [if_neg hne]
      have e : started (grid0.coords t) T y = T y := by
        unfold started
        by_cases h4 : (grid0.coords t 0).val % 4 = 0
        · rw [if_pos h4]; exact if_neg (by rw [coord1]; exact hne)
        · rw [if_neg h4]
      exact e.trans (h.2 k hk (by omega) (by omega) y hy)

/-- What the point leaves in the accumulator. -/
theorem stepY_eq (t : Fin cfg0.N) {X : Vec F S512x2048 .bf16} {T : Vec F S11x8x1024 .f32} (h : Known m c t.val X T) (Y : Vec F S512x2048 .f32)
    (hY : t.val % 11 ≠ 0 → Y = outsAt m c (t.val - 1) (lt_of_le_of_lt (Nat.sub_le _ _) t.isLt)) :
    stepY (grid0.coords t) (rounded (grid0.coords t) (iblk m c 0 t) X) (started (grid0.coords t) T) (iblk m c 0 t) (iblk m c 1 t) (iblk m c 2 t)
      (iblk m c 3 t) (iblk m c 4 t) (iblk m c 5 t) (iblk m c 6 t) (iblk m c 7 t) (iblk m c 8 t) (iblk m c 9 t) Y = outsAt m c t.val t.isLt := by
  unfold stepY
  rw [rounded_eq t h, tailA_eq t h, tailB_eq t h, coord1]
  by_cases h0 : t.val % 11 = 0
  · rw [if_pos h0, outsAt_first m c t h0]; rfl
  · rw [if_neg h0, outsAt_next m c t h0, hY h0]; rfl

end Cert.ChannelMixer

end
-- ==== Proof.Ffn.Frame.lean ====
/- The channel mixer's pipeline: its body keeps to the contents of Points.lean at every point, so the program runs, leaves
   its arguments alone, and ends with every array at what those contents give. -/
module

public import proofs.«01_k».proof.Proof.Ffn.Points

@[expose] public section

set_option maxRecDepth 65536

noncomputable section

namespace Cert.ChannelMixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch of the rounded rows, -/
abbrev rowsRef : Memref sig .tc .vmem S512x2048 .bf16 := Memref.whole cc0_scratch0
/-- of the first half's padded block, -/
abbrev padARef : Memref sig .tc .vmem S520x512 .f32 := Memref.whole cc0_scratch1
/-- of the second half's, -/
abbrev padBRef : Memref sig .tc .vmem S520x512 .f32 := Memref.whole cc0_scratch2
/-- and of the rows before. -/
abbrev tailRef : Memref sig .tc .vmem S11x8x1024 .f32 := Memref.whole cc0_scratch3

/-- The region's scratch and generator register, the buffers one by one. -/
theorem scoped_eq (c : Dev nD) :
    (Pipeline.ΦA spec0 c : sProp 𝕄)
      = iprop(iprop((∃ d, owns (c : Thread nD τ) rowsRef fullShare d) ∗ (∃ d, owns (c : Thread nD τ) padARef fullShare d)
        ∗ (∃ d, owns (c : Thread nD τ) padBRef fullShare d) ∗ (∃ d, owns (c : Thread nD τ) tailRef fullShare d)) ∗ (∃ r, prngReg c r)) := by
  unfold Pipeline.ΦA; rw [scopedRest0_eq]; simp only [rowsRef, padARef, padBRef, tailRef, owns_whole]; try rfl

/-- What holds of the scratch before point `n`. -/
def carried (c : Dev nD) (n : ℕ) : sProp 𝕄 :=
  iprop(∃ (X : Vec F S512x2048 .bf16) (T : Vec F S11x8x1024 .f32), ⌜Known m c n X T⌝ ∗ owns (c : Thread nD τ) rowsRef fullShare X
    ∗ (∃ d, owns (c : Thread nD τ) padARef fullShare d) ∗ (∃ d, owns (c : Thread nD τ) padBRef fullShare d)
    ∗ owns (c : Thread nD τ) tailRef fullShare T ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outsAt m c t.val t.isLt
  Φ t := carried m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Within a tile, the output's buffer holds what the point before left. -/
theorem before_10 (c : Dev nD) (t : Fin cfg0.N) (h : t.val % 11 ≠ 0) (d) :
    (dats m 0 c).before 10 t d = outsAt m c (t.val - 1) (lt_of_le_of_lt (Nat.sub_le _ _) t.isLt) := by
  refine ((dats m 0 c).before_out_kept 10 rfl t (by omega) ?_ (fun _ => rfl) (fun _ _ => rfl) d).trans (after_10 m c _)
  refine Bool.eq_false_iff.mpr fun hf => ?_
  have := (flush0_10 _).mp hf
  have h' : (t.val - 1) % 11 = 10 := this
  omega

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    show (dats m 0 c).Φ t.castSucc = carried m c t.val from rfl, show (dats m 0 c).Φ t.succ = carried m c (t.val + 1) from rfl,
    after_0, after_1, after_2, after_3, after_4, after_5, after_6, after_7, after_8, after_9, after_10]
  unfold carried
  iintro ⟨⟨%X, %T, %hK, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (step_spec c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) X T Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  have eY := stepY_eq t hK ((dats m 0 c).before 10 t d10) (fun h => before_10 m c t h d10)
  rw [eY, rounded_eq t hK]
  isplitl [HS0 HS1 HS2 HS3 Hg]
  · iexists _; iexists _
    isplitr
    swap
    · isplitl [HS0]; · iexact HS0
      isplitl [HS1]; · iexact HS1
      isplitl [HS2]; · iexact HS2
      isplitl [HS3]; · iexact HS3
      iexact Hg
    ipureintro
    exact known_succ t hK
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs_row (t : Fin cfg0.N) :
    defs₀ (F := F) .tc cfg0.body (cfg0.bodyArgs t (cfg0.slots t)) = bodyAt0 t := by
  unfold defs₀; rw [Defs.onTc_tc]

/-- The body keeps to the proof data at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The scratch as the region opens it is what the first point needs, -/
theorem carried_in (c : Dev nD) : (Pipeline.ΦA spec0 c : sProp 𝕄) ⊢ carried m c 0 := by
  rw [scoped_eq]; unfold carried
  iintro ⟨⟨⟨%X, H0⟩, H1, H2, ⟨%T, H3⟩⟩, Hg⟩
  iexists X; iexists T
  isplitr; · ipureintro; exact known_zero m c X T
  isplitl [H0]; · iexact H0
  isplitl [H1]; · iexact H1
  isplitl [H2]; · iexact H2
  isplitl [H3]; · iexact H3
  iexact Hg

/-- and what the last point leaves is given back. -/
theorem carried_out (c : Dev nD) (n : ℕ) : carried m c n ⊢ (Pipeline.ΦA spec0 c : sProp 𝕄) := by
  rw [scoped_eq]; unfold carried
  iintro ⟨%X, %T, -, H0, H1, H2, H3, Hg⟩
  isplitr [Hg]
  · isplitl [H0]; · iexists X; iexact H0
    isplitl [H1]; · iexact H1
    isplitl [H2]; · iexact H2
    iexists T; iexact H3
  iexact Hg

set_option backward.isDefEq.respectTransparency.types false in
/-- The program runs to the end, every array at what the proof data give, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => carried_in m c) (hout := fun c => carried_out m c _)

theorem run_arrays : θ_run defs (onTc (τ := τ) (main (F := F))) (s₀ m ρ) (Pipeline.FramePost cfgs (dats m) 0 (V m)) :=
  (θ_run defs _ _).mono (fun _ h => h.1) (run_quiescent m ρ)

/-- The argument arrays end unchanged. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_arrays m ρ)

/-- The program runs, its arguments end unchanged and every counter at zero. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

end Cert.ChannelMixer

end
-- ==== Proof.Ffn.Spec.lean ====
/- The channel mixer, as one function of its arguments. -/
module

public import proofs.«01_k».proof.Proof.Fox.Block

@[expose] public section

noncomputable section

namespace Cert.ChannelMixer

open Idealize.ShloMosaic
open Cert.Fox (at3 at3_of)

/-- An array's entry at natural coordinates, zero outside. -/
def at2 {a b : ℕ} (X : (⟨2, ![a, b]⟩ : Shape).Idx → EReal) (i j : ℕ) : EReal :=
  if h : i < a ∧ j < b then X (ix2 ⟨i, h.1⟩ ⟨j, h.2⟩) else 0

theorem at2_of {a b : ℕ} (X : (⟨2, ![a, b]⟩ : Shape).Idx → EReal) (x : (⟨2, ![a, b]⟩ : Shape).Idx) {i j : ℕ}
    (hi : (x 0).val = i) (hj : (x 1).val = j) : X x = at2 X i j := by
  subst hi hj
  rw [at2, dif_pos ⟨(x 0).isLt, (x 1).isLt⟩]
  exact congrArg X (eq_ix2 x)

variable (X : (⟨3, ![8, 2048, 2048]⟩ : Shape).Idx → EReal) (W : (⟨3, ![2, 2048, 11264]⟩ : Shape).Idx → EReal)
  (T : (⟨3, ![2, 3, 11264]⟩ : Shape).Idx → EReal) (B : (⟨2, ![2, 11264]⟩ : Shape).Idx → EReal)
  (D : (⟨3, ![2, 5632, 2048]⟩ : Shape).Idx → EReal) (G H : (⟨2, ![2, 2048]⟩ : Shape).Idx → EReal)

/-- A token's projection on a hidden channel: sequence `b`, token `s`, channel `ch`. -/
def proj (b s ch : ℕ) : EReal := ∑ k : Fin 2048, at3 X b s k * at3 W 1 k ch

/-- A sequence's projections with two zeros before: place `p` holds token `p - 2`. -/
def past (b p ch : ℕ) : EReal := if p < 2 then 0 else proj X W b (p - 2) ch

/-- A hidden channel: the bias and the three taps on the token and the two before it. -/
def hidden (b s ch : ℕ) : EReal :=
  at2 B 1 ch + at3 T 1 0 ch * past X W b s ch + at3 T 1 1 ch * past X W b (s + 1) ch + at3 T 1 2 ch * past X W b (s + 2) ch

/-- The exact GELU of one number times the other, with the program's constants. -/
def gate (a g : EReal) : EReal :=
  Ideal.ofBits .f32 0x3F000000#32 * a * (Ideal.ofBits .f32 0x3F800000#32 + Ideal.erf (a * Ideal.ofBits .f32 0x3F3504F3#32)) * g

/-- A channel of the gated hidden state. -/
def gated (b s ch : ℕ) : EReal := gate (hidden X W T B b s ch) (hidden X W T B b s (5632 + ch))

/-- The scaled residual stream with the gated hidden state projected back. -/
def mixed (b s n : ℕ) : EReal :=
  Ideal.ofBits .f32 0x3FB504F3#32 * at3 X b s n + ∑ ch : Fin 5632, gated X W T B b s ch * at3 D 1 ch n

/-- The mean of 2048 numbers. -/
def mean (f : ℕ → EReal) : EReal := Ideal.div (∑ n : Fin 2048, f n) (Ideal.ofBits .f32 0x45000000#32)

/-- Layer norm of 2048 numbers. -/
def normed (f g h : ℕ → EReal) (n : ℕ) : EReal :=
  (f n - mean f) * Ideal.rsqrt (mean (fun n => (f n - mean f) * (f n - mean f)) + Ideal.ofBits .f32 0x3727C5AC#32) * g n + h n

/-- The channel mixer: token `s` of sequence `b` is row `2048 b + s`. -/
def mixer (i : (⟨2, ![16384, 2048]⟩ : Shape).Idx) : EReal :=
  normed (mixed X W T B D ((i 0).val / 2048) ((i 0).val % 2048)) (at2 G 1) (at2 H 1) (i 1).val

theorem normed_congr {f f' g g' h h' : ℕ → EReal} {n : ℕ} (hn : n < 2048) (hf : ∀ k, k < 2048 → f k = f' k) (hg : g n = g' n)
    (hh : h n = h' n) : normed f g h n = normed f' g' h' n := by
  have hm : ∀ {u v : ℕ → EReal}, (∀ k, k < 2048 → u k = v k) → mean u = mean v := fun e =>
    congrArg (Ideal.div · _) (Finset.sum_congr rfl fun k _ => e k.val k.isLt)
  have e : mean f = mean f' := hm hf
  have ev : mean (fun n => (f n - mean f') * (f n - mean f')) = mean fun n => (f' n - mean f') * (f' n - mean f') :=
    hm fun k hk => by rw [hf k hk]
  unfold normed
  rw [e, ev, hf n hn, hg, hh]

end Cert.ChannelMixer

end
-- ==== Proof.Ffn.Entries.lean ====
/- The channel mixer's values of vectors, entry by entry, on the extended reals. -/
module

public import proofs.«01_k».proof.Proof.Ffn.Runs
public import proofs.«01_k».proof.Proof.Ffn.Spec
public import Idealize.ShloMosaic.Lib.MatmulPlain
public import Idealize.ShloMosaic.PureOps.Ideal.Laws

@[expose] public section

set_option maxRecDepth 16384

noncomputable section

namespace Cert.ChannelMixer

open Idealize.ShloMosaic Idealize.ShloMosaic.TcCoe
open Cert.FfnIdeal Cert.FfnIdeal.Gen
open Cert.Fox (at3 at3_of)

theorem zero_bits : Ideal.ofBits .f32 0x00000000#32 = 0 := by simp [Ideal.ofBits, Ideal.ieee]

/-- A block without its unit axis. -/
theorem drop3 {α : Type} {a b : ℕ} (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show (0 * a + i.val) * b + j.val = i.val * b + j.val
    rw [Nat.zero_mul, Nat.zero_add])

/-- A product of blocks. -/
theorem product {M K N : ℕ} (x : FVec Ideal ⟨2, ![M, K]⟩ .bf16) (y : FVec Ideal ⟨2, ![K, N]⟩ .bf16) (r : Fin M) (c : Fin N) :
    matmul (DotDims.plain M K N) none x y (constant (F := Ideal) ⟨2, ![M, N]⟩ .f32 0x00000000#32) (ix2 r c)
      = ∑ k : Fin K, x (ix2 r k) * y (ix2 k c) := by
  refine (Ideal.matmul_plain_apply none x y _ r c).trans ?_
  show Ideal.ofBits .f32 0x00000000#32 + _ = _
  rw [zero_bits, zero_add]
  rfl

/-- A projection. -/
theorem pay8_entry (X : Vec Ideal S512x2048 .bf16) (w : Vec Ideal S1x2048x512 .bf16) (r c : Fin 512) :
    k0_pay8 X w (ix2 r c) = ∑ k : Fin 2048, X (ix2 r k) * w (ix3 (0 : Fin 1) k c) := by
  unfold k0_pay8
  refine (congrFun (shapeCast_self _ _) _).trans ((product X (shapeCast S2048x512 w shapeCasts_S1x2048x512_S2048x512) r c).trans ?_)
  exact Finset.sum_congr rfl fun k _ => congrArg _ (drop3 w _ k c)

/-- The rounded rows are the rows. -/
theorem pay4_entry (x : Vec Ideal S512x2048 .f32) (y : S512x2048.Idx) : k0_pay4 x y = x y := by
  unfold k0_pay4 k0_pay3
  rw [shapeCast_self, shapeCast_self]
  rfl

/-- The scaled rows. -/
theorem pay5_entry (x : Vec Ideal S512x2048 .f32) (y : S512x2048.Idx) : k0_pay5 x y = Ideal.ofBits .f32 0x3FB504F3#32 * x y := by
  unfold k0_pay5 k0_pay3
  rw [shapeCast_self]
  rfl

/-- The accumulator with a block's channels added. -/
theorem pay1_entry (a b : FVec Ideal S512x512 .f32) (Y : Vec Ideal S512x2048 .f32) (d : Vec Ideal S1x512x2048 .bf16) (r : Fin 512) (n : Fin 2048) :
    k0_pay1 a b Y d (ix2 r n) = Y (ix2 r n) + ∑ ch : Fin 512, gate (a (ix2 r ch)) (b (ix2 r ch)) * d (ix3 (0 : Fin 1) ch n) := by
  unfold k0_pay1
  refine congrArg₂ (· + ·) (congrFun (shapeCast_self _ _) _) ((product _ (shapeCast S512x2048 d shapeCasts_S1x512x2048_S512x2048) r n).trans ?_)
  exact Finset.sum_congr rfl fun ch _ => congrArg₂ (· * ·) rfl (drop3 d _ ch n)

/-- A vector of lanes over the rows. -/
theorem over_rows (x : S1x1x512.Idx → EReal) (h : S1x1x512.ShapeCasts S1x512) (h' : S1x512.Broadcasts S512x512) (i j : Fin 512) :
    broadcastTo S512x512 (shapeCast S1x512 x h) h' (ix2 i j) = x (ix3 (0 : Fin 1) (0 : Fin 1) j) := by
  pointwise

/-- A convolved hidden channel. -/
theorem conv_entry (cb : Vec Ideal S1x1x512 .f32) (cw : Vec Ideal S1x3x512 .f32) (H : Vec Ideal S520x512 .f32) (r c : Fin 512) :
    conv cb cw H (ix2 r c) = cb (ix3 (0 : Fin 1) (0 : Fin 1) c)
      + cw (ix3 (0 : Fin 1) (0 : Fin 3) c) * H (ix2 (⟨6 + r.val, by omega⟩ : Fin 520) c)
      + cw (ix3 (0 : Fin 1) (1 : Fin 3) c) * H (ix2 (⟨7 + r.val, by omega⟩ : Fin 520) c)
      + cw (ix3 (0 : Fin 1) (2 : Fin 3) c) * H (ix2 (⟨8 + r.val, by omega⟩ : Fin 520) c) := by
  unfold conv k0_pay15
  have tap : ∀ (k : Fin 3) (inb), (View.ld (Val := Elt Ideal) (e' := .f32) cw (Rect.unit (s := S1x3x512) ![0, k.val, 0] S1x1x512.size inb))
      (ix3 (0 : Fin 1) (0 : Fin 1) c) = cw (ix3 (0 : Fin 1) k c) := fun k inb => congrArg cw (funext fun a => Fin.ext (by
    fin_cases a
    · rfl
    · show k.val + 1 * 0 = k.val; omega
    · show 0 + 1 * c.val = c.val; omega))
  have row : ∀ (k : ℕ) (hk : k + r.val < 520) (inb), (View.ld (Val := Elt Ideal) (e' := .f32) H (Rect.unit (s := S520x512) ![k, 0] S512x512.size inb))
      (ix2 r c) = H (ix2 (⟨k + r.val, hk⟩ : Fin 520) c) := fun k hk inb => congrArg H (funext fun a => Fin.ext (by
    fin_cases a
    · show k + 1 * r.val = k + r.val; omega
    · show 0 + 1 * c.val = c.val; omega))
  refine congrArg₂ (· + ·) (congrArg₂ (· + ·) (congrArg₂ (· + ·) (over_rows cb _ _ r c) (congrArg₂ (· * ·) ((over_rows _ _ _ r c).trans (tap 0 _)) (row 6 _ _)))
    (congrArg₂ (· * ·) ((over_rows _ _ _ r c).trans (tap 1 _)) (row 7 _ _))) (congrArg₂ (· * ·) ((over_rows _ _ _ r c).trans (tap 2 _)) (row 8 _ _))

/-- A normalised row. -/
theorem pay2_entry (Y : Vec Ideal S512x2048 .f32) (g h : Vec Ideal S1x1x2048 .f32) (r : Fin 512) (n : Fin 2048) :
    k0_pay2 Y g h (ix2 r n) = normed (at2 Y r.val) (at3 g 0 0) (at3 h 0 0) n.val := by
  unfold k0_pay2
  rw [shapeCast_self]
  pointwise
  have hY : ∀ x : Fin 2048, Y (ix2 r x) = at2 Y r.val x.val := fun x => at2_of Y _ rfl rfl
  simp only [hY]
  rw [at3_of g _ rfl rfl rfl, at3_of h _ rfl rfl rfl]
  rfl

end Cert.ChannelMixer

end
-- ==== Proof.Ffn.Blocks.lean ====
/- What the channel mixer's blocks hold, entry by entry, in terms of the call's arguments. -/
module

public import proofs.«01_k».proof.Proof.Ffn.Frame
public import proofs.«01_k».proof.Proof.Ffn.Entries

@[expose] public section

set_option maxRecDepth 16384

noncomputable section

namespace Cert.ChannelMixer

open Cert.FfnIdeal Cert.FfnIdeal.Gen Idealize.ShloMosaic Idealize.ShloMosaic.TcCoe Idealize.SL.Sem
open Cert.Fox (at3 at3_of)

variable (m : (ℓ : Loc nD τ sig) → Buf (Elt Ideal) ℓ) (c : Dev nD)

/-- The residual stream that the call is given, on a device; -/
abbrev argX : (⟨3, ![8, 2048, 2048]⟩ : Shape).Idx → EReal := m ((c : Thread nD τ).loc main_arg0)
/-- the weights of the projection, -/
abbrev argW : (⟨3, ![2, 2048, 11264]⟩ : Shape).Idx → EReal := m ((c : Thread nD τ).loc main_arg1)
/-- of the taps, -/
abbrev argT : (⟨3, ![2, 3, 11264]⟩ : Shape).Idx → EReal := m ((c : Thread nD τ).loc main_arg2)
/-- their bias, -/
abbrev argB : (⟨2, ![2, 11264]⟩ : Shape).Idx → EReal := m ((c : Thread nD τ).loc main_arg3)
/-- the weights of the projection back, -/
abbrev argD : (⟨3, ![2, 5632, 2048]⟩ : Shape).Idx → EReal := m ((c : Thread nD τ).loc main_arg4)
/-- the layer norm's scale, -/
abbrev argG : (⟨2, ![2, 2048]⟩ : Shape).Idx → EReal := m ((c : Thread nD τ).loc main_arg5)
/-- and its shift. -/
abbrev argH : (⟨2, ![2, 2048]⟩ : Shape).Idx → EReal := m ((c : Thread nD τ).loc main_arg6)

theorem index_maps : ∀ t : Fin cfg0.N, win0_0.index t = ![t.val / 11, 0] ∧ win0_1.index t = ![1, 0, t.val % 11]
    ∧ win0_2.index t = ![1, 0, 11 + t.val % 11] ∧ win0_3.index t = ![1, 0, t.val % 11] ∧ win0_4.index t = ![1, 0, 11 + t.val % 11]
    ∧ win0_5.index t = ![1, 0, t.val % 11] ∧ win0_6.index t = ![1, 0, 11 + t.val % 11] ∧ win0_7.index t = ![1, t.val % 11, 0]
    ∧ win0_8.index t = ![1, 0, 0] ∧ win0_9.index t = ![1, 0, 0] ∧ win0_10.index t = ![t.val / 11, 0] :=
  (by decide +kernel : ∀ t : Fin grid0.N, _)

variable (t : Fin cfg0.N)

theorem tile_lt : t.val / 11 < 32 := by have h := lt_N t; omega
theorem block_lt : t.val % 11 < 11 := Nat.mod_lt _ (by norm_num)

/-- A tile's rows are rows of one sequence. -/
theorem x_block (r : Fin 512) (k : Fin 2048) :
    iblk m c 0 t (ix2 r k) = at3 (argX m c) (t.val / 11 / 4) (512 * (t.val / 11 % 4) + r.val) k.val := by
  have h0 := tile_lt t
  have hr := r.isLt
  have e : ((cfg0.win 0).blk t).view.emb (ix2 r k) = ix2 (⟨512 * (t.val / 11) + r.val, by omega⟩ : Fin 16384) k := by
    blk_ext [index_maps t]
  show V m c main_v2 (((cfg0.win 0).blk t).view.emb (ix2 r k)) = _
  rw [e]
  entry_read
  refine (shapeCast_apply _ shapeCasts_S8x2048x2048_S16384x2048 _ (ix3 (⟨t.val / 11 / 4, by omega⟩ : Fin 8)
    (⟨512 * (t.val / 11 % 4) + r.val, by omega⟩ : Fin 2048) k) ?_).trans (at3_of (argX m c) _ rfl rfl rfl)
  rw [Shape.rowMajor_val_three, Shape.rowMajor_val_two]
  show (t.val / 11 / 4 * 2048 + (512 * (t.val / 11 % 4) + r.val)) * 2048 + k.val = (512 * (t.val / 11) + r.val) * 2048 + k.val
  omega

/-- The first half's weights of a block of hidden channels, -/
theorem up_block (k : Fin 2048) (ch : Fin 512) : iblk m c 1 t (ix3 (0 : Fin 1) k ch) = at3 (argW m c) 1 k.val (512 * (t.val % 11) + ch.val) := by
  have h1 := block_lt t
  have hch := ch.isLt
  have e : ((cfg0.win 1).blk t).view.emb (ix3 (0 : Fin 1) k ch) = ix3 (1 : Fin 2) k (⟨512 * (t.val % 11) + ch.val, by omega⟩ : Fin 11264) := by
    blk_ext [index_maps t]
  show V m c main_v0 (((cfg0.win 1).blk t).view.emb (ix3 (0 : Fin 1) k ch)) = _
  rw [e]
  entry_read
  exact at3_of (argW m c) _ rfl rfl rfl

/-- and the second half's. -/
theorem up_block' (k : Fin 2048) (ch : Fin 512) :
    iblk m c 2 t (ix3 (0 : Fin 1) k ch) = at3 (argW m c) 1 k.val (5632 + (512 * (t.val % 11) + ch.val)) := by
  have h1 := block_lt t
  have hch := ch.isLt
  have e : ((cfg0.win 2).blk t).view.emb (ix3 (0 : Fin 1) k ch)
      = ix3 (1 : Fin 2) k (⟨5632 + (512 * (t.val % 11) + ch.val), by omega⟩ : Fin 11264) := by
    blk_ext [index_maps t]
  show V m c main_v0 (((cfg0.win 2).blk t).view.emb (ix3 (0 : Fin 1) k ch)) = _
  rw [e]
  entry_read
  exact at3_of (argW m c) _ rfl rfl rfl

/-- The first half's taps, -/
theorem tap_block (k : Fin 3) (ch : Fin 512) : iblk m c 3 t (ix3 (0 : Fin 1) k ch) = at3 (argT m c) 1 k.val (512 * (t.val % 11) + ch.val) := by
  have h1 := block_lt t
  have hch := ch.isLt
  have e : ((cfg0.win 3).blk t).view.emb (ix3 (0 : Fin 1) k ch) = ix3 (1 : Fin 2) k (⟨512 * (t.val % 11) + ch.val, by omega⟩ : Fin 11264) := by
    blk_ext [index_maps t]
  show V m c main_arg2 (((cfg0.win 3).blk t).view.emb (ix3 (0 : Fin 1) k ch)) = _
  rw [e, V_main_arg2]
  exact at3_of (argT m c) _ rfl rfl rfl

/-- and the second half's. -/
theorem tap_block' (k : Fin 3) (ch : Fin 512) :
    iblk m c 4 t (ix3 (0 : Fin 1) k ch) = at3 (argT m c) 1 k.val (5632 + (512 * (t.val % 11) + ch.val)) := by
  have h1 := block_lt t
  have hch := ch.isLt
  have e : ((cfg0.win 4).blk t).view.emb (ix3 (0 : Fin 1) k ch)
      = ix3 (1 : Fin 2) k (⟨5632 + (512 * (t.val % 11) + ch.val), by omega⟩ : Fin 11264) := by
    blk_ext [index_maps t]
  show V m c main_arg2 (((cfg0.win 4).blk t).view.emb (ix3 (0 : Fin 1) k ch)) = _
  rw [e, V_main_arg2]
  exact at3_of (argT m c) _ rfl rfl rfl

/-- The first half's bias, -/
theorem bias_block (ch : Fin 512) : iblk m c 5 t (ix3 (0 : Fin 1) (0 : Fin 1) ch) = at2 (argB m c) 1 (512 * (t.val % 11) + ch.val) := by
  have h1 := block_lt t
  have hch := ch.isLt
  have e : ((cfg0.win 5).blk t).view.emb (ix3 (0 : Fin 1) (0 : Fin 1) ch)
      = ix3 (1 : Fin 2) (0 : Fin 1) (⟨512 * (t.val % 11) + ch.val, by omega⟩ : Fin 11264) := by
    blk_ext [index_maps t]
  show V m c main_v3 (((cfg0.win 5).blk t).view.emb (ix3 (0 : Fin 1) (0 : Fin 1) ch)) = _
  rw [e]
  entry_read
  pointwise
  exact at2_of (argB m c) _ rfl rfl

/-- and the second half's. -/
theorem bias_block' (ch : Fin 512) : iblk m c 6 t (ix3 (0 : Fin 1) (0 : Fin 1) ch) = at2 (argB m c) 1 (5632 + (512 * (t.val % 11) + ch.val)) := by
  have h1 := block_lt t
  have hch := ch.isLt
  have e : ((cfg0.win 6).blk t).view.emb (ix3 (0 : Fin 1) (0 : Fin 1) ch)
      = ix3 (1 : Fin 2) (0 : Fin 1) (⟨5632 + (512 * (t.val % 11) + ch.val), by omega⟩ : Fin 11264) := by
    blk_ext [index_maps t]
  show V m c main_v3 (((cfg0.win 6).blk t).view.emb (ix3 (0 : Fin 1) (0 : Fin 1) ch)) = _
  rw [e]
  entry_read
  pointwise
  exact at2_of (argB m c) _ rfl rfl

/-- A block's weights of the projection back. -/
theorem down_block (ch : Fin 512) (n : Fin 2048) : iblk m c 7 t (ix3 (0 : Fin 1) ch n) = at3 (argD m c) 1 (512 * (t.val % 11) + ch.val) n.val := by
  have h1 := block_lt t
  have hch := ch.isLt
  have e : ((cfg0.win 7).blk t).view.emb (ix3 (0 : Fin 1) ch n) = ix3 (1 : Fin 2) (⟨512 * (t.val % 11) + ch.val, by omega⟩ : Fin 5632) n := by
    blk_ext [index_maps t]
  show V m c main_v1 (((cfg0.win 7).blk t).view.emb (ix3 (0 : Fin 1) ch n)) = _
  rw [e]
  entry_read
  exact at3_of (argD m c) _ rfl rfl rfl

/-- The layer norm's scale, -/
theorem scale_block (n : Fin 2048) : iblk m c 8 t (ix3 (0 : Fin 1) (0 : Fin 1) n) = at2 (argG m c) 1 n.val := by
  have e : ((cfg0.win 8).blk t).view.emb (ix3 (0 : Fin 1) (0 : Fin 1) n) = ix3 (1 : Fin 2) (0 : Fin 1) n := by
    blk_ext [index_maps t]
  show V m c main_v4 (((cfg0.win 8).blk t).view.emb (ix3 (0 : Fin 1) (0 : Fin 1) n)) = _
  rw [e]
  entry_read
  pointwise
  exact at2_of (argG m c) _ rfl rfl

/-- and its shift. -/
theorem shift_block (n : Fin 2048) : iblk m c 9 t (ix3 (0 : Fin 1) (0 : Fin 1) n) = at2 (argH m c) 1 n.val := by
  have e : ((cfg0.win 9).blk t).view.emb (ix3 (0 : Fin 1) (0 : Fin 1) n) = ix3 (1 : Fin 2) (0 : Fin 1) n := by
    blk_ext [index_maps t]
  show V m c main_v5 (((cfg0.win 9).blk t).view.emb (ix3 (0 : Fin 1) (0 : Fin 1) n)) = _
  rw [e]
  entry_read
  pointwise
  exact at2_of (argH m c) _ rfl rfl

end Cert.ChannelMixer

end
-- ==== Proof.Ffn.Array.lean ====
/- The channel mixer's result after the run is the channel mixer. -/
module

public import proofs.«01_k».proof.Proof.Ffn.Blocks

@[expose] public section

set_option maxRecDepth 16384

noncomputable section

namespace Cert.ChannelMixer

open Cert.FfnIdeal Cert.FfnIdeal.Gen Idealize.ShloMosaic Idealize.ShloMosaic.TcCoe Idealize.SL.Sem
open Cert.Fox (at3 at3_of)

variable (m : (ℓ : Loc nD τ sig) → Buf (Elt Ideal) ℓ) (c : Dev nD) (t : Fin cfg0.N)

/-- The sequence of a point's tile, -/
abbrev seq : ℕ := t.val / 11 / 4
/-- the tile's first token in it, -/
abbrev tok : ℕ := 512 * (t.val / 11 % 4)
/-- and the point's first hidden channel. -/
abbrev chan : ℕ := 512 * (t.val % 11)

theorem rows_entry (r : Fin 512) (k : Fin 2048) : rows m c t (ix2 r k) = at3 (argX m c) (seq t) (tok t + r.val) k.val := by
  have e : (first t).val / 11 = t.val / 11 := by show 11 * (t.val / 11) / 11 = t.val / 11; omega
  have h := x_block m c (first t) r k
  rw [e] at h
  exact (pay4_entry _ _).trans h

/-- A point's projections, first half, -/
theorem projA_entry (r ch : Fin 512) : projA m c t (ix2 r ch) = proj (argX m c) (argW m c) (seq t) (tok t + r.val) (chan t + ch.val) :=
  (pay8_entry _ _ r ch).trans (Finset.sum_congr rfl fun k _ => congrArg₂ (· * ·) (rows_entry m c t r k) (up_block m c t k ch))
/-- and second half. -/
theorem projB_entry (r ch : Fin 512) : projB m c t (ix2 r ch) = proj (argX m c) (argW m c) (seq t) (tok t + r.val) (5632 + (chan t + ch.val)) :=
  (pay8_entry _ _ r ch).trans (Finset.sum_congr rfl fun k _ => congrArg₂ (· * ·) (rows_entry m c t r k) (up_block' m c t k ch))

/-- The padded buffer holds the projections of the tile and of the tokens before it, zeros before the sequence's start. -/
theorem padded_entry (o : ℕ) (P : Fin cfg0.N → Vec Ideal S512x512 .f32)
    (hP : ∀ t r ch, P t (ix2 r ch) = proj (argX m c) (argW m c) (seq t) (tok t + r.val) (o + (chan t + ch.val)))
    (q : Fin 520) (hq : 6 ≤ q.val) (ch : Fin 512) :
    padded (if t.val / 11 % 4 = 0 then fun _ => Scalar.ofBits .f32 0x00000000#32
        else lastEight (P ⟨t.val - 11, lt_of_le_of_lt (Nat.sub_le _ _) t.isLt⟩)) (P t) (ix2 q ch)
      = past (argX m c) (argW m c) (seq t) (tok t + (q.val - 6)) (o + (chan t + ch.val)) := by
  have hqb := q.isLt
  have ht := lt_N t
  unfold padded past
  by_cases h8 : q.val < 8
  · rw [dif_pos (show ((ix2 q ch : S520x512.Idx) 0).val < 8 from h8)]
    by_cases h4 : t.val / 11 % 4 = 0
    · rw [if_pos h4, if_pos (by show 512 * (t.val / 11 % 4) + (q.val - 6) < 2; omega)]
      exact zero_bits
    · rw [if_neg h4, if_neg (by show ¬ 512 * (t.val / 11 % 4) + (q.val - 6) < 2; omega)]
      refine (hP ⟨t.val - 11, lt_of_le_of_lt (Nat.sub_le _ _) t.isLt⟩ (⟨504 + q.val, by omega⟩ : Fin 512) ch).trans ?_
      have e0 : (t.val - 11) / 11 / 4 = t.val / 11 / 4 := by omega
      have e1 : 512 * ((t.val - 11) / 11 % 4) + (504 + q.val) = 512 * (t.val / 11 % 4) + (q.val - 6) - 2 := by omega
      have e2 : (t.val - 11) % 11 = t.val % 11 := by omega
      show proj _ _ ((t.val - 11) / 11 / 4) (512 * ((t.val - 11) / 11 % 4) + (504 + q.val)) (o + (512 * ((t.val - 11) % 11) + ch.val)) = _
      rw [e0, e1, e2]
  · rw [dif_neg (show ¬ ((ix2 q ch : S520x512.Idx) 0).val < 8 from h8),
      if_neg (by show ¬ 512 * (t.val / 11 % 4) + (q.val - 6) < 2; omega)]
    refine (hP t (⟨q.val - 8, by omega⟩ : Fin 512) ch).trans ?_
    have e1 : 512 * (t.val / 11 % 4) + (q.val - 8) = 512 * (t.val / 11 % 4) + (q.val - 6) - 2 := by omega
    show proj _ _ _ (512 * (t.val / 11 % 4) + (q.val - 8)) _ = _
    rw [e1]

/-- A convolved block of hidden channels. -/
theorem hidden_entry (o : ℕ) (H : Vec Ideal S520x512 .f32) (cb : Vec Ideal S1x1x512 .f32) (cw : Vec Ideal S1x3x512 .f32)
    (hH : ∀ q : Fin 520, 6 ≤ q.val → ∀ ch : Fin 512,
      H (ix2 q ch) = past (argX m c) (argW m c) (seq t) (tok t + (q.val - 6)) (o + (chan t + ch.val)))
    (hb : ∀ ch : Fin 512, cb (ix3 (0 : Fin 1) (0 : Fin 1) ch) = at2 (argB m c) 1 (o + (chan t + ch.val)))
    (hw : ∀ (k : Fin 3) (ch : Fin 512), cw (ix3 (0 : Fin 1) k ch) = at3 (argT m c) 1 k.val (o + (chan t + ch.val))) (r ch : Fin 512) :
    conv cb cw H (ix2 r ch)
      = hidden (argX m c) (argW m c) (argT m c) (argB m c) (seq t) (tok t + r.val) (o + (chan t + ch.val)) := by
  have hr := r.isLt
  have e0 : tok t + (6 + r.val - 6) = tok t + r.val := by omega
  have e1 : tok t + (7 + r.val - 6) = tok t + r.val + 1 := by omega
  have e2 : tok t + (8 + r.val - 6) = tok t + r.val + 2 := by omega
  rw [conv_entry, hb, hw, hw, hw, hH _ (by show 6 ≤ 6 + r.val; omega), hH _ (by show 6 ≤ 7 + r.val; omega), hH _ (by show 6 ≤ 8 + r.val; omega)]
  show _ + _ * past _ _ _ (tok t + (6 + r.val - 6)) _ + _ * past _ _ _ (tok t + (7 + r.val - 6)) _ + _ * past _ _ _ (tok t + (8 + r.val - 6)) _ = _
  rw [e0, e1, e2]
  rfl

/-- The channels' terms of an entry of the residual stream. -/
abbrev term (b s n ch : ℕ) : EReal := gated (argX m c) (argW m c) (argT m c) (argB m c) b s ch * at3 (argD m c) 1 ch n

/-- A point adds its block's terms. -/
theorem added_entry (Y : Vec Ideal S512x2048 .f32) (r : Fin 512) (n : Fin 2048) :
    addedAt m c t Y (ix2 r n) = Y (ix2 r n) + ∑ ch : Fin 512, term m c (seq t) (tok t + r.val) n.val (chan t + ch.val) := by
  refine (pay1_entry _ _ _ _ r n).trans (congrArg _ (Finset.sum_congr rfl fun ch _ => ?_))
  have hA : ∀ t (r ch : Fin 512), projA m c t (ix2 r ch)
      = proj (argX m c) (argW m c) (seq t) (tok t + r.val) (0 + (chan t + ch.val)) := fun t r ch => by
    rw [Nat.zero_add]; exact projA_entry m c t r ch
  have ha := hidden_entry m c t 0 _ (iblk m c 5 t) (iblk m c 3 t) (fun q hq ch => padded_entry m c t 0 (projA m c) hA q hq ch)
    (fun ch => by rw [Nat.zero_add]; exact bias_block m c t ch) (fun k ch => by rw [Nat.zero_add]; exact tap_block m c t k ch) r ch
  have hb := hidden_entry m c t 5632 _ (iblk m c 6 t) (iblk m c 4 t) (fun q hq ch => padded_entry m c t 5632 (projB m c) (projB_entry m c) q hq ch)
    (bias_block' m c t) (tap_block' m c t) r ch
  rw [Nat.zero_add] at ha
  exact congrArg₂ (· * ·) (congrArg₂ gate ha hb) (down_block m c t ch n)

/-- What a point's accumulator starts from. -/
def startAt : Vec Ideal S512x2048 .f32 :=
  if t.val % 11 = 0 then k0_pay5 (iblk m c 0 t) else outsAt m c (t.val - 1) (lt_of_le_of_lt (Nat.sub_le _ _) t.isLt)

theorem outsAt_eq : outsAt m c t.val t.isLt = leftAt m c t (startAt m c t) := by
  unfold startAt
  by_cases h : t.val % 11 = 0
  · rw [if_pos h]; exact outsAt_first m c t h
  · rw [if_neg h]; exact outsAt_next m c t h

/-- After a point the accumulator holds the scaled stream and the terms of the channels so far. -/
theorem acc_entry (r : Fin 512) (n : Fin 2048) (j : ℕ) : ∀ t : Fin cfg0.N, t.val % 11 = j →
    addedAt m c t (startAt m c t) (ix2 r n) = Ideal.ofBits .f32 0x3FB504F3#32 * at3 (argX m c) (seq t) (tok t + r.val) n.val
      + ∑ ch ∈ Finset.range (512 * (j + 1)), term m c (seq t) (tok t + r.val) n.val ch := by
  induction j with
  | zero =>
    intro t h
    rw [added_entry, startAt, if_pos h, pay5_entry, x_block, Finset.sum_range]
    have e : chan t = 0 := by show 512 * (t.val % 11) = 0; omega
    rw [e]
    exact congrArg _ (Finset.sum_congr rfl fun ch _ => by rw [Nat.zero_add])
  | succ j ih =>
    intro t h
    have ht := lt_N t
    have hp := ih ⟨t.val - 1, lt_of_le_of_lt (Nat.sub_le _ _) t.isLt⟩ (by show (t.val - 1) % 11 = j; omega)
    have e0 : (t.val - 1) / 11 = t.val / 11 := by omega
    have eo : outsAt m c (t.val - 1) (lt_of_le_of_lt (Nat.sub_le _ _) t.isLt)
        = addedAt m c ⟨t.val - 1, lt_of_le_of_lt (Nat.sub_le _ _) t.isLt⟩ (startAt m c ⟨t.val - 1, lt_of_le_of_lt (Nat.sub_le _ _) t.isLt⟩) :=
      (outsAt_eq m c ⟨t.val - 1, lt_of_le_of_lt (Nat.sub_le _ _) t.isLt⟩).trans (if_neg (by show ¬ (t.val - 1) % 11 = 10; omega))
    rw [added_entry, startAt, if_neg (by omega), eo, hp]
    show _ * at3 _ ((t.val - 1) / 11 / 4) (512 * ((t.val - 1) / 11 % 4) + r.val) _
      + (∑ ch ∈ _, term m c ((t.val - 1) / 11 / 4) (512 * ((t.val - 1) / 11 % 4) + r.val) n.val ch) + _ = _
    rw [e0, add_assoc, show 512 * (j + 1 + 1) = 512 * (j + 1) + 512 by omega, Finset.sum_range_add, Finset.sum_range (n := 512)]
    have e : chan t = 512 * (j + 1) := by show 512 * (t.val % 11) = _; rw [h]
    rw [e]

/-- A tile's last point leaves the tile's rows of the channel mixer. -/
theorem outs_entry (h : t.val % 11 = 10) (r : Fin 512) (n : Fin 2048) : outsAt m c t.val t.isLt (ix2 r n)
    = mixer (argX m c) (argW m c) (argT m c) (argB m c) (argD m c) (argG m c) (argH m c)
      (ix2 (⟨512 * (t.val / 11) + r.val, by have h0 := tile_lt t; have hr := r.isLt; omega⟩ : Fin 16384) n) := by
  have h0 := tile_lt t
  have hr := r.isLt
  rw [outsAt_eq, leftAt, if_pos h, pay2_entry]
  unfold mixer
  have eb : (512 * (t.val / 11) + r.val) / 2048 = t.val / 11 / 4 := by omega
  have es : (512 * (t.val / 11) + r.val) % 2048 = 512 * (t.val / 11 % 4) + r.val := by omega
  show _ = normed (mixed _ _ _ _ _ ((512 * (t.val / 11) + r.val) / 2048) ((512 * (t.val / 11) + r.val) % 2048)) _ _ n.val
  rw [eb, es]
  refine normed_congr n.isLt (fun k hk => ?_) ?_ ?_
  · refine (at2_of (addedAt m c t (startAt m c t)) (ix2 r (⟨k, hk⟩ : Fin 2048)) rfl rfl).symm.trans
      ((acc_entry m c r ⟨k, hk⟩ 10 t h).trans ?_)
    exact congrArg _ (Finset.sum_range _)
  · exact (at3_of _ (ix3 (0 : Fin 1) (0 : Fin 1) n) rfl rfl rfl).symm.trans (scale_block m c t n)
  · exact (at3_of _ (ix3 (0 : Fin 1) (0 : Fin 1) n) rfl rfl rfl).symm.trans (shift_block m c t n)

/-- The result's array after the run is the channel mixer of the arguments. -/
theorem array_eq : (dats m 0 c).arrAt 10 cfg0.N
    = mixer (argX m c) (argW m c) (argT m c) (argB m c) (argD m c) (argG m c) (argH m c) := by
  refine (dats m 0 c).arrAt_eq_of_covers 10 _ (by decide +kernel) fun t hf y => ?_
  have h0 := tile_lt t
  have h : t.val % 11 = 10 := (flush0_10 t).mp hf
  obtain ⟨r, n, rfl⟩ : ∃ (r : Fin 512) (n : Fin 2048), y = ix2 r n := ⟨y 0, y 1, eq_ix2 y⟩
  have hr := r.isLt
  have e : ((cfg0.win 10).blk t).view.emb (ix2 r n) = ix2 (⟨512 * (t.val / 11) + r.val, by omega⟩ : Fin 16384) n := by
    blk_ext [index_maps t]
  rw [e]
  blk_simp
  rw [after_10]
  exact outs_entry m c t h r n

end Cert.ChannelMixer

end
-- ==== Proof.Ffn.Reference.lean ====
/- The channel mixer's reference computes the channel mixer. -/
module

public import proofs.«01_k».proof.Proof.Gen.FfnReferenceIdeal.Read
public import proofs.«01_k».proof.Proof.Ffn.Spec
public import Idealize.ShloMosaic.Lib.KernelVsHost
public import Idealize.ShloMosaic.Lib.IdealHost

@[expose] public section

set_option maxRecDepth 16384

noncomputable section

namespace Cert.ChannelMixer.Reference

open Cert.FfnReferenceIdeal Cert.FfnReferenceIdeal.Gen Idealize.ShloMosaic Idealize.ShloMosaic.TcCoe Idealize.SL.Sem
open Cert.FfnReferenceIdeal.Read
open Cert.Fox (at3 at3_of)

variable (X : (⟨3, ![8, 2048, 2048]⟩ : Shape).Idx → EReal) (W : (⟨3, ![2, 2048, 11264]⟩ : Shape).Idx → EReal)
  (T : (⟨3, ![2, 3, 11264]⟩ : Shape).Idx → EReal) (B : (⟨2, ![2, 11264]⟩ : Shape).Idx → EReal)
  (D : (⟨3, ![2, 5632, 2048]⟩ : Shape).Idx → EReal) (G H : (⟨2, ![2, 2048]⟩ : Shape).Idx → EReal)

theorem zero_constant : Ideal.ofBits .f32 0x00000000#32 = 0 := by simp [Ideal.ofBits, Ideal.ieee]
theorem one_constant : Ideal.ofBits .f32 0x3F800000#32 = 1 := Ideal.ofBits_one_f32

/-- The projections. -/
theorem proj_apply (i : S8x2048x11264.Idx) : val_main_v10 (F := Ideal) X W i = proj X W (i 0).val (i 1).val (i 2).val := by
  have h2 : (i 2).val < 11264 := (i 2).isLt
  rw [val_main_v10_apply]
  refine Finset.sum_congr rfl fun k _ => ?_
  have hk := k.isLt
  rw [val_main_v3_apply, val_main_v2_apply]
  refine congrArg₂ (· * ·) (at3_of X _ rfl rfl rfl) (at3_of W _ rfl ?_ ?_)
  all_goals (dsimp only [idx_main_v2, idx_main_v3, ridx_main_v10]; omega)

/-- The padded projections. -/
theorem past_apply (i : S8x2050x11264.Idx) : val_main_v11 (F := Ideal) X W i = past X W (i 0).val (i 1).val (i 2).val := by
  have h0 : (i 0).val < 8 := (i 0).isLt
  have h1 : (i 1).val < 2050 := (i 1).isLt
  have h2 : (i 2).val < 11264 := (i 2).isLt
  unfold val_main_v11 past
  by_cases h : (i 1).val < 2
  · rw [if_pos h, pad_apply_of_not_inside (a := 1)]
    · show ((((0#32 : BitVec 32).toInt : ℝ)) : EReal) = 0
      simp
    · intro hh
      have : 2 ≤ (i 1).val := hh.1
      omega
  · rw [if_neg h]
    let k : S8x2048x11264.Idx := ix3 (i 0 : Fin 8) ⟨(i 1).val - 2, by omega⟩ (i 2 : Fin 11264)
    refine (pad_apply_of_inside (s := S8x2048x11264) (k := k) _ _ _ _ _ _ _ _ ?_).trans (proj_apply X W k)
    · intro a
      match a with
      | ⟨0, _⟩ => show (i 0).val = 0 + (i 0).val * 1; omega
      | ⟨1, _⟩ => show (i 1).val = 2 + ((i 1).val - 2) * 1; omega
      | ⟨2, _⟩ => show (i 2).val = 0 + (i 2).val * 1; omega

/-- The hidden channels. -/
theorem hidden_apply (i : S8x2048x11264.Idx) : val_main_v36 (F := Ideal) X W T B i = hidden X W T B (i 0).val (i 1).val (i 2).val := by
  have h2 : (i 2).val < 11264 := (i 2).isLt
  rw [val_main_v36_apply, val_main_v35_apply, val_main_v34_apply, val_main_v7_apply, val_main_v6_apply, val_main_v33_apply, val_main_v32_apply,
    val_main_v31_apply, val_main_v30_apply, val_main_v28_apply, val_main_v27_apply, val_main_v29_apply, val_main_v26_apply, val_main_v25_apply,
    val_main_v24_apply, val_main_v23_apply, val_main_v21_apply, val_main_v20_apply, val_main_v22_apply, val_main_v19_apply, val_main_v17_apply,
    val_main_v16_apply, val_main_v15_apply, val_main_v13_apply, val_main_v12_apply, val_main_v14_apply, val_main_v18_apply, val_main_cst_0_apply,
    past_apply, past_apply, past_apply, val_main_v5_apply, val_main_v5_apply, val_main_v5_apply, val_main_v4_apply, val_main_v4_apply,
    val_main_v4_apply]
  show B _ + (((Ideal.ofBits .f32 0x00000000#32 + T _ * _) + T _ * _) + T _ * _) = _
  rw [zero_constant, zero_add, ← add_assoc, ← add_assoc]
  unfold hidden
  refine congrArg₂ (· + ·) (congrArg₂ (· + ·) (congrArg₂ (· + ·) (at2_of B _ ?_ ?_) (congrArg₂ (· * ·) (at3_of T _ ?_ ?_ ?_) ?_))
    (congrArg₂ (· * ·) (at3_of T _ ?_ ?_ ?_) ?_)) (congrArg₂ (· * ·) (at3_of T _ ?_ ?_ ?_) ?_)
  all_goals first
    | rfl
    | (dsimp only [idx_main_v4, idx_main_v5, idx_main_v6, idx_main_v7, idx_main_v12, idx_main_v13, idx_main_v15, idx_main_v16, idx_main_v20,
        idx_main_v21, idx_main_v23, idx_main_v24, idx_main_v27, idx_main_v28, idx_main_v30, idx_main_v31, idx_main_v34, idx_main_v35]; omega)
    | exact congrArg (fun n => past X W _ n _) (Nat.add_comm _ _)

/-- The gated hidden state. -/
theorem gated_apply (i : S8x2048x5632.Idx) : val_main_v46 (F := Ideal) X W T B i = gated X W T B (i 0).val (i 1).val (i 2).val := by
  rw [val_main_v46_apply, val_main_v45_apply, val_main_v40_apply, val_main_v39_apply, val_main_cst_1_apply, val_main_v44_apply, val_main_v43_apply,
    val_main_v42_apply, val_main_cst_2_apply, val_main_v41_apply, val_main_v37_apply, val_main_v38_apply, hidden_apply, hidden_apply]
  show Ideal.ofBits .f32 0x3F000000#32 * hidden X W T B (i 0).val (i 1).val (i 2).val
      * Ideal.erfc (-hidden X W T B (i 0).val (i 1).val (i 2).val * Ideal.ofBits .f32 0x3F3504F3#32)
      * hidden X W T B (i 0).val (i 1).val (5632 + (i 2).val) = _
  rw [gated, gate, neg_mul, Ideal.erfc_neg, one_constant]

/-- The residual stream. -/
theorem mixed_apply (i : S8x2048x2048.Idx) : val_main_v48 (F := Ideal) X W T B D i = mixed X W T B D (i 0).val (i 1).val (i 2).val := by
  have h2 : (i 2).val < 2048 := (i 2).isLt
  rw [val_main_v48_apply, val_main_v1_apply, val_main_v0_apply, val_main_cst_apply, val_main_v47_apply]
  refine congrArg₂ (· + ·) (congrArg₂ (· * ·) rfl (at3_of X _ rfl rfl rfl)) (Finset.sum_congr rfl fun k _ => ?_)
  have hk := k.isLt
  rw [gated_apply, val_main_v9_apply, val_main_v8_apply]
  refine congrArg₂ (· * ·) rfl (at3_of D _ rfl ?_ ?_)
  all_goals (dsimp only [idx_main_v8, idx_main_v9, ridx_main_v47]; omega)

/-- The mean of a row. -/
theorem mean_apply (i : S8x2048x1.Idx) : val_main_v56 (F := Ideal) X W T B D i = mean (mixed X W T B D (i 0).val (i 1).val) := by
  rw [val_main_v56_apply, val_main_v54_apply, val_main_v53_apply, val_main_v55_apply, val_main_cst_4_apply, val_main_cst_3_apply]
  show Ideal.div (Ideal.ofBits .f32 0x00000000#32 + _) _ = _
  rw [zero_constant, zero_add]
  exact congrArg (Ideal.div · _) (Finset.sum_congr rfl fun k _ => mixed_apply X W T B D _)

/-- The variance of a row. -/
theorem var_apply (i : S8x2048x1.Idx) : val_main_v63 (F := Ideal) X W T B D i = mean fun n =>
    (mixed X W T B D (i 0).val (i 1).val n - mean (mixed X W T B D (i 0).val (i 1).val))
      * (mixed X W T B D (i 0).val (i 1).val n - mean (mixed X W T B D (i 0).val (i 1).val)) := by
  rw [val_main_v63_apply, val_main_v61_apply, val_main_v60_apply, val_main_v62_apply, val_main_cst_6_apply, val_main_cst_5_apply]
  show Ideal.div (Ideal.ofBits .f32 0x00000000#32 + _) _ = _
  rw [zero_constant, zero_add]
  refine congrArg (Ideal.div · _) (Finset.sum_congr rfl fun k _ => ?_)
  rw [val_main_v59_apply, val_main_v58_apply, val_main_v57_apply, mixed_apply, mean_apply]
  rfl

/-- The reference's result is the channel mixer. -/
theorem result_eq : val_main_v77 (F := Ideal) X W T B D G H = mixer X W T B D G H := by
  funext i
  have h0 : (i 0).val < 16384 := (i 0).isLt
  have h1 : (i 1).val < 2048 := (i 1).isLt
  rw [val_main_v77_apply, val_main_v76_apply, val_main_v73_apply, val_main_v70_apply, val_main_v65_apply, val_main_v64_apply, val_main_v69_apply,
    val_main_v68_apply, val_main_v67_apply, val_main_v66_apply, val_main_cst_7_apply, val_main_v72_apply, val_main_v71_apply, val_main_v50_apply,
    val_main_v49_apply, val_main_v75_apply, val_main_v74_apply, val_main_v52_apply, val_main_v51_apply, mixed_apply, mean_apply, var_apply]
  have e0 : ((i 0).val * 2048 + (i 1).val) / 4194304 = (i 0).val / 2048 := by omega
  have e1 : ((i 0).val * 2048 + (i 1).val) / 2048 % 2048 = (i 0).val % 2048 := by omega
  have e2 : ((i 0).val * 2048 + (i 1).val) % 2048 = (i 1).val := by omega
  rw [at2_of G _ (i := 1) (j := (i 1).val) rfl ?_, at2_of H _ (i := 1) (j := (i 1).val) rfl ?_]
  · unfold mixer
    show normed (mixed X W T B D (((i 0).val * 2048 + (i 1).val) / 4194304) (((i 0).val * 2048 + (i 1).val) / 2048 % 2048))
      (fun _ => at2 G 1 (i 1).val) (fun _ => at2 H 1 (i 1).val) (((i 0).val * 2048 + (i 1).val) % 2048) = _
    rw [e0, e1, e2]
    exact normed_congr h1 (fun _ _ => rfl) rfl rfl
  all_goals (dsimp only [idx_main_v49, idx_main_v50, idx_main_v51, idx_main_v52, idx_main_v71, idx_main_v72, idx_main_v74, idx_main_v75, idx_main_v77]; omega)

end Cert.ChannelMixer.Reference

end
-- ==== Proof.Ffn.Claims.lean ====
/- The claims about the channel mixer. -/
module

public import proofs.«01_k».proof.Defs
public import proofs.«01_k».proof.Proof.Gen.Ffn.Frame
public import proofs.«01_k».proof.Proof.Ffn.Array
public import proofs.«01_k».proof.Proof.Ffn.Reference
public import Idealize.ShloMosaic.Lib.Quiescent

@[expose] public section

set_option maxRecDepth 65536

noncomputable section

namespace Cert.ChannelMixer

open Idealize.ShloMosaic Idealize.SL.Sem

section Same

set_option maxHeartbeats 4000000
set_option backward.isDefEq.respectTransparency false

/-- The call's program and its idealized program have the same body, -/
theorem bodies_eq : Cert.Ffn.defs₀ (F := Bits) = Cert.FfnIdeal.defs₀ (F := Bits) := by
  unfold Cert.Ffn.defs₀ Cert.FfnIdeal.defs₀
  refine congrArg Defs.onTc (funext fun l => funext fun a => ?_)
  match l, a with
  | 0, (t, s) => rfl
  | ⟨_ + 1, h⟩, _ => exact absurd h (Nat.not_lt.2 (Nat.le_add_left _ _))

/-- and the same pipeline. -/
theorem defs_eq : Cert.Ffn.defs (F := Bits) = Cert.FfnIdeal.defs (F := Bits) :=
  congrArg (Pipeline.defs (Cert.FfnIdeal.pcfgs (F := Bits))) bodies_eq

/-- The call runs, leaves its arguments alone and every counter at zero. -/
theorem frame_kernel : Cert.quiescent_Ffn := fun m ρ _ => by
  rw [defs_eq]
  exact frame_any (F := Bits) m ρ

end Same

/-- So does its idealized program. -/
theorem frame_ideal : Cert.quiescent_FfnIdeal := fun m ρ _ => frame_any (F := Ideal) m ρ

/-- The reference runs, leaves its arguments alone and every counter at zero. -/
theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The idealized program rewrites nothing. -/
theorem preserves : Cert.preserves_Ffn_FfnIdeal := trivial

/-- Call and reference both end with the channel mixer `mixer` of the arguments. -/
theorem algebraic : @Cert.algebraic_FfnIdeal_FfnReferenceIdeal Cert.FfnIdeal.Gen.facts Cert.FfnReferenceIdeal.Gen.facts := by
  intro m ρ m' ρ' _ hagree
  refine ⟨fun c => mixer (argX m c) (argW m c) (argT m c) (argB m c) (argD m c) (argG m c) (argH m c), ?_, ?_⟩
  · refine (θ_run Cert.FfnIdeal.defs _ _).mono (fun _ h c => ⟨((h.1 c).1 10).trans (array_eq m c), h.2 c⟩)
      (θ_run_and (run_arrays (F := Ideal) m ρ) (unchanged (F := Ideal) m ρ))
  · refine (θ_run Cert.FfnReferenceIdeal.defs _ _).mono (fun _ h c => ⟨(h c).1.trans ?_, (h c).2⟩)
      (Cert.FfnReferenceIdeal.Value.run (F := Ideal) m' ρ')
    obtain ⟨h0, h1, h2, h3, h4, h5, h6⟩ := hagree c
    rw [Cert.FfnReferenceIdeal.Read.val_main_v77_eq, h0, h1, h2, h3, h4, h5, h6]
    exact Reference.result_eq _ _ _ _ _ _ _

end Cert.ChannelMixer

end
-- ==== Proof.Merge.Outs.lean ====
/- What a grid point of the merge leaves in its result's block and in its scratch, as the body's values of vectors. -/
module

public import proofs.«01_k».proof.Proof.Gen.MergeIdeal.Value
public import proofs.«01_k».proof.Proof.Ffn.Spec
public import Idealize.ShloMosaic.Lib.Pipeline.ReadBack

@[expose] public section

set_option maxRecDepth 16384

noncomputable section

namespace Cert.Merge

open Cert.MergeIdeal Cert.MergeIdeal.Gen Idealize.ShloMosaic Idealize.ShloMosaic.TcCoe Idealize.SL.Sem

variable (m : (ℓ : Loc nD τ sig) → Buf (Elt Ideal) ℓ) (c : Dev nD) (t : Fin cfg0.N)

/-- The accumulator with a point's block of channels added, the rounded rows being `X`. -/
def addedAt (X : Vec Ideal S512x2048 .bf16) (Y : Vec Ideal S512x2048 .f32) : Vec Ideal S512x2048 .f32 :=
  k0_pay1 X (k0_pay6 X (iblk m c 4 t) (iblk m c 7 t) (iblk m c 1 t) (iblk m c 10 t)) (k0_pay7 X (iblk m c 5 t) (iblk m c 8 t))
    (k0_pay8 (iblk m c 2 t)) (iblk m c 11 t) (iblk m c 6 t) (iblk m c 9 t) (iblk m c 3 t) (iblk m c 12 t) Y (iblk m c 13 t)

/-- What the point before a point left. -/
abbrev prev : Vec Ideal S512x2048 .f32 × Vec Ideal S512x2048 .bf16 := outsAt0 m c (t.val - 1) (lt_of_le_of_lt (Nat.sub_le _ _) t.isLt)

/-- A tile's first point. -/
theorem outs_first (h : t.val % 4 = 0) :
    outsAt0 m c t.val t.isLt = (addedAt m c t (k0_pay4 (iblk m c 0 t)) (k0_pay5 (iblk m c 0 t)), k0_pay4 (iblk m c 0 t)) := by
  rw [outsAt0_A m c t h (by omega)]
  refine Prod.ext ?_ ?_
  · frame_out
    rfl
  · frame_out

/-- A point in between. -/
theorem outs_middle (h : ¬ t.val % 4 = 0) (h' : ¬ t.val % 4 = 3) :
    outsAt0 m c t.val t.isLt = (addedAt m c t (prev m c t).2 (prev m c t).1, (prev m c t).2) := by
  rw [outsAt0_B m c t h h']
  unfold prev
  generalize outsAt0 m c (t.val - 1) _ = o
  refine Prod.ext ?_ rfl
  frame_out
  simp only [read_unread_whole]
  rfl

/-- A tile's last point. -/
theorem outs_last (h' : t.val % 4 = 3) : outsAt0 m c t.val t.isLt
    = (k0_pay2 (addedAt m c t (prev m c t).2 (prev m c t).1) (iblk m c 14 t) (iblk m c 15 t), (prev m c t).2) := by
  rw [outsAt0_C m c t (by omega) h']
  unfold prev
  generalize outsAt0 m c (t.val - 1) _ = o
  refine Prod.ext ?_ rfl
  frame_out
  simp only [read_unread_whole]
  rfl

end Cert.Merge

end
-- ==== Proof.Merge.Entries.lean ====
/- The merge's values of vectors, entry by entry, on the extended reals. -/
module

public import proofs.«01_k».proof.Proof.Merge.Outs
public import proofs.«01_k».proof.Proof.Ffn.Entries

@[expose] public section

set_option maxRecDepth 16384

noncomputable section

namespace Cert.Merge

open Idealize.ShloMosaic Idealize.ShloMosaic.TcCoe
open Cert.MergeIdeal Cert.MergeIdeal.Gen
open Cert.Fox (at3 at3_of)
open Cert.ChannelMixer (at2 at2_of normed product drop3 over_rows)

/-- The rounded rows are the rows. -/
theorem pay4_entry (x : Vec Ideal S512x2048 .f32) (y : S512x2048.Idx) : k0_pay4 x y = x y :=
  Cert.ChannelMixer.pay4_entry x y

/-- The scaled rows. -/
theorem pay5_entry (x : Vec Ideal S512x2048 .f32) (y : S512x2048.Idx) : k0_pay5 x y = Ideal.ofBits .f32 0x3FB504F3#32 * x y :=
  Cert.ChannelMixer.pay5_entry x y

/-- A normalised row. -/
theorem pay2_entry (Y : Vec Ideal S512x2048 .f32) (g h : Vec Ideal S1x1x2048 .f32) (r : Fin 512) (n : Fin 2048) :
    k0_pay2 Y g h (ix2 r n) = normed (at2 Y r.val) (at3 g 0 0) (at3 h 0 0) n.val :=
  Cert.ChannelMixer.pay2_entry Y g h r n

/-- A block's gate. -/
def gateOf (X : Vec Ideal S512x2048 .bf16) (w : Vec Ideal S1x2048x512 .bf16) (b : Vec Ideal S1x1x512 .f32) (r ch : Fin 512) : EReal :=
  Ideal.logistic ((∑ k : Fin 2048, X (ix2 r k) * w (ix3 (0 : Fin 1) k ch)) + b (ix3 (0 : Fin 1) (0 : Fin 1) ch))

theorem gate_entry (X : Vec Ideal S512x2048 .bf16) (w : Vec Ideal S1x2048x512 .bf16) (b : Vec Ideal S1x1x512 .f32) (r ch : Fin 512) :
    k0_pay7 X w b (ix2 r ch) = gateOf X w b r ch := by
  unfold k0_pay7 gateOf
  refine congrArg Ideal.logistic (congrArg₂ (fun a b : EReal => a + b) ((product X (shapeCast S2048x512 w shapeCasts_S1x2048x512_S2048x512) r ch).trans ?_)
    (over_rows b _ _ r ch))
  exact Finset.sum_congr rfl fun k _ => congrArg _ (drop3 w _ k ch)

/-- A block's projection of a mixer's output. -/
def branchOf {n : ℕ} (o : FVec Ideal ⟨2, ![512, n]⟩ .bf16) (p : FVec Ideal ⟨3, ![1, n, 512]⟩ .bf16) (r ch : Fin 512) : EReal :=
  ∑ k : Fin n, o (ix2 r k) * p (ix3 (0 : Fin 1) k ch)

theorem branch_entry {n : ℕ} (o : FVec Ideal ⟨2, ![512, n]⟩ .bf16) (p : FVec Ideal ⟨3, ![1, n, 512]⟩ .bf16)
    (h : (⟨3, ![1, n, 512]⟩ : Shape).ShapeCasts ⟨2, ![n, 512]⟩) (h' : (⟨2, ![512, n]⟩ : Shape).ShapeCasts ⟨2, ![512, n]⟩) (r ch : Fin 512) :
    matmul (DotDims.plain 512 n 512) none (shapeCast ⟨2, ![512, n]⟩ o h') (shapeCast ⟨2, ![n, 512]⟩ p h)
      (constant (F := Ideal) ⟨2, ![512, 512]⟩ .f32 0x00000000#32) (ix2 r ch) = branchOf o p r ch := by
  rw [shapeCast_self]
  exact (product o (shapeCast ⟨2, ![n, 512]⟩ p h) r ch).trans (Finset.sum_congr rfl fun k _ => congrArg _ (drop3 p h k ch))

variable (X : Vec Ideal S512x2048 .bf16) (wa wb wc : Vec Ideal S1x2048x512 .bf16) (ba bb bc : Vec Ideal S1x1x512 .f32)
  (oa : Vec Ideal S512x256 .bf16) (ob : Vec Ideal S512x512 .bf16) (oc : Vec Ideal S512x768 .bf16)
  (pa : Vec Ideal S1x256x512 .bf16) (pb : Vec Ideal S1x512x512 .bf16) (pc : Vec Ideal S1x768x512 .bf16)

/-- The accumulator with a block's channels added. -/
theorem pay1_entry (Y : Vec Ideal S512x2048 .f32) (d : Vec Ideal S1x512x2048 .bf16) (r : Fin 512) (n : Fin 2048) :
    k0_pay1 X (k0_pay6 X wa ba oa pa) (k0_pay7 X wb bb) (k0_pay8 ob) pb wc bc oc pc Y d (ix2 r n)
      = Y (ix2 r n) + ∑ ch : Fin 512, (gateOf X wa ba r ch * branchOf oa pa r ch + gateOf X wb bb r ch * branchOf ob pb r ch
        + gateOf X wc bc r ch * branchOf oc pc r ch) * d (ix3 (0 : Fin 1) ch n) := by
  unfold k0_pay1
  refine congrArg₂ (fun a b : EReal => a + b) (congrFun (shapeCast_self _ _) _) ((product _ (shapeCast S512x2048 d shapeCasts_S1x512x2048_S512x2048) r n).trans ?_)
  refine Finset.sum_congr rfl fun ch _ => congrArg₂ (fun a b : EReal => a * b) ?_ (drop3 d _ ch n)
  refine congrArg₂ (fun a b : EReal => a + b) (congrArg₂ (fun a b : EReal => a + b) ?_ ?_) ?_
  · exact congrArg₂ (fun a b : EReal => a * b) (gate_entry X wa ba r ch) (branch_entry oa pa _ _ r ch)
  · exact congrArg₂ (fun a b : EReal => a * b) (gate_entry X wb bb r ch) (branch_entry ob pb _ _ r ch)
  · exact congrArg₂ (fun a b : EReal => a * b) (gate_entry X wc bc r ch) (branch_entry oc pc _ _ r ch)

end Cert.Merge

end
-- ==== Proof.Merge.Spec.lean ====
/- The merge of the mixers, as one function of its arguments. -/
module

public import proofs.«01_k».proof.Proof.Ffn.Spec

@[expose] public section

noncomputable section

namespace Cert.Merge

open Idealize.ShloMosaic
open Cert.Fox (at3 at3_of)
open Cert.ChannelMixer (at2 at2_of normed)

variable (X : (⟨3, ![8, 2048, 2048]⟩ : Shape).Idx → EReal) (OA : (⟨3, ![8, 2048, 256]⟩ : Shape).Idx → EReal)
  (OB : (⟨3, ![8, 2048, 512]⟩ : Shape).Idx → EReal) (OC : (⟨3, ![8, 2048, 768]⟩ : Shape).Idx → EReal)
  (W : (⟨3, ![2, 2048, 6144]⟩ : Shape).Idx → EReal) (B : (⟨2, ![2, 6144]⟩ : Shape).Idx → EReal)
  (PA : (⟨3, ![2, 256, 2048]⟩ : Shape).Idx → EReal) (PB : (⟨3, ![2, 512, 2048]⟩ : Shape).Idx → EReal)
  (PC : (⟨3, ![2, 768, 2048]⟩ : Shape).Idx → EReal) (D : (⟨3, ![2, 2048, 2048]⟩ : Shape).Idx → EReal)
  (G H : (⟨2, ![2, 2048]⟩ : Shape).Idx → EReal)

/-- A token's gate on a channel: sequence `b`, token `s`, channel `e` of the three mixers' 6144. -/
def gate (b s e : ℕ) : EReal := Ideal.logistic ((∑ k : Fin 2048, at3 X b s k * at3 W 1 k e) + at2 B 1 e)

/-- A mixer's output projected on a channel. -/
def branch {n : ℕ} (O : (⟨3, ![8, 2048, n]⟩ : Shape).Idx → EReal) (P : (⟨3, ![2, n, 2048]⟩ : Shape).Idx → EReal) (b s ch : ℕ) : EReal :=
  ∑ k : Fin n, at3 O b s k * at3 P 1 k ch

/-- The three mixers' projections, each times its gate. -/
def blend (b s ch : ℕ) : EReal :=
  gate X W B b s ch * branch OA PA b s ch + gate X W B b s (2048 + ch) * branch OB PB b s ch + gate X W B b s (4096 + ch) * branch OC PC b s ch

/-- The scaled residual stream with the blend projected. -/
def summed (b s n : ℕ) : EReal :=
  Ideal.ofBits .f32 0x3FB504F3#32 * at3 X b s n + ∑ ch : Fin 2048, blend X OA OB OC W B PA PB PC b s ch * at3 D 1 ch n

/-- The merge: token `s` of sequence `b` is row `2048 b + s`. -/
def merge (i : (⟨2, ![16384, 2048]⟩ : Shape).Idx) : EReal :=
  normed (summed X OA OB OC W B PA PB PC D ((i 0).val / 2048) ((i 0).val % 2048)) (at2 G 1) (at2 H 1) (i 1).val

end Cert.Merge

end
-- ==== Proof.Merge.Blocks.lean ====
/- What the merge's blocks hold, entry by entry, in terms of the call's arguments. -/
module

public import proofs.«01_k».proof.Proof.Merge.Entries
public import proofs.«01_k».proof.Proof.Merge.Spec

@[expose] public section

set_option maxRecDepth 16384

noncomputable section

namespace Cert.Merge

open Cert.MergeIdeal Cert.MergeIdeal.Gen Idealize.ShloMosaic Idealize.ShloMosaic.TcCoe Idealize.SL.Sem
open Cert.Fox (at3 at3_of)
open Cert.ChannelMixer (at2 at2_of)

variable (m : (ℓ : Loc nD τ sig) → Buf (Elt Ideal) ℓ) (c : Dev nD)

/-- The residual stream that the call is given, on a device; -/
abbrev argX : (⟨3, ![8, 2048, 2048]⟩ : Shape).Idx → EReal := m ((c : Thread nD τ).loc main_arg0)
/-- the first mixer's output, -/
abbrev argOA : (⟨3, ![8, 2048, 256]⟩ : Shape).Idx → EReal := m ((c : Thread nD τ).loc main_arg1)
/-- the second's, -/
abbrev argOB : (⟨3, ![8, 2048, 512]⟩ : Shape).Idx → EReal := m ((c : Thread nD τ).loc main_arg2)
/-- the third's, -/
abbrev argOC : (⟨3, ![8, 2048, 768]⟩ : Shape).Idx → EReal := m ((c : Thread nD τ).loc main_arg3)
/-- the weights of the gates, -/
abbrev argW : (⟨3, ![2, 2048, 6144]⟩ : Shape).Idx → EReal := m ((c : Thread nD τ).loc main_arg4)
/-- their bias, -/
abbrev argB : (⟨2, ![2, 6144]⟩ : Shape).Idx → EReal := m ((c : Thread nD τ).loc main_arg5)
/-- the weights of the first mixer's projection, -/
abbrev argPA : (⟨3, ![2, 256, 2048]⟩ : Shape).Idx → EReal := m ((c : Thread nD τ).loc main_arg6)
/-- of the second's, -/
abbrev argPB : (⟨3, ![2, 512, 2048]⟩ : Shape).Idx → EReal := m ((c : Thread nD τ).loc main_arg7)
/-- of the third's, -/
abbrev argPC : (⟨3, ![2, 768, 2048]⟩ : Shape).Idx → EReal := m ((c : Thread nD τ).loc main_arg8)
/-- of the blend's, -/
abbrev argD : (⟨3, ![2, 2048, 2048]⟩ : Shape).Idx → EReal := m ((c : Thread nD τ).loc main_arg9)
/-- the layer norm's scale, -/
abbrev argG : (⟨2, ![2, 2048]⟩ : Shape).Idx → EReal := m ((c : Thread nD τ).loc main_arg10)
/-- and its shift. -/
abbrev argH : (⟨2, ![2, 2048]⟩ : Shape).Idx → EReal := m ((c : Thread nD τ).loc main_arg11)

theorem index_maps : ∀ t : Fin cfg0.N, win0_0.index t = ![t.val / 4, 0]
    ∧ win0_1.index t = ![t.val / 4, 0]
    ∧ win0_2.index t = ![t.val / 4, 0]
    ∧ win0_3.index t = ![t.val / 4, 0]
    ∧ win0_4.index t = ![1, 0, t.val % 4]
    ∧ win0_5.index t = ![1, 0, 4 + t.val % 4]
    ∧ win0_6.index t = ![1, 0, 8 + t.val % 4]
    ∧ win0_7.index t = ![1, 0, t.val % 4]
    ∧ win0_8.index t = ![1, 0, 4 + t.val % 4]
    ∧ win0_9.index t = ![1, 0, 8 + t.val % 4]
    ∧ win0_10.index t = ![1, 0, t.val % 4]
    ∧ win0_11.index t = ![1, 0, t.val % 4]
    ∧ win0_12.index t = ![1, 0, t.val % 4]
    ∧ win0_13.index t = ![1, t.val % 4, 0]
    ∧ win0_14.index t = ![1, 0, 0]
    ∧ win0_15.index t = ![1, 0, 0]
    ∧ win0_16.index t = ![t.val / 4, 0] :=
  (by decide +kernel : ∀ t : Fin grid0.N, _)

variable (t : Fin cfg0.N)

theorem lt_N : t.val < 128 := lt_of_lt_of_eq t.isLt (show cfg0.N = 128 from N_0)
theorem tile_lt : t.val / 4 < 32 := by have h := lt_N t; omega
theorem block_lt : t.val % 4 < 4 := Nat.mod_lt _ (by norm_num)

/-- A tile's rows are rows of one sequence, -/
theorem x_block (r : Fin 512) (k : Fin 2048) :
    iblk m c 0 t (ix2 r k) = at3 (argX m c) (t.val / 4 / 4) (512 * (t.val / 4 % 4) + r.val) k.val := by
  have h0 := tile_lt t
  have hr := r.isLt
  have e : ((cfg0.win 0).blk t).view.emb (ix2 r k) = ix2 (⟨512 * (t.val / 4) + r.val, by omega⟩ : Fin 16384) k := by
    blk_ext [index_maps t]
  show V m c main_v5 (((cfg0.win 0).blk t).view.emb (ix2 r k)) = _
  rw [e]
  entry_read
  refine (shapeCast_apply _ shapeCasts_S8x2048x2048_S16384x2048 _ (ix3 (⟨t.val / 4 / 4, by omega⟩ : Fin 8)
    (⟨512 * (t.val / 4 % 4) + r.val, by omega⟩ : Fin 2048) k) ?_).trans (at3_of (argX m c) _ rfl rfl rfl)
  rw [Shape.rowMajor_val_three, Shape.rowMajor_val_two]
  show (t.val / 4 / 4 * 2048 + (512 * (t.val / 4 % 4) + r.val)) * 2048 + k.val = (512 * (t.val / 4) + r.val) * 2048 + k.val
  omega

/-- and so are the first mixer's, -/
theorem oa_block (r : Fin 512) (k : Fin 256) :
    iblk m c 1 t (ix2 r k) = at3 (argOA m c) (t.val / 4 / 4) (512 * (t.val / 4 % 4) + r.val) k.val := by
  have h0 := tile_lt t
  have hr := r.isLt
  have e : ((cfg0.win 1).blk t).view.emb (ix2 r k) = ix2 (⟨512 * (t.val / 4) + r.val, by omega⟩ : Fin 16384) k := by
    blk_ext [index_maps t]
  show V m c main_v6 (((cfg0.win 1).blk t).view.emb (ix2 r k)) = _
  rw [e]
  entry_read
  refine (shapeCast_apply _ shapeCasts_S8x2048x256_S16384x256 _ (ix3 (⟨t.val / 4 / 4, by omega⟩ : Fin 8)
    (⟨512 * (t.val / 4 % 4) + r.val, by omega⟩ : Fin 2048) k) ?_).trans (at3_of (argOA m c) _ rfl rfl rfl)
  rw [Shape.rowMajor_val_three, Shape.rowMajor_val_two]
  show (t.val / 4 / 4 * 2048 + (512 * (t.val / 4 % 4) + r.val)) * 256 + k.val = (512 * (t.val / 4) + r.val) * 256 + k.val
  omega

/-- the second's -/
theorem ob_block (r : Fin 512) (k : Fin 512) :
    iblk m c 2 t (ix2 r k) = at3 (argOB m c) (t.val / 4 / 4) (512 * (t.val / 4 % 4) + r.val) k.val := by
  have h0 := tile_lt t
  have hr := r.isLt
  have e : ((cfg0.win 2).blk t).view.emb (ix2 r k) = ix2 (⟨512 * (t.val / 4) + r.val, by omega⟩ : Fin 16384) k := by
    blk_ext [index_maps t]
  show V m c main_v7 (((cfg0.win 2).blk t).view.emb (ix2 r k)) = _
  rw [e]
  entry_read
  refine (shapeCast_apply _ shapeCasts_S8x2048x512_S16384x512 _ (ix3 (⟨t.val / 4 / 4, by omega⟩ : Fin 8)
    (⟨512 * (t.val / 4 % 4) + r.val, by omega⟩ : Fin 2048) k) ?_).trans (at3_of (argOB m c) _ rfl rfl rfl)
  rw [Shape.rowMajor_val_three, Shape.rowMajor_val_two]
  show (t.val / 4 / 4 * 2048 + (512 * (t.val / 4 % 4) + r.val)) * 512 + k.val = (512 * (t.val / 4) + r.val) * 512 + k.val
  omega

/-- and the third's. -/
theorem oc_block (r : Fin 512) (k : Fin 768) :
    iblk m c 3 t (ix2 r k) = at3 (argOC m c) (t.val / 4 / 4) (512 * (t.val / 4 % 4) + r.val) k.val := by
  have h0 := tile_lt t
  have hr := r.isLt
  have e : ((cfg0.win 3).blk t).view.emb (ix2 r k) = ix2 (⟨512 * (t.val / 4) + r.val, by omega⟩ : Fin 16384) k := by
    blk_ext [index_maps t]
  show V m c main_v8 (((cfg0.win 3).blk t).view.emb (ix2 r k)) = _
  rw [e]
  entry_read
  refine (shapeCast_apply _ shapeCasts_S8x2048x768_S16384x768 _ (ix3 (⟨t.val / 4 / 4, by omega⟩ : Fin 8)
    (⟨512 * (t.val / 4 % 4) + r.val, by omega⟩ : Fin 2048) k) ?_).trans (at3_of (argOC m c) _ rfl rfl rfl)
  rw [Shape.rowMajor_val_three, Shape.rowMajor_val_two]
  show (t.val / 4 / 4 * 2048 + (512 * (t.val / 4 % 4) + r.val)) * 768 + k.val = (512 * (t.val / 4) + r.val) * 768 + k.val
  omega

/-- The first gate's weights of a block of channels, -/
theorem wa_block (k : Fin 2048) (ch : Fin 512) : iblk m c 4 t (ix3 (0 : Fin 1) k ch) = at3 (argW m c) 1 k.val (512 * (t.val % 4) + ch.val) := by
  have h1 := block_lt t
  have hch := ch.isLt
  have e : ((cfg0.win 4).blk t).view.emb (ix3 (0 : Fin 1) k ch) = ix3 (1 : Fin 2) k (⟨512 * (t.val % 4) + ch.val, by omega⟩ : Fin 6144) := by
    blk_ext [index_maps t]
  show V m c main_v0 (((cfg0.win 4).blk t).view.emb (ix3 (0 : Fin 1) k ch)) = _
  rw [e]
  entry_read
  exact at3_of (argW m c) _ rfl rfl rfl

/-- the second's -/
theorem wb_block (k : Fin 2048) (ch : Fin 512) : iblk m c 5 t (ix3 (0 : Fin 1) k ch) = at3 (argW m c) 1 k.val (2048 + (512 * (t.val % 4) + ch.val)) := by
  have h1 := block_lt t
  have hch := ch.isLt
  have e : ((cfg0.win 5).blk t).view.emb (ix3 (0 : Fin 1) k ch) = ix3 (1 : Fin 2) k (⟨2048 + (512 * (t.val % 4) + ch.val), by omega⟩ : Fin 6144) := by
    blk_ext [index_maps t]
  show V m c main_v0 (((cfg0.win 5).blk t).view.emb (ix3 (0 : Fin 1) k ch)) = _
  rw [e]
  entry_read
  exact at3_of (argW m c) _ rfl rfl rfl

/-- and the third's. -/
theorem wc_block (k : Fin 2048) (ch : Fin 512) : iblk m c 6 t (ix3 (0 : Fin 1) k ch) = at3 (argW m c) 1 k.val (4096 + (512 * (t.val % 4) + ch.val)) := by
  have h1 := block_lt t
  have hch := ch.isLt
  have e : ((cfg0.win 6).blk t).view.emb (ix3 (0 : Fin 1) k ch) = ix3 (1 : Fin 2) k (⟨4096 + (512 * (t.val % 4) + ch.val), by omega⟩ : Fin 6144) := by
    blk_ext [index_maps t]
  show V m c main_v0 (((cfg0.win 6).blk t).view.emb (ix3 (0 : Fin 1) k ch)) = _
  rw [e]
  entry_read
  exact at3_of (argW m c) _ rfl rfl rfl

/-- The first gate's bias, -/
theorem ba_block (ch : Fin 512) : iblk m c 7 t (ix3 (0 : Fin 1) (0 : Fin 1) ch) = at2 (argB m c) 1 (512 * (t.val % 4) + ch.val) := by
  have h1 := block_lt t
  have hch := ch.isLt
  have e : ((cfg0.win 7).blk t).view.emb (ix3 (0 : Fin 1) (0 : Fin 1) ch) = ix3 (1 : Fin 2) (0 : Fin 1) (⟨512 * (t.val % 4) + ch.val, by omega⟩ : Fin 6144) := by
    blk_ext [index_maps t]
  show V m c main_v9 (((cfg0.win 7).blk t).view.emb (ix3 (0 : Fin 1) (0 : Fin 1) ch)) = _
  rw [e]
  entry_read
  pointwise
  exact at2_of (argB m c) _ rfl rfl

/-- the second's -/
theorem bb_block (ch : Fin 512) : iblk m c 8 t (ix3 (0 : Fin 1) (0 : Fin 1) ch) = at2 (argB m c) 1 (2048 + (512 * (t.val % 4) + ch.val)) := by
  have h1 := block_lt t
  have hch := ch.isLt
  have e : ((cfg0.win 8).blk t).view.emb (ix3 (0 : Fin 1) (0 : Fin 1) ch) = ix3 (1 : Fin 2) (0 : Fin 1) (⟨2048 + (512 * (t.val % 4) + ch.val), by omega⟩ : Fin 6144) := by
    blk_ext [index_maps t]
  show V m c main_v9 (((cfg0.win 8).blk t).view.emb (ix3 (0 : Fin 1) (0 : Fin 1) ch)) = _
  rw [e]
  entry_read
  pointwise
  exact at2_of (argB m c) _ rfl rfl

/-- and the third's. -/
theorem bc_block (ch : Fin 512) : iblk m c 9 t (ix3 (0 : Fin 1) (0 : Fin 1) ch) = at2 (argB m c) 1 (4096 + (512 * (t.val % 4) + ch.val)) := by
  have h1 := block_lt t
  have hch := ch.isLt
  have e : ((cfg0.win 9).blk t).view.emb (ix3 (0 : Fin 1) (0 : Fin 1) ch) = ix3 (1 : Fin 2) (0 : Fin 1) (⟨4096 + (512 * (t.val % 4) + ch.val), by omega⟩ : Fin 6144) := by
    blk_ext [index_maps t]
  show V m c main_v9 (((cfg0.win 9).blk t).view.emb (ix3 (0 : Fin 1) (0 : Fin 1) ch)) = _
  rw [e]
  entry_read
  pointwise
  exact at2_of (argB m c) _ rfl rfl

/-- A block's weights of the first mixer's projection, -/
theorem pa_block (k : Fin 256) (ch : Fin 512) : iblk m c 10 t (ix3 (0 : Fin 1) k ch) = at3 (argPA m c) 1 k.val (512 * (t.val % 4) + ch.val) := by
  have h1 := block_lt t
  have hch := ch.isLt
  have e : ((cfg0.win 10).blk t).view.emb (ix3 (0 : Fin 1) k ch) = ix3 (1 : Fin 2) k (⟨512 * (t.val % 4) + ch.val, by omega⟩ : Fin 2048) := by
    blk_ext [index_maps t]
  show V m c main_v1 (((cfg0.win 10).blk t).view.emb (ix3 (0 : Fin 1) k ch)) = _
  rw [e]
  entry_read
  exact at3_of (argPA m c) _ rfl rfl rfl

/-- of the second's -/
theorem pb_block (k : Fin 512) (ch : Fin 512) : iblk m c 11 t (ix3 (0 : Fin 1) k ch) = at3 (argPB m c) 1 k.val (512 * (t.val % 4) + ch.val) := by
  have h1 := block_lt t
  have hch := ch.isLt
  have e : ((cfg0.win 11).blk t).view.emb (ix3 (0 : Fin 1) k ch) = ix3 (1 : Fin 2) k (⟨512 * (t.val % 4) + ch.val, by omega⟩ : Fin 2048) := by
    blk_ext [index_maps t]
  show V m c main_v2 (((cfg0.win 11).blk t).view.emb (ix3 (0 : Fin 1) k ch)) = _
  rw [e]
  entry_read
  exact at3_of (argPB m c) _ rfl rfl rfl

/-- and of the third's. -/
theorem pc_block (k : Fin 768) (ch : Fin 512) : iblk m c 12 t (ix3 (0 : Fin 1) k ch) = at3 (argPC m c) 1 k.val (512 * (t.val % 4) + ch.val) := by
  have h1 := block_lt t
  have hch := ch.isLt
  have e : ((cfg0.win 12).blk t).view.emb (ix3 (0 : Fin 1) k ch) = ix3 (1 : Fin 2) k (⟨512 * (t.val % 4) + ch.val, by omega⟩ : Fin 2048) := by
    blk_ext [index_maps t]
  show V m c main_v3 (((cfg0.win 12).blk t).view.emb (ix3 (0 : Fin 1) k ch)) = _
  rw [e]
  entry_read
  exact at3_of (argPC m c) _ rfl rfl rfl

/-- A block's weights of the blend's projection. -/
theorem out_block (ch : Fin 512) (n : Fin 2048) : iblk m c 13 t (ix3 (0 : Fin 1) ch n) = at3 (argD m c) 1 (512 * (t.val % 4) + ch.val) n.val := by
  have h1 := block_lt t
  have hch := ch.isLt
  have e : ((cfg0.win 13).blk t).view.emb (ix3 (0 : Fin 1) ch n) = ix3 (1 : Fin 2) (⟨512 * (t.val % 4) + ch.val, by omega⟩ : Fin 2048) n := by
    blk_ext [index_maps t]
  show V m c main_v4 (((cfg0.win 13).blk t).view.emb (ix3 (0 : Fin 1) ch n)) = _
  rw [e]
  entry_read
  exact at3_of (argD m c) _ rfl rfl rfl

/-- The layer norm's scale, -/
theorem scale_block (n : Fin 2048) : iblk m c 14 t (ix3 (0 : Fin 1) (0 : Fin 1) n) = at2 (argG m c) 1 n.val := by
  have e : ((cfg0.win 14).blk t).view.emb (ix3 (0 : Fin 1) (0 : Fin 1) n) = ix3 (1 : Fin 2) (0 : Fin 1) n := by
    blk_ext [index_maps t]
  show V m c main_v10 (((cfg0.win 14).blk t).view.emb (ix3 (0 : Fin 1) (0 : Fin 1) n)) = _
  rw [e]
  entry_read
  pointwise
  exact at2_of (argG m c) _ rfl rfl

/-- and its shift. -/
theorem shift_block (n : Fin 2048) : iblk m c 15 t (ix3 (0 : Fin 1) (0 : Fin 1) n) = at2 (argH m c) 1 n.val := by
  have e : ((cfg0.win 15).blk t).view.emb (ix3 (0 : Fin 1) (0 : Fin 1) n) = ix3 (1 : Fin 2) (0 : Fin 1) n := by
    blk_ext [index_maps t]
  show V m c main_v11 (((cfg0.win 15).blk t).view.emb (ix3 (0 : Fin 1) (0 : Fin 1) n)) = _
  rw [e]
  entry_read
  pointwise
  exact at2_of (argH m c) _ rfl rfl

end Cert.Merge

end
-- ==== Proof.Merge.Array.lean ====
/- The merge's result after the run is the merge. -/
module

public import proofs.«01_k».proof.Proof.Merge.Blocks

@[expose] public section

set_option maxRecDepth 16384

noncomputable section

namespace Cert.Merge

open Cert.MergeIdeal Cert.MergeIdeal.Gen Idealize.ShloMosaic Idealize.ShloMosaic.TcCoe Idealize.SL.Sem
open Cert.Fox (at3 at3_of)
open Cert.ChannelMixer (at2 at2_of normed normed_congr)

variable (m : (ℓ : Loc nD τ sig) → Buf (Elt Ideal) ℓ) (c : Dev nD) (t : Fin cfg0.N)

/-- The sequence of a point's tile, -/
abbrev seq : ℕ := t.val / 4 / 4
/-- the tile's first token in it, -/
abbrev tok : ℕ := 512 * (t.val / 4 % 4)
/-- and the point's first channel. -/
abbrev chan : ℕ := 512 * (t.val % 4)

/-- The channels' terms of an entry of the residual stream. -/
abbrev term (b s n ch : ℕ) : EReal :=
  blend (argX m c) (argOA m c) (argOB m c) (argOC m c) (argW m c) (argB m c) (argPA m c) (argPB m c) (argPC m c) b s ch * at3 (argD m c) 1 ch n

/-- A block's gate of a tile's rows. -/
theorem gateOf_eq (X : Vec Ideal S512x2048 .bf16) (w : Vec Ideal S1x2048x512 .bf16) (b : Vec Ideal S1x1x512 .f32) (o : ℕ)
    (hX : ∀ (r : Fin 512) (k : Fin 2048), X (ix2 r k) = at3 (argX m c) (seq t) (tok t + r.val) k.val)
    (hw : ∀ (k : Fin 2048) (ch : Fin 512), w (ix3 (0 : Fin 1) k ch) = at3 (argW m c) 1 k.val (o + (chan t + ch.val)))
    (hb : ∀ ch : Fin 512, b (ix3 (0 : Fin 1) (0 : Fin 1) ch) = at2 (argB m c) 1 (o + (chan t + ch.val))) (r ch : Fin 512) :
    gateOf X w b r ch = gate (argX m c) (argW m c) (argB m c) (seq t) (tok t + r.val) (o + (chan t + ch.val)) := by
  unfold gateOf gate
  rw [hb]
  simp only [hX, hw]

/-- A point adds its block's terms. -/
theorem added_entry (X : Vec Ideal S512x2048 .bf16) (Y : Vec Ideal S512x2048 .f32)
    (hX : ∀ (r : Fin 512) (k : Fin 2048), X (ix2 r k) = at3 (argX m c) (seq t) (tok t + r.val) k.val) (r : Fin 512) (n : Fin 2048) :
    addedAt m c t X Y (ix2 r n) = Y (ix2 r n) + ∑ ch : Fin 512, term m c (seq t) (tok t + r.val) n.val (chan t + ch.val) := by
  refine (pay1_entry _ _ _ _ _ _ _ _ _ _ _ _ _ _ _ r n).trans (congrArg _ (Finset.sum_congr rfl fun ch _ => ?_))
  have ha := gateOf_eq m c t X (iblk m c 4 t) (iblk m c 7 t) 0 hX (fun k ch => by rw [Nat.zero_add]; exact wa_block m c t k ch)
    (fun ch => by rw [Nat.zero_add]; exact ba_block m c t ch) r ch
  have hb := gateOf_eq m c t X (iblk m c 5 t) (iblk m c 8 t) 2048 hX (wb_block m c t) (bb_block m c t) r ch
  have hc := gateOf_eq m c t X (iblk m c 6 t) (iblk m c 9 t) 4096 hX (wc_block m c t) (bc_block m c t) r ch
  have ea : branchOf (n := 256) (iblk m c 1 t) (iblk m c 10 t) r ch = branch (argOA m c) (argPA m c) (seq t) (tok t + r.val) (chan t + ch.val) :=
    Finset.sum_congr rfl fun k _ => congrArg₂ (fun a b : EReal => a * b) (oa_block m c t r k) (pa_block m c t k ch)
  have eb : branchOf (n := 512) (iblk m c 2 t) (iblk m c 11 t) r ch = branch (argOB m c) (argPB m c) (seq t) (tok t + r.val) (chan t + ch.val) :=
    Finset.sum_congr rfl fun k _ => congrArg₂ (fun a b : EReal => a * b) (ob_block m c t r k) (pb_block m c t k ch)
  have ec : branchOf (n := 768) (iblk m c 3 t) (iblk m c 12 t) r ch = branch (argOC m c) (argPC m c) (seq t) (tok t + r.val) (chan t + ch.val) :=
    Finset.sum_congr rfl fun k _ => congrArg₂ (fun a b : EReal => a * b) (oc_block m c t r k) (pc_block m c t k ch)
  rw [Nat.zero_add] at ha
  exact congrArg₂ (fun a b : EReal => a * b) (congrArg₂ (fun a b : EReal => a + b) (congrArg₂ (fun a b : EReal => a + b)
    (congrArg₂ (fun a b : EReal => a * b) ha ea) (congrArg₂ (fun a b : EReal => a * b) hb eb)) (congrArg₂ (fun a b : EReal => a * b) hc ec))
    (out_block m c t ch n)

/-- The rounded rows that a point works on, -/
def rowsAt : Vec Ideal S512x2048 .bf16 := if t.val % 4 = 0 then k0_pay4 (iblk m c 0 t) else (prev m c t).2
/-- and what its accumulator starts from. -/
def startAt : Vec Ideal S512x2048 .f32 := if t.val % 4 = 0 then k0_pay5 (iblk m c 0 t) else (prev m c t).1

/-- What a point leaves in the result's block and in the scratch. -/
theorem outs_eq : outsAt0 m c t.val t.isLt
    = (if t.val % 4 = 3 then k0_pay2 (addedAt m c t (rowsAt m c t) (startAt m c t)) (iblk m c 14 t) (iblk m c 15 t)
        else addedAt m c t (rowsAt m c t) (startAt m c t), rowsAt m c t) := by
  unfold rowsAt startAt
  by_cases h : t.val % 4 = 0
  · rw [if_pos h, if_pos h, if_neg (by omega)]
    exact outs_first m c t h
  · rw [if_neg h, if_neg h]
    by_cases h' : t.val % 4 = 3
    · rw [if_pos h']; exact outs_last m c t h'
    · rw [if_neg h']; exact outs_middle m c t h h'

/-- The scratch holds the tile's rows. -/
theorem rows_entry (j : ℕ) : ∀ t : Fin cfg0.N, t.val % 4 = j → ∀ (r : Fin 512) (k : Fin 2048),
    rowsAt m c t (ix2 r k) = at3 (argX m c) (seq t) (tok t + r.val) k.val := by
  induction j with
  | zero =>
    intro t h r k
    rw [rowsAt, if_pos h, pay4_entry]
    exact x_block m c t r k
  | succ j ih =>
    intro t h r k
    have ht := lt_N t
    have hp := ih ⟨t.val - 1, lt_of_le_of_lt (Nat.sub_le _ _) t.isLt⟩ (by show (t.val - 1) % 4 = j; omega) r k
    have e0 : (t.val - 1) / 4 = t.val / 4 := by omega
    have eo : (prev m c t).2 = rowsAt m c ⟨t.val - 1, lt_of_le_of_lt (Nat.sub_le _ _) t.isLt⟩ :=
      congrArg Prod.snd (outs_eq m c ⟨t.val - 1, lt_of_le_of_lt (Nat.sub_le _ _) t.isLt⟩)
    rw [rowsAt, if_neg (by omega), eo, hp]
    show at3 _ ((t.val - 1) / 4 / 4) (512 * ((t.val - 1) / 4 % 4) + r.val) _ = _
    rw [e0]

/-- After a point the accumulator holds the scaled stream and the terms of the channels so far. -/
theorem acc_entry (r : Fin 512) (n : Fin 2048) (j : ℕ) : ∀ t : Fin cfg0.N, t.val % 4 = j →
    addedAt m c t (rowsAt m c t) (startAt m c t) (ix2 r n) = Ideal.ofBits .f32 0x3FB504F3#32 * at3 (argX m c) (seq t) (tok t + r.val) n.val
      + ∑ ch ∈ Finset.range (512 * (j + 1)), term m c (seq t) (tok t + r.val) n.val ch := by
  induction j with
  | zero =>
    intro t h
    rw [added_entry m c t _ _ (rows_entry m c _ t rfl), startAt, if_pos h, pay5_entry, x_block, Finset.sum_range]
    have e : chan t = 0 := by show 512 * (t.val % 4) = 0; omega
    rw [e]
    exact congrArg _ (Finset.sum_congr rfl fun ch _ => by rw [Nat.zero_add])
  | succ j ih =>
    intro t h
    have ht := lt_N t
    have hp := ih ⟨t.val - 1, lt_of_le_of_lt (Nat.sub_le _ _) t.isLt⟩ (by show (t.val - 1) % 4 = j; omega)
    have e0 : (t.val - 1) / 4 = t.val / 4 := by omega
    have eo : (prev m c t).1 = addedAt m c ⟨t.val - 1, lt_of_le_of_lt (Nat.sub_le _ _) t.isLt⟩
        (rowsAt m c ⟨t.val - 1, lt_of_le_of_lt (Nat.sub_le _ _) t.isLt⟩) (startAt m c ⟨t.val - 1, lt_of_le_of_lt (Nat.sub_le _ _) t.isLt⟩) :=
      (congrArg Prod.fst (outs_eq m c ⟨t.val - 1, lt_of_le_of_lt (Nat.sub_le _ _) t.isLt⟩)).trans (if_neg (by show ¬ (t.val - 1) % 4 = 3; omega))
    rw [added_entry m c t _ _ (rows_entry m c _ t rfl), startAt, if_neg (by omega), eo, hp]
    show _ * at3 _ ((t.val - 1) / 4 / 4) (512 * ((t.val - 1) / 4 % 4) + r.val) _
      + (∑ ch ∈ _, term m c ((t.val - 1) / 4 / 4) (512 * ((t.val - 1) / 4 % 4) + r.val) n.val ch) + _ = _
    rw [e0, add_assoc, show 512 * (j + 1 + 1) = 512 * (j + 1) + 512 by omega, Finset.sum_range_add, Finset.sum_range (n := 512)]
    have e : chan t = 512 * (j + 1) := by show 512 * (t.val % 4) = _; rw [h]
    rw [e]

/-- A tile's last point leaves the tile's rows of the merge. -/
theorem outs_entry (h : t.val % 4 = 3) (r : Fin 512) (n : Fin 2048) : (outsAt0 m c t.val t.isLt).1 (ix2 r n)
    = merge (argX m c) (argOA m c) (argOB m c) (argOC m c) (argW m c) (argB m c) (argPA m c) (argPB m c) (argPC m c) (argD m c) (argG m c) (argH m c)
      (ix2 (⟨512 * (t.val / 4) + r.val, by have h0 := tile_lt t; have hr := r.isLt; omega⟩ : Fin 16384) n) := by
  have h0 := tile_lt t
  have hr := r.isLt
  rw [outs_eq, if_pos h]
  refine (pay2_entry _ _ _ r n).trans ?_
  unfold merge
  have eb : (512 * (t.val / 4) + r.val) / 2048 = t.val / 4 / 4 := by omega
  have es : (512 * (t.val / 4) + r.val) % 2048 = 512 * (t.val / 4 % 4) + r.val := by omega
  show _ = normed (summed _ _ _ _ _ _ _ _ _ _ ((512 * (t.val / 4) + r.val) / 2048) ((512 * (t.val / 4) + r.val) % 2048)) _ _ n.val
  rw [eb, es]
  refine normed_congr n.isLt (fun k hk => ?_) ?_ ?_
  · refine (at2_of (addedAt m c t (rowsAt m c t) (startAt m c t)) (ix2 r (⟨k, hk⟩ : Fin 2048)) rfl rfl).symm.trans
      ((acc_entry m c r ⟨k, hk⟩ 3 t h).trans ?_)
    exact congrArg _ (Finset.sum_range _)
  · exact (at3_of _ (ix3 (0 : Fin 1) (0 : Fin 1) n) rfl rfl rfl).symm.trans (scale_block m c t n)
  · exact (at3_of _ (ix3 (0 : Fin 1) (0 : Fin 1) n) rfl rfl rfl).symm.trans (shift_block m c t n)

/-- The result's array after the run is the merge of the arguments. -/
theorem array_eq : (dats m 0 c).arrAt 16 cfg0.N
    = merge (argX m c) (argOA m c) (argOB m c) (argOC m c) (argW m c) (argB m c) (argPA m c) (argPB m c) (argPC m c) (argD m c) (argG m c)
      (argH m c) := by
  refine (dats m 0 c).arrAt_eq_of_covers 16 _ (by decide +kernel) fun t hf y => ?_
  have h0 := tile_lt t
  have h : t.val % 4 = 3 := (flush0_16 t).mp hf
  obtain ⟨r, n, rfl⟩ : ∃ (r : Fin 512) (n : Fin 2048), y = ix2 r n := ⟨y 0, y 1, eq_ix2 y⟩
  have hr := r.isLt
  have e : ((cfg0.win 16).blk t).view.emb (ix2 r n) = ix2 (⟨512 * (t.val / 4) + r.val, by omega⟩ : Fin 16384) n := by
    blk_ext [index_maps t]
  rw [e]
  blk_simp
  rw [after0_16]
  exact outs_entry m c t h r n

end Cert.Merge

end
-- ==== Proof.Merge.Reference.lean ====
/- The merge's reference computes the merge. -/
module

public import proofs.«01_k».proof.Proof.Gen.MergeReferenceIdeal.Read
public import proofs.«01_k».proof.Proof.Merge.Spec
public import Idealize.ShloMosaic.Lib.KernelVsHost
public import Idealize.ShloMosaic.Lib.IdealHost

@[expose] public section

set_option maxRecDepth 16384

noncomputable section

namespace Cert.Merge.Reference

open Cert.MergeReferenceIdeal Cert.MergeReferenceIdeal.Gen Idealize.ShloMosaic Idealize.ShloMosaic.TcCoe Idealize.SL.Sem
open Cert.MergeReferenceIdeal.Read
open Cert.Fox (at3 at3_of)
open Cert.ChannelMixer (at2 at2_of normed normed_congr mean)

variable (X : (⟨3, ![8, 2048, 2048]⟩ : Shape).Idx → EReal) (OA : (⟨3, ![8, 2048, 256]⟩ : Shape).Idx → EReal)
  (OB : (⟨3, ![8, 2048, 512]⟩ : Shape).Idx → EReal) (OC : (⟨3, ![8, 2048, 768]⟩ : Shape).Idx → EReal)
  (W : (⟨3, ![2, 2048, 6144]⟩ : Shape).Idx → EReal) (B : (⟨2, ![2, 6144]⟩ : Shape).Idx → EReal)
  (PA : (⟨3, ![2, 256, 2048]⟩ : Shape).Idx → EReal) (PB : (⟨3, ![2, 512, 2048]⟩ : Shape).Idx → EReal)
  (PC : (⟨3, ![2, 768, 2048]⟩ : Shape).Idx → EReal) (D : (⟨3, ![2, 2048, 2048]⟩ : Shape).Idx → EReal)
  (G H : (⟨2, ![2, 2048]⟩ : Shape).Idx → EReal)

theorem zero_constant : Ideal.ofBits .f32 0x00000000#32 = 0 := by simp [Ideal.ofBits, Ideal.ieee]
theorem one_constant : Ideal.ofBits .f32 0x3F800000#32 = 1 := Ideal.ofBits_one_f32

/-- The gates. -/
theorem gate_apply (i : S8x2048x6144.Idx) : val_main_v16 (F := Ideal) X W B i = gate X W B (i 0).val (i 1).val (i 2).val := by
  have h2 : (i 2).val < 6144 := (i 2).isLt
  rw [val_main_v16_apply, val_main_v15_apply, val_main_cst_0_apply, val_main_v14_apply, val_main_v13_apply, val_main_cst_apply, val_main_v12_apply,
    val_main_v11_apply, val_main_v10_apply, val_main_v9_apply, val_main_v8_apply, val_main_v7_apply, val_main_v6_apply, val_main_v5_apply]
  show Ideal.div (Ideal.ofBits .f32 0x3F800000#32) (Ideal.ofBits .f32 0x3F800000#32 + Ideal.exp (-(_ + B _))) = _
  rw [one_constant]
  unfold gate Ideal.logistic
  refine congrArg (fun z : EReal => Ideal.div 1 (1 + Ideal.exp (-z))) (congrArg₂ (fun a b : EReal => a + b)
    (Finset.sum_congr rfl fun k _ => ?_) (at2_of B _ rfl ?_))
  · have hk := k.isLt
    rw [val_main_v4_apply, val_main_v3_apply]
    refine congrArg₂ (fun a b : EReal => a * b) (at3_of X _ rfl rfl rfl) (at3_of W _ rfl ?_ ?_)
    all_goals (dsimp only [idx_main_v3, idx_main_v4, ridx_main_v5]; omega)
  · dsimp only [idx_main_v6, idx_main_v7, idx_main_v8, idx_main_v9]; omega

/-- The first mixer's projection, -/
theorem branchA_apply (i : S8x2048x2048.Idx) : val_main_v22 (F := Ideal) OA PA i = branch OA PA (i 0).val (i 1).val (i 2).val := by
  have h2 : (i 2).val < 2048 := (i 2).isLt
  rw [val_main_v22_apply]
  refine Finset.sum_congr rfl fun k _ => ?_
  have hk := k.isLt
  rw [val_main_v0_apply, val_main_v21_apply, val_main_v20_apply]
  refine congrArg₂ (fun a b : EReal => a * b) (at3_of OA _ rfl rfl rfl) (at3_of PA _ rfl ?_ ?_)
  all_goals (dsimp only [idx_main_v20, idx_main_v21, ridx_main_v22]; omega)
/-- the second's -/
theorem branchB_apply (i : S8x2048x2048.Idx) : val_main_v26 (F := Ideal) OB PB i = branch OB PB (i 0).val (i 1).val (i 2).val := by
  have h2 : (i 2).val < 2048 := (i 2).isLt
  rw [val_main_v26_apply]
  refine Finset.sum_congr rfl fun k _ => ?_
  have hk := k.isLt
  rw [val_main_v1_apply, val_main_v25_apply, val_main_v24_apply]
  refine congrArg₂ (fun a b : EReal => a * b) (at3_of OB _ rfl rfl rfl) (at3_of PB _ rfl ?_ ?_)
  all_goals (dsimp only [idx_main_v24, idx_main_v25, ridx_main_v26]; omega)
/-- and the third's. -/
theorem branchC_apply (i : S8x2048x2048.Idx) : val_main_v31 (F := Ideal) OC PC i = branch OC PC (i 0).val (i 1).val (i 2).val := by
  have h2 : (i 2).val < 2048 := (i 2).isLt
  rw [val_main_v31_apply]
  refine Finset.sum_congr rfl fun k _ => ?_
  have hk := k.isLt
  rw [val_main_v2_apply, val_main_v30_apply, val_main_v29_apply]
  refine congrArg₂ (fun a b : EReal => a * b) (at3_of OC _ rfl rfl rfl) (at3_of PC _ rfl ?_ ?_)
  all_goals (dsimp only [idx_main_v29, idx_main_v30, ridx_main_v31]; omega)

/-- The blend. -/
theorem blend_apply (i : S8x2048x2048.Idx) :
    val_main_v33 (F := Ideal) X OA OB OC W B PA PB PC i = blend X OA OB OC W B PA PB PC (i 0).val (i 1).val (i 2).val := by
  rw [val_main_v33_apply, val_main_v28_apply, val_main_v23_apply, val_main_v27_apply, val_main_v32_apply, val_main_v17_apply, val_main_v18_apply,
    val_main_v19_apply, gate_apply, gate_apply, gate_apply, branchA_apply, branchB_apply, branchC_apply]
  rfl

/-- The residual stream. -/
theorem summed_apply (i : S8x2048x2048.Idx) :
    val_main_v39 (F := Ideal) X OA OB OC W B PA PB PC D i = summed X OA OB OC W B PA PB PC D (i 0).val (i 1).val (i 2).val := by
  have h2 : (i 2).val < 2048 := (i 2).isLt
  rw [val_main_v39_apply, val_main_v35_apply, val_main_v34_apply, val_main_cst_1_apply, val_main_v38_apply]
  refine congrArg₂ (fun a b : EReal => a + b) (congrArg₂ (fun a b : EReal => a * b) rfl (at3_of X _ rfl rfl rfl)) (Finset.sum_congr rfl fun k _ => ?_)
  have hk := k.isLt
  rw [blend_apply, val_main_v37_apply, val_main_v36_apply]
  refine congrArg₂ (fun a b : EReal => a * b) rfl (at3_of D _ rfl ?_ ?_)
  all_goals (dsimp only [idx_main_v36, idx_main_v37, ridx_main_v38]; omega)

/-- The mean of a row. -/
theorem mean_apply (i : S8x2048x1.Idx) :
    val_main_v47 (F := Ideal) X OA OB OC W B PA PB PC D i = mean (summed X OA OB OC W B PA PB PC D (i 0).val (i 1).val) := by
  rw [val_main_v47_apply, val_main_v45_apply, val_main_v44_apply, val_main_v46_apply, val_main_cst_3_apply, val_main_cst_2_apply]
  show Ideal.div (Ideal.ofBits .f32 0x00000000#32 + _) _ = _
  rw [zero_constant, zero_add]
  exact congrArg (Ideal.div · _) (Finset.sum_congr rfl fun k _ => summed_apply X OA OB OC W B PA PB PC D _)

/-- The variance of a row. -/
theorem var_apply (i : S8x2048x1.Idx) : val_main_v54 (F := Ideal) X OA OB OC W B PA PB PC D i = mean fun n =>
    (summed X OA OB OC W B PA PB PC D (i 0).val (i 1).val n - mean (summed X OA OB OC W B PA PB PC D (i 0).val (i 1).val))
      * (summed X OA OB OC W B PA PB PC D (i 0).val (i 1).val n - mean (summed X OA OB OC W B PA PB PC D (i 0).val (i 1).val)) := by
  rw [val_main_v54_apply, val_main_v52_apply, val_main_v51_apply, val_main_v53_apply, val_main_cst_5_apply, val_main_cst_4_apply]
  show Ideal.div (Ideal.ofBits .f32 0x00000000#32 + _) _ = _
  rw [zero_constant, zero_add]
  refine congrArg (Ideal.div · _) (Finset.sum_congr rfl fun k _ => ?_)
  rw [val_main_v50_apply, val_main_v49_apply, val_main_v48_apply, summed_apply, mean_apply]
  rfl

/-- The reference's result is the merge. -/
theorem result_eq : val_main_v68 (F := Ideal) X OA OB OC W B PA PB PC D G H = merge X OA OB OC W B PA PB PC D G H := by
  funext i
  have h0 : (i 0).val < 16384 := (i 0).isLt
  have h1 : (i 1).val < 2048 := (i 1).isLt
  rw [val_main_v68_apply, val_main_v67_apply, val_main_v64_apply, val_main_v61_apply, val_main_v56_apply, val_main_v55_apply, val_main_v60_apply,
    val_main_v59_apply, val_main_v58_apply, val_main_v57_apply, val_main_cst_6_apply, val_main_v63_apply, val_main_v62_apply, val_main_v41_apply,
    val_main_v40_apply, val_main_v66_apply, val_main_v65_apply, val_main_v43_apply, val_main_v42_apply, summed_apply, mean_apply, var_apply]
  have e0 : ((i 0).val * 2048 + (i 1).val) / 4194304 = (i 0).val / 2048 := by omega
  have e1 : ((i 0).val * 2048 + (i 1).val) / 2048 % 2048 = (i 0).val % 2048 := by omega
  have e2 : ((i 0).val * 2048 + (i 1).val) % 2048 = (i 1).val := by omega
  rw [at2_of G _ (i := 1) (j := (i 1).val) rfl ?_, at2_of H _ (i := 1) (j := (i 1).val) rfl ?_]
  · unfold merge
    show normed (summed X OA OB OC W B PA PB PC D (((i 0).val * 2048 + (i 1).val) / 4194304) (((i 0).val * 2048 + (i 1).val) / 2048 % 2048))
      (fun _ => at2 G 1 (i 1).val) (fun _ => at2 H 1 (i 1).val) (((i 0).val * 2048 + (i 1).val) % 2048) = _
    rw [e0, e1, e2]
    exact normed_congr h1 (fun _ _ => rfl) rfl rfl
  all_goals (dsimp only [idx_main_v40, idx_main_v41, idx_main_v42, idx_main_v43, idx_main_v62, idx_main_v63, idx_main_v65, idx_main_v66, idx_main_v68]; omega)

end Cert.Merge.Reference

end
-- ==== Proof.Merge.Claims.lean ====
/- The claims about the merge. -/
module

public import proofs.«01_k».proof.Defs
public import proofs.«01_k».proof.Proof.Gen.Merge
public import proofs.«01_k».proof.Proof.Merge.Array
public import proofs.«01_k».proof.Proof.Merge.Reference
public import Idealize.ShloMosaic.Lib.Quiescent

@[expose] public section

set_option maxRecDepth 65536

noncomputable section

namespace Cert.Merge

open Idealize.ShloMosaic Idealize.SL.Sem

section Same

set_option maxHeartbeats 4000000
set_option backward.isDefEq.respectTransparency false

/-- The call's program and its idealized program have the same body, -/
theorem bodies_eq : Cert.Merge.defs₀ (F := Bits) = Cert.MergeIdeal.defs₀ (F := Bits) := by
  unfold Cert.Merge.defs₀ Cert.MergeIdeal.defs₀
  refine congrArg Defs.onTc (funext fun l => funext fun a => ?_)
  match l, a with
  | 0, (t, s) => rfl
  | ⟨_ + 1, h⟩, _ => exact absurd h (Nat.not_lt.2 (Nat.le_add_left _ _))

/-- and the same pipeline. -/
theorem defs_eq : Cert.Merge.defs (F := Bits) = Cert.MergeIdeal.defs (F := Bits) :=
  congrArg (Pipeline.defs (Cert.MergeIdeal.pcfgs (F := Bits))) bodies_eq

/-- The call runs, leaves its arguments alone and every counter at zero. -/
theorem frame_kernel : Cert.quiescent_Merge := fun m ρ _ => by
  rw [defs_eq]
  exact Cert.MergeIdeal.Gen.frame (F := Bits) m ρ

end Same

/-- So does its idealized program. -/
theorem frame_ideal : Cert.quiescent_MergeIdeal := fun m ρ _ => Cert.MergeIdeal.Gen.frame (F := Ideal) m ρ

/-- The reference runs, leaves its arguments alone and every counter at zero. -/
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The idealized program rewrites nothing. -/
theorem preserves : Cert.preserves_Merge_MergeIdeal := trivial

/-- Call and reference both end with the merge `merge` of the arguments. -/
theorem algebraic : @Cert.algebraic_MergeIdeal_MergeReferenceIdeal Cert.MergeIdeal.Gen.facts Cert.MergeReferenceIdeal.Gen.facts := by
  intro m ρ m' ρ' _ hagree
  refine ⟨fun c => merge (argX m c) (argOA m c) (argOB m c) (argOC m c) (argW m c) (argB m c) (argPA m c) (argPB m c) (argPC m c) (argD m c)
    (argG m c) (argH m c), ?_, ?_⟩
  · exact (θ_run Cert.MergeIdeal.defs _ _).mono (fun _ h c => ⟨(h c).1.trans (array_eq m c), (h c).2⟩)
      (Cert.MergeIdeal.Value.run_blocks (F := Ideal) m ρ)
  · refine (θ_run Cert.MergeReferenceIdeal.defs _ _).mono (fun _ h c => ⟨(h c).1.trans ?_, (h c).2⟩)
      (Cert.MergeReferenceIdeal.Value.run (F := Ideal) m' ρ')
    obtain ⟨h0, h1, h2, h3, h4, h5, h6, h7, h8, h9, h10, h11⟩ := hagree c
    rw [Cert.MergeReferenceIdeal.Read.val_main_v68_eq, h0, h1, h2, h3, h4, h5, h6, h7, h8, h9, h10, h11]
    exact Reference.result_eq _ _ _ _ _ _ _ _ _ _ _ _

end Cert.Merge

end
-- ==== Proof.Proj.Spec.lean ====
/- The input projection of the last layer, on the extended reals. -/
module

public import proofs.«01_k».proof.Proof.Ffn.Spec

@[expose] public section

set_option maxRecDepth 16384

noncomputable section

namespace Cert.Projection

open Idealize.ShloMosaic
open Cert.Fox (at3)

variable (X : (⟨3, ![8, 2048, 2048]⟩ : Shape).Idx → EReal) (W : (⟨3, ![2, 2048, 6144]⟩ : Shape).Idx → EReal)

/-- Column `n` of the projection of token `s` of sequence `b`. -/
def projected (b s n : ℕ) : EReal := ∑ k : Fin 2048, at3 X b s k.val * at3 W 1 k.val n

/-- The projection's first 5632 columns, the tokens of all sequences one after another; -/
def wide : (⟨2, ![16384, 5632]⟩ : Shape).Idx → EReal := fun i => projected X W ((i 0).val / 2048) ((i 0).val % 2048) (i 1).val
/-- and its last 512 columns. -/
def narrow : (⟨2, ![16384, 512]⟩ : Shape).Idx → EReal := fun i => projected X W ((i 0).val / 2048) ((i 0).val % 2048) (5632 + (i 1).val)

end Cert.Projection

end
-- ==== Proof.Proj.Array.lean ====
/- What a grid point of the input projection leaves, and its two results after the run. -/
module

public import proofs.«01_k».proof.Proof.Gen.ProjIdeal.Value
public import proofs.«01_k».proof.Proof.Ffn.Entries
public import proofs.«01_k».proof.Proof.Proj.Spec
public import Idealize.ShloMosaic.Lib.Pipeline.ReadBack

@[expose] public section

set_option maxRecDepth 16384

noncomputable section

namespace Cert.Projection

open Cert.ProjIdeal Cert.ProjIdeal.Gen Idealize.ShloMosaic Idealize.ShloMosaic.TcCoe Idealize.SL.Sem
open Cert.Fox (at3 at3_of)
open Cert.ChannelMixer (product drop3)

variable (m : (ℓ : Loc nD τ sig) → Buf (Elt Ideal) ℓ) (c : Dev nD) (t : Fin cfg0.N)

/-- The tokens that the call is given, on a device; -/
abbrev argX : (⟨3, ![8, 2048, 2048]⟩ : Shape).Idx → EReal := m ((c : Thread nD τ).loc main_arg0)
/-- and the weights. -/
abbrev argW : (⟨3, ![2, 2048, 6144]⟩ : Shape).Idx → EReal := m ((c : Thread nD τ).loc main_arg1)

/-- What the scratch held before a point. -/
abbrev held : Vec Ideal S1024x2048 .bf16 := (outsAt0 m c (t.val - 1) (lt_of_le_of_lt (Nat.sub_le _ _) t.isLt)).2.2

/-- The rounded rows that a point works on: a tile's first point writes them. -/
def rowsAt : Vec Ideal S1024x2048 .bf16 := if t.val % 3 = 0 then k0_pay1 (iblk m c 0 t) else held m c t

/-- What a point leaves in the first result's block: the product. -/
theorem outs_wide : (outsAt0 m c t.val t.isLt).1 = k0_pay3 (rowsAt m c t) (iblk m c 1 t) := by
  unfold rowsAt
  by_cases h : t.val % 3 = 0
  · rw [if_pos h, outsAt0_A m c t h (by omega)]
    frame_out
  · rw [if_neg h]
    by_cases h' : t.val % 3 = 2
    · rw [outsAt0_C m c t h h']
      unfold held
      generalize outsAt0 m c (t.val - 1) _ = o
      frame_out
      simp only [read_unread_whole]
    · rw [outsAt0_B m c t h h']
      unfold held
      generalize outsAt0 m c (t.val - 1) _ = o
      frame_out
      simp only [read_unread_whole]

/-- In the second's, a tile's last point leaves the product's last columns. -/
theorem outs_narrow (h' : t.val % 3 = 2) : (outsAt0 m c t.val t.isLt).2.1 = k0_pay4 (rowsAt m c t) (iblk m c 1 t) := by
  unfold rowsAt
  rw [if_neg (by omega), outsAt0_C m c t (by omega) h']
  unfold held
  generalize outsAt0 m c (t.val - 1) _ = o
  frame_out
  simp only [read_unread_whole]

/-- The scratch keeps the rows. -/
theorem outs_rows : (outsAt0 m c t.val t.isLt).2.2 = rowsAt m c t := by
  unfold rowsAt
  by_cases h : t.val % 3 = 0
  · rw [if_pos h, outsAt0_A m c t h (by omega)]
    frame_out
  · rw [if_neg h]
    by_cases h' : t.val % 3 = 2
    · rw [outsAt0_C m c t h h']; rfl
    · rw [outsAt0_B m c t h h']; rfl

/-- The blocks of a grid point: tile `t / 3`, columns `t % 3`. -/
theorem index_maps : ∀ t : Fin cfg0.N, win0_0.index t = ![t.val / 3, 0]
    ∧ win0_1.index t = ![1, 0, t.val % 3]
    ∧ win0_2.index t = ![t.val / 3, t.val % 3]
    ∧ win0_3.index t = ![t.val / 3, 0] :=
  (by decide +kernel : ∀ t : Fin grid0.N, _)

theorem tile_lt : t.val / 3 < 16 := by
  have h : t.val < 48 := lt_of_lt_of_eq t.isLt (show cfg0.N = 48 from N_0)
  omega
theorem column_lt : t.val % 3 < 3 := Nat.mod_lt _ (by norm_num)

/-- A tile's rows are rows of one sequence. -/
theorem x_block (r : Fin 1024) (k : Fin 2048) :
    iblk m c 0 t (ix2 r k) = at3 (argX m c) (t.val / 3 / 2) (1024 * (t.val / 3 % 2) + r.val) k.val := by
  have h0 := tile_lt t
  have hr := r.isLt
  have e : ((cfg0.win 0).blk t).view.emb (ix2 r k) = ix2 (⟨1024 * (t.val / 3) + r.val, by omega⟩ : Fin 16384) k := by
    blk_ext [index_maps t]
  show V m c main_v0 (((cfg0.win 0).blk t).view.emb (ix2 r k)) = _
  rw [e]
  entry_read
  refine (shapeCast_apply _ shapeCasts_S8x2048x2048_S16384x2048 _ (ix3 (⟨t.val / 3 / 2, by omega⟩ : Fin 8)
    (⟨1024 * (t.val / 3 % 2) + r.val, by omega⟩ : Fin 2048) k) ?_).trans (at3_of (argX m c) _ rfl rfl rfl)
  rw [Shape.rowMajor_val_three, Shape.rowMajor_val_two]
  show (t.val / 3 / 2 * 2048 + (1024 * (t.val / 3 % 2) + r.val)) * 2048 + k.val = (1024 * (t.val / 3) + r.val) * 2048 + k.val
  omega

/-- The weights' block holds 2048 columns of the last layer's. -/
theorem w_block (k n : Fin 2048) : iblk m c 1 t (ix3 (0 : Fin 1) k n) = at3 (argW m c) 1 k.val (2048 * (t.val % 3) + n.val) := by
  have h1 := column_lt t
  have hn := n.isLt
  have e : ((cfg0.win 1).blk t).view.emb (ix3 (0 : Fin 1) k n)
      = ix3 (1 : Fin 2) k (⟨2048 * (t.val % 3) + n.val, by omega⟩ : Fin 6144) := by
    blk_ext [index_maps t]
  show V m c main_arg1 (((cfg0.win 1).blk t).view.emb (ix3 (0 : Fin 1) k n)) = _
  rw [e, V_main_arg1]
  exact at3_of (argW m c) _ rfl rfl rfl

/-- The rows that a point works on, entry by entry. -/
theorem rows_entry (j : ℕ) : ∀ t : Fin cfg0.N, t.val % 3 = j → ∀ (r : Fin 1024) (k : Fin 2048),
    rowsAt m c t (ix2 r k) = at3 (argX m c) (t.val / 3 / 2) (1024 * (t.val / 3 % 2) + r.val) k.val := by
  induction j with
  | zero =>
    intro t h r k
    rw [rowsAt, if_pos h]
    refine Eq.trans ?_ (x_block m c t r k)
    unfold k0_pay1
    rw [shapeCast_self, shapeCast_self]
    rfl
  | succ j ih =>
    intro t h r k
    have hp := ih ⟨t.val - 1, lt_of_le_of_lt (Nat.sub_le _ _) t.isLt⟩ (by show (t.val - 1) % 3 = j; omega) r k
    have e0 : (t.val - 1) / 3 = t.val / 3 := by omega
    have eo : held m c t = rowsAt m c ⟨t.val - 1, lt_of_le_of_lt (Nat.sub_le _ _) t.isLt⟩ :=
      outs_rows m c ⟨t.val - 1, lt_of_le_of_lt (Nat.sub_le _ _) t.isLt⟩
    rw [rowsAt, if_neg (by omega), eo, hp]
    show at3 _ ((t.val - 1) / 3 / 2) (1024 * ((t.val - 1) / 3 % 2) + r.val) _ = _
    rw [e0]

/-- The product of a point is the projection's columns. -/
theorem product_entry (r : Fin 1024) (n : Fin 2048) : k0_pay2 (rowsAt m c t) (iblk m c 1 t) (ix2 r n)
    = projected (argX m c) (argW m c) ((1024 * (t.val / 3) + r.val) / 2048) ((1024 * (t.val / 3) + r.val) % 2048) (2048 * (t.val % 3) + n.val) := by
  have hr := r.isLt
  have eb : (1024 * (t.val / 3) + r.val) / 2048 = t.val / 3 / 2 := by omega
  have es : (1024 * (t.val / 3) + r.val) % 2048 = 1024 * (t.val / 3 % 2) + r.val := by omega
  rw [eb, es]
  unfold k0_pay2
  refine (product (rowsAt m c t) (shapeCast S2048x2048 (iblk m c 1 t) shapeCasts_S1x2048x2048_S2048x2048) r n).trans ?_
  exact Finset.sum_congr rfl fun k _ => congrArg₂ (fun a b : EReal => a * b) (rows_entry m c _ t rfl r k)
    ((drop3 (iblk m c 1 t) _ k n).trans (w_block m c t k n))

/-- The first result's array after the run is the projection's first columns. -/
theorem wide_eq : (dats m 0 c).arrAt 2 cfg0.N = wide (argX m c) (argW m c) := by
  refine (dats m 0 c).arrAt_eq_of_covers 2 _ (by decide +kernel) fun t hf y => ?_
  have h0 := tile_lt t
  have h1 := column_lt t
  have k0 : (y 0).val < 1024 := lt_of_lt_of_le (y 0).isLt ((cfg0.win 2).xsize_le _ 0)
  have k1 : (y 1).val < 2048 := lt_of_lt_of_le (y 1).isLt ((cfg0.win 2).xsize_le _ 1)
  have i0 : win0_2.index t 0 = t.val / 3 := congrFun (index_maps t).2.2.1 0
  have i1 : win0_2.index t 1 = t.val % 3 := congrFun (index_maps t).2.2.1 1
  have e0 : (((cfg0.win 2).blk t).view.emb y 0).val = 1024 * (t.val / 3) + (y 0).val := by
    refine ((cfg0.win 2).rect_emb_val t y 0).trans ?_
    show win0_2.index t 0 * 1024 + (y 0).val = _
    rw [i0, Nat.mul_comm]
  have e1 : (((cfg0.win 2).blk t).view.emb y 1).val = 2048 * (t.val % 3) + (y 1).val := by
    refine ((cfg0.win 2).rect_emb_val t y 1).trans ?_
    show win0_2.index t 1 * 2048 + (y 1).val = _
    rw [i1, Nat.mul_comm]
  have ey : (cfg0.win 2).xinj (cfg0.grid.coords t) y = ix2 (⟨(y 0).val, k0⟩ : Fin 1024) (⟨(y 1).val, k1⟩ : Fin 2048) :=
    funext fun a => match a with
      | ⟨0, _⟩ => rfl
      | ⟨1, _⟩ => rfl
  refine (cast_eq _ _).trans ?_
  rw [ey, after0_2, outs_wide]
  refine (product_entry m c t _ _).trans ?_
  unfold wide
  rw [e0, e1]

/-- The second's is its last columns. -/
theorem narrow_eq : (dats m 0 c).arrAt 3 cfg0.N = narrow (argX m c) (argW m c) := by
  refine (dats m 0 c).arrAt_eq_of_covers 3 _ (by decide +kernel) fun t hf y => ?_
  have h0 := tile_lt t
  have h : t.val % 3 = 2 := (flush0_3 t).mp hf
  obtain ⟨r, n, rfl⟩ : ∃ (r : Fin 1024) (n : Fin 512), y = ix2 r n := ⟨y 0, y 1, eq_ix2 y⟩
  have hr := r.isLt
  have hn := n.isLt
  have e : ((cfg0.win 3).blk t).view.emb (ix2 r n) = ix2 (⟨1024 * (t.val / 3) + r.val, by omega⟩ : Fin 16384) n := by
    blk_ext [index_maps t]
  rw [e]
  blk_simp
  rw [after0_3, outs_narrow m c t h]
  unfold k0_pay4
  refine (extractStridedSlice_apply _ _ _ _ (ix2 r (⟨1536 + n.val, by omega⟩ : Fin 2048)) (fun a => ?_)).trans ((product_entry m c t r _).trans ?_)
  · match a with
    | ⟨0, _⟩ => show r.val = 0 + r.val; omega
    | ⟨1, _⟩ => rfl
  · show projected _ _ _ _ (2048 * (t.val % 3) + (1536 + n.val)) = projected _ _ _ _ (5632 + n.val)
    rw [h, show 2048 * 2 + (1536 + n.val) = 5632 + n.val by omega]
    rfl

end Cert.Projection

end
-- ==== Proof.Proj.Reference.lean ====
/- The reference of the input projection computes the projection. -/
module

public import proofs.«01_k».proof.Proof.Gen.ProjReferenceIdeal.Read
public import proofs.«01_k».proof.Proof.Proj.Spec
public import Idealize.ShloMosaic.Lib.KernelVsHost
public import Idealize.ShloMosaic.Lib.IdealHost

@[expose] public section

set_option maxRecDepth 16384

noncomputable section

namespace Cert.Projection.Reference

open Cert.ProjReferenceIdeal Cert.ProjReferenceIdeal.Gen Idealize.ShloMosaic Idealize.ShloMosaic.TcCoe Idealize.SL.Sem
open Cert.ProjReferenceIdeal.Read
open Cert.Fox (at3 at3_of)

variable (X : (⟨3, ![8, 2048, 2048]⟩ : Shape).Idx → EReal) (W : (⟨3, ![2, 2048, 6144]⟩ : Shape).Idx → EReal)

/-- The product, the tokens of all sequences one after another. -/
theorem rows_apply (i : S16384x6144.Idx) :
    val_main_v4 (F := Ideal) X W i = projected X W ((i 0).val / 2048) ((i 0).val % 2048) (i 1).val := by
  have h0 : (i 0).val < 16384 := (i 0).isLt
  have h1 : (i 1).val < 6144 := (i 1).isLt
  rw [val_main_v4_apply, val_main_v3_apply]
  refine Finset.sum_congr rfl fun k _ => ?_
  have hk := k.isLt
  rw [val_main_v2_apply, val_main_v1_apply, val_main_v0_apply]
  refine congrArg₂ (fun a b : EReal => a * b) (at3_of X _ ?_ ?_ rfl) (at3_of W _ rfl ?_ ?_)
  all_goals (dsimp only [idx_main_v4, lidx_main_v3, ridx_main_v3, idx_main_v2, idx_main_v1]; omega)

/-- The first result, -/
theorem wide_eq : val_main_v6 (F := Ideal) X W = wide X W := funext fun i => by
  rw [val_main_v6_apply, val_main_v5_apply]
  exact rows_apply X W _
/-- and the second. -/
theorem narrow_eq : val_main_v7 (F := Ideal) X W = narrow X W := funext fun i => by
  rw [val_main_v7_apply]
  exact rows_apply X W _

end Cert.Projection.Reference

end
-- ==== Proof.Proj.Claims.lean ====
/- The claims of the input projection. -/
module

public import proofs.«01_k».proof.Defs
public import proofs.«01_k».proof.Proof.Gen.Proj
public import proofs.«01_k».proof.Proof.Proj.Array
public import proofs.«01_k».proof.Proof.Proj.Reference
public import Idealize.ShloMosaic.Lib.Quiescent

@[expose] public section

set_option maxRecDepth 16384

noncomputable section

namespace Cert.Projection

open Idealize.ShloMosaic Idealize.ShloMosaic.TcCoe Idealize.SL.Sem

section Same

set_option maxHeartbeats 4000000
set_option backward.isDefEq.respectTransparency false

/-- The call's body is the same text in both programs, -/
theorem bodies_eq : Cert.Proj.defs₀ (F := Bits) = Cert.ProjIdeal.defs₀ (F := Bits) := by
  unfold Cert.Proj.defs₀ Cert.ProjIdeal.defs₀
  refine congrArg Defs.onTc (funext fun l => funext fun a => ?_)
  match l, a with
  | 0, (t, s) => rfl
  | ⟨_ + 1, h⟩, _ => exact absurd h (Nat.not_lt.2 (Nat.le_add_left _ _))

/-- and so are their definitions. -/
theorem defs_eq : Cert.Proj.defs (F := Bits) = Cert.ProjIdeal.defs (F := Bits) :=
  congrArg (Pipeline.defs (Cert.ProjIdeal.pcfgs (F := Bits))) bodies_eq

/-- The call runs to its end and leaves its arguments as they were. -/
theorem frame_kernel : Cert.quiescent_Proj := fun m ρ _ => by
  rw [defs_eq]
  exact Cert.ProjIdeal.Gen.frame (F := Bits) m ρ

end Same

/-- So does the call on the extended reals. -/
theorem frame_ideal : Cert.quiescent_ProjIdeal := fun m ρ _ => Cert.ProjIdeal.Gen.frame (F := Ideal) m ρ

/-- So does its reference. -/
theorem frame_reference : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

/-- No operation was rewritten. -/
theorem preserves : Cert.preserves_Proj_ProjIdeal := trivial

/-- On the extended reals the call leaves the same two results as its reference: the projection's columns. -/
theorem algebraic : @Cert.algebraic_ProjIdeal_ProjReferenceIdeal Cert.ProjIdeal.Gen.facts Cert.ProjReferenceIdeal.Gen.facts := by
  intro m ρ m' ρ' _ hagree
  refine ⟨fun c => wide (argX m c) (argW m c), fun c => narrow (argX m c) (argW m c), ?_, ?_⟩
  · exact (θ_run Cert.ProjIdeal.defs _ _).mono
      (fun _ h c => ⟨(h c).1.trans (wide_eq m c), (h c).2.1.trans (narrow_eq m c), (h c).2.2⟩) (Cert.ProjIdeal.Value.run_blocks (F := Ideal) m ρ)
  · refine (θ_run Cert.ProjReferenceIdeal.defs _ _).mono (fun _ h c => ⟨(h c).1.trans ?_, (h c).2.1.trans ?_, (h c).2.2⟩)
      (Cert.ProjReferenceIdeal.Value.run (F := Ideal) m' ρ')
    · obtain ⟨h0, h1⟩ := hagree c
      rw [Cert.ProjReferenceIdeal.Read.val_main_v6_eq, h0, h1]
      exact Reference.wide_eq _ _
    · obtain ⟨h0, h1⟩ := hagree c
      rw [Cert.ProjReferenceIdeal.Read.val_main_v7_eq, h0, h1]
      exact Reference.narrow_eq _ _

end Cert.Projection

end
-- ==== Proof.Pack.Spec.lean ====
/- The packed weights of the input projection, on the extended reals. -/
module

public import proofs.«01_k».proof.Proof.Ffn.Spec

@[expose] public section

set_option maxRecDepth 16384

noncomputable section

namespace Cert.Packing

open Idealize.ShloMosaic
open Cert.Fox (at3)

/-- The column of the weights that column `n` of the packed ones is; past the weights' last for the columns of padding. -/
def source (n : ℕ) : ℕ :=
  if n < 2304 then n
  else if n < 4608 then 1292 + n
  else if n < 5120 then n - 2304
  else if n < 5632 then n - 2048
  else if n < 5888 then n - 2816
  else if n < 6016 then n - 2304
  else n - 128

/-- The packed weights: the weights' columns in their new places, zero in the padding. -/
def packed (W : (⟨3, ![2, 2048, 5906]⟩ : Shape).Idx → EReal) : (⟨3, ![2, 2048, 6144]⟩ : Shape).Idx → EReal :=
  fun i => at3 W (i 0).val (i 1).val (source (i 2).val)

end Cert.Packing

end
-- ==== Proof.Pack.Array.lean ====
/- What a grid point of the packing leaves, and the packed weights after the run. -/
module

public import proofs.«01_k».proof.Proof.Gen.PackIdeal.Value
public import proofs.«01_k».proof.Proof.Ffn.Entries
public import proofs.«01_k».proof.Proof.Pack.Spec
public import Idealize.ShloMosaic.Lib.Pipeline.ReadBack

@[expose] public section

set_option maxRecDepth 16384

noncomputable section

namespace Cert.Packing

open Cert.PackIdeal Cert.PackIdeal.Gen Idealize.ShloMosaic Idealize.ShloMosaic.TcCoe Idealize.SL.Sem
open Cert.Fox (at3 at3_of)

variable (m : (ℓ : Loc nD τ sig) → Buf (Elt Ideal) ℓ) (c : Dev nD) (t : Fin cfg0.N)

/-- The weights that the call is given, on a device. -/
abbrev argW : (⟨3, ![2, 2048, 5906]⟩ : Shape).Idx → EReal := m ((c : Thread nD τ).loc main_arg0)

/-- A rounded block without its unit axis, with it again, is the block. -/
theorem recast {w : ℕ} (v : Vec Ideal ⟨3, ![1, 256, w]⟩ .f32) (h : (⟨3, ![1, 256, w]⟩ : Shape).ShapeCasts ⟨2, ![256, w]⟩)
    (h' : (⟨2, ![256, w]⟩ : Shape).ShapeCasts ⟨3, ![1, 256, w]⟩) (hb : FTy.bits .bf16 < FTy.bits .f32) :
    shapeCast ⟨3, ![1, 256, w]⟩ (truncf .bf16 (shapeCast ⟨2, ![256, w]⟩ v h : FVec Ideal ⟨2, ![256, w]⟩ .f32) hb) h' = v :=
  shapeCast_shapeCast (α := EReal) v h h'

/-- One move of the body: the store of `w` columns of a block, from column `s` on, at column `d`, is the packed block there, and off it the earlier
    stores are left. -/
theorem moved (X : Vec Ideal S1x256x5906 .f32) (d w s : ℕ) (inb : ∀ a, (![0, 0, s] : Fin 3 → ℕ) a + (![1, 256, w] : Fin 3 → ℕ) a ≤ S1x256x5906.size a)
    (inb' : ∀ a, (![0, 0, d] : Fin 3 → ℕ) a + (![1, 256, w] : Fin 3 → ℕ) a ≤ S1x256x6144.size a)
    (P : (⟨3, ![1, 256, w]⟩ : Shape).Idx → EReal) (L : List (View.Piece (Elt Ideal) S1x256x6144 .bf16)) (y : S1x256x6144.Idx)
    (hP : P = View.ld (Val := Elt Ideal) (e' := .f32) X (Rect.unit (s := S1x256x5906) ![0, 0, s] ![1, 256, w] inb))
    (hs : ∀ j, j < w → source (d + j) = s + j)
    (hL : ¬(d ≤ (y 2).val ∧ (y 2).val < d + w) → View.canon L y = at3 X 0 (y 1).val (source (y 2).val)) :
    View.canon (⟨Rect.unit (s := S1x256x6144) ![0, 0, d] ![1, 256, w] inb', P⟩ :: L) y = at3 X 0 (y 1).val (source (y 2).val) := by
  subst hP
  by_cases h : d ≤ (y 2).val ∧ (y 2).val < d + w
  · have y0 : (y 0).val < 1 := (y 0).isLt
    have e : y = (Rect.unit (s := S1x256x6144) ![0, 0, d] ![1, 256, w] inb').emb
        (ix3 (⟨(y 0).val, y0⟩ : Fin 1) (⟨(y 1).val, (y 1).isLt⟩ : Fin 256) (⟨(y 2).val - d, by omega⟩ : Fin w)) := by
      funext a
      match a with
      | ⟨0, _⟩ => exact Fin.ext (by show (y 0).val = 0 + 1 * (y 0).val; omega)
      | ⟨1, _⟩ => exact Fin.ext (by show (y 1).val = 0 + 1 * (y 1).val; omega)
      | ⟨2, _⟩ => exact Fin.ext (by show (y 2).val = d + 1 * ((y 2).val - d); omega)
    have hsrc := hs ((y 2).val - d) (by omega)
    rw [show d + ((y 2).val - d) = (y 2).val by omega] at hsrc
    rw [hsrc]
    refine (congrArg _ e).trans ((View.canon_cons_emb _ _ L _).trans ?_)
    refine at3_of X _ ?_ ?_ ?_
    · show 0 + 1 * (y 0).val = 0; omega
    · show 0 + 1 * (y 1).val = (y 1).val; omega
    · show s + 1 * ((y 2).val - d) = s + ((y 2).val - d); omega
  · refine (View.canon_cons_of_not_mem _ L fun hy => h ?_).trans (hL h)
    exact ((Rect.mem_set_unit (inb := inb')).mp hy) 2

/-- A grid point leaves its rows of the packed block. -/
theorem outs_entry (y : S1x256x6144.Idx) : outsAt0 m c t y = at3 (iblk m c 0 t) 0 (y 1).val (source (y 2).val) := by
  unfold outsAt0
  frame_out
  generalize iblk m c 0 t = X
  refine moved X 6016 18 5888 _ _ _ _ y (by unfold k0_pay2; exact recast _ _ _ _) (fun j h => by unfold source; split_ifs <;> omega) fun h0 => ?_
  refine moved X 5888 128 3584 _ _ _ _ y (by unfold k0_pay1; exact recast _ _ _ _) (fun j h => by unfold source; split_ifs <;> omega) fun h1 => ?_
  refine moved X 5760 128 2944 _ _ _ _ y (by unfold k0_pay18; exact recast _ _ _ _) (fun j h => by unfold source; split_ifs <;> omega) fun h2 => ?_
  refine moved X 5632 128 2816 _ _ _ _ y (by unfold k0_pay17; exact recast _ _ _ _) (fun j h => by unfold source; split_ifs <;> omega) fun h3 => ?_
  refine moved X 5504 128 3456 _ _ _ _ y (by unfold k0_pay16; exact recast _ _ _ _) (fun j h => by unfold source; split_ifs <;> omega) fun h4 => ?_
  refine moved X 5376 128 3328 _ _ _ _ y (by unfold k0_pay15; exact recast _ _ _ _) (fun j h => by unfold source; split_ifs <;> omega) fun h5 => ?_
  refine moved X 5248 128 3200 _ _ _ _ y (by unfold k0_pay14 k0_pay13; exact recast _ _ _ _) (fun j h => by unfold source; split_ifs <;> omega) fun h6 => ?_
  refine moved X 5120 128 3072 _ _ _ _ y (by unfold k0_pay12; exact recast _ _ _ _) (fun j h => by unfold source; split_ifs <;> omega) fun h7 => ?_
  refine moved X 4608 512 2304 _ _ _ _ y (by unfold k0_pay11; exact recast _ _ _ _) (fun j h => by unfold source; split_ifs <;> omega) fun h8 => ?_
  refine moved X 3840 768 5132 _ _ _ _ y (by unfold k0_pay10; exact recast _ _ _ _) (fun j h => by unfold source; split_ifs <;> omega) fun h9 => ?_
  refine moved X 3072 768 4364 _ _ _ _ y (by unfold k0_pay9; exact recast _ _ _ _) (fun j h => by unfold source; split_ifs <;> omega) fun h10 => ?_
  refine moved X 2304 768 3596 _ _ _ _ y (by unfold k0_pay8 k0_pay7; exact recast _ _ _ _) (fun j h => by unfold source; split_ifs <;> omega) fun h11 => ?_
  refine moved X 1536 768 1536 _ _ _ _ y (by unfold k0_pay6; exact recast _ _ _ _) (fun j h => by unfold source; split_ifs <;> omega) fun h12 => ?_
  refine moved X 768 768 768 _ _ _ _ y (by unfold k0_pay5; exact recast _ _ _ _) (fun j h => by unfold source; split_ifs <;> omega) fun h13 => ?_
  refine moved X 0 768 0 _ _ _ _ y (by unfold k0_pay4; exact recast _ _ _ _) (fun j h => by unfold source; split_ifs <;> omega) fun h14 => ?_
  have y1 : (y 1).val < 256 := (y 1).isLt
  have y2 : (y 2).val < 6144 := (y 2).isLt
  have hz : source (y 2).val = (y 2).val - 128 := by unfold source; split_ifs <;> omega
  have e : y = (Rect.unit (s := S1x256x6144) ![0, 0, 6016] ![1, 256, 128] inb_S1x256x6144_S1x256x128_0_0_6016).emb
      (ix3 (⟨(y 0).val, (y 0).isLt⟩ : Fin 1) (⟨(y 1).val, y1⟩ : Fin 256) (⟨(y 2).val - 6016, by omega⟩ : Fin 128)) := by
    funext a
    match a with
    | ⟨0, _⟩ => exact Fin.ext (by show (y 0).val = 0 + 1 * (y 0).val; omega)
    | ⟨1, _⟩ => exact Fin.ext (by show (y 1).val = 0 + 1 * (y 1).val; omega)
    | ⟨2, _⟩ => exact Fin.ext (by show (y 2).val = 6016 + 1 * ((y 2).val - 6016); omega)
  refine (congrArg _ e).trans ((View.canon_cons_emb _ _ [] _).trans ?_)
  rw [hz]
  unfold at3
  rw [dif_neg (by omega)]
  show Ideal.ofBits .bf16 0x0000#16 = 0
  simp [Ideal.ofBits, Ideal.ieee]

theorem index_maps : ∀ t : Fin cfg0.N, win0_0.index t = ![t.val / 8, t.val % 8, 0] ∧ win0_1.index t = ![t.val / 8, t.val % 8, 0] :=
  (by decide +kernel : ∀ t : Fin grid0.N, _)

theorem layer_lt : t.val / 8 < 2 := by
  have h : t.val < 16 := lt_of_lt_of_eq t.isLt (show cfg0.N = 16 from N_0)
  omega

/-- The weights' block holds 256 rows of a layer. -/
theorem w_block (r : Fin 256) (n : ℕ) : at3 (iblk m c 0 t) 0 r.val n = at3 (argW m c) (t.val / 8) (256 * (t.val % 8) + r.val) n := by
  have h0 := layer_lt t
  have hr := r.isLt
  by_cases hn : n < 5906
  · have e : ((cfg0.win 0).blk t).view.emb (ix3 (0 : Fin 1) r (⟨n, hn⟩ : Fin 5906))
        = ix3 (⟨t.val / 8, h0⟩ : Fin 2) (⟨256 * (t.val % 8) + r.val, by omega⟩ : Fin 2048) (⟨n, hn⟩ : Fin 5906) := by
      blk_ext [index_maps t]
    refine (at3_of (iblk m c 0 t) (ix3 (0 : Fin 1) r (⟨n, hn⟩ : Fin 5906)) rfl rfl rfl).symm.trans ?_
    show V m c main_arg0 (((cfg0.win 0).blk t).view.emb (ix3 (0 : Fin 1) r (⟨n, hn⟩ : Fin 5906))) = _
    rw [e, V_main_arg0]
    exact at3_of (argW m c) _ rfl rfl rfl
  · unfold at3
    rw [dif_neg (by omega), dif_neg (by omega)]

/-- The packed array after the run. -/
theorem array_eq : (dats m 0 c).arrAt 1 cfg0.N = packed (argW m c) := by
  refine (dats m 0 c).arrAt_eq_of_covers 1 _ (by decide +kernel) fun t hf y => ?_
  have h0 := layer_lt t
  obtain ⟨z, r, n, rfl⟩ : ∃ (z : Fin 1) (r : Fin 256) (n : Fin 6144), y = ix3 z r n := ⟨y 0, y 1, y 2, eq_ix3 y⟩
  have hr := r.isLt
  have hz : z = 0 := Subsingleton.elim _ _
  subst hz
  have e : ((cfg0.win 1).blk t).view.emb (ix3 (0 : Fin 1) r n)
      = ix3 (⟨t.val / 8, h0⟩ : Fin 2) (⟨256 * (t.val % 8) + r.val, by omega⟩ : Fin 2048) n := by
    blk_ext [index_maps t]
  rw [e]
  blk_simp
  rw [after0_1]
  exact (outs_entry m c t _).trans (w_block m c t r _)

end Cert.Packing

end
-- ==== Proof.Pack.Reference.lean ====
/- The reference of the packing computes the packed weights. -/
module

public import proofs.«01_k».proof.Proof.Gen.PackReferenceIdeal.Read
public import proofs.«01_k».proof.Proof.Pack.Spec
public import Idealize.ShloMosaic.Lib.KernelVsHost
public import Idealize.ShloMosaic.Lib.IdealHost

@[expose] public section

set_option maxRecDepth 16384

noncomputable section

namespace Cert.Packing.Reference

open Cert.PackReferenceIdeal Cert.PackReferenceIdeal.Gen Idealize.ShloMosaic Idealize.ShloMosaic.TcCoe Idealize.SL.Sem
open Cert.PackReferenceIdeal.Read
open Cert.Fox (at3 at3_of)

variable (W : (⟨3, ![2, 2048, 5906]⟩ : Shape).Idx → EReal)

/-- Columns joined one after another, read at a column of the `k`-th piece, which begins at column `d`. -/
theorem piece_apply (xs : List ((s : Shape) × (s.Idx → EReal))) (h : Shape.Concatenates (xs.map (·.1)) S2x2048x6144 2) (i : S2x2048x6144.Idx)
    (k : ℕ) (hk : k < xs.length) {w : ℕ} (x : (⟨3, ![2, 2048, w]⟩ : Shape).Idx → EReal) (hx : xs[k] = ⟨⟨3, ![2, 2048, w]⟩, x⟩) (d : ℕ)
    (hd : (((xs.take k).map (·.1)).map fun s => if h : s.rank = S2x2048x6144.rank then s.size ((2 : Fin S2x2048x6144.rank).cast h.symm) else 0).sum = d)
    (h1 : d ≤ (i 2).val) (h2 : (i 2).val < d + w) :
    concatenate S2x2048x6144 2 xs h i
      = x (ix3 (⟨(i 0).val, (i 0).isLt⟩ : Fin 2) (⟨(i 1).val, (i 1).isLt⟩ : Fin 2048) (⟨(i 2).val - d, by omega⟩ : Fin w)) := by
  refine concatenate_apply_piece 2 xs h i k hk _ x hx rfl d hd _ (fun b hb => ?_) ?_
  · match b with
    | ⟨0, _⟩ => rfl
    | ⟨1, _⟩ => rfl
    | ⟨2, _⟩ => exact absurd rfl hb
  · show d + ((i 2).val - d) = (i 2).val
    omega

/-- The joined columns, piece by piece. -/
def pieces : List ((s : Shape) × (s.Idx → EReal)) :=
  [⟨S2x2048x768, val_main_v0 (F := Ideal) W⟩, ⟨S2x2048x768, val_main_v1 (F := Ideal) W⟩, ⟨S2x2048x768, val_main_v2 (F := Ideal) W⟩, ⟨S2x2048x768, val_main_v11 (F := Ideal) W⟩, ⟨S2x2048x768, val_main_v12 (F := Ideal) W⟩,
   ⟨S2x2048x768, val_main_v13 (F := Ideal) W⟩, ⟨S2x2048x512, val_main_v3 (F := Ideal) W⟩, ⟨S2x2048x128, val_main_v6 (F := Ideal) W⟩, ⟨S2x2048x128, val_main_v7 (F := Ideal) W⟩, ⟨S2x2048x128, val_main_v8 (F := Ideal) W⟩,
   ⟨S2x2048x128, val_main_v9 (F := Ideal) W⟩, ⟨S2x2048x128, val_main_v4 (F := Ideal) W⟩, ⟨S2x2048x128, val_main_v5 (F := Ideal) W⟩, ⟨S2x2048x128, val_main_v15 (F := Ideal) W⟩, ⟨S2x2048x128, val_main_v17 (F := Ideal) W⟩]

/-- The shapes of the pieces. -/
def shapes : List Shape :=
  [S2x2048x768, S2x2048x768, S2x2048x768, S2x2048x768, S2x2048x768, S2x2048x768, S2x2048x512, S2x2048x128, S2x2048x128, S2x2048x128, S2x2048x128,
   S2x2048x128, S2x2048x128, S2x2048x128, S2x2048x128]

/-- The columns of a piece. -/
def along (s : Shape) : ℕ := if h : s.rank = S2x2048x6144.rank then s.size ((2 : Fin S2x2048x6144.rank).cast h.symm) else 0

/-- The padded columns. -/
theorem pad_entry (j : S2x2048x128.Idx) : val_main_v17 (F := Ideal) W j = at3 W (j 0).val (j 1).val (5888 + (j 2).val) := by
  unfold val_main_v17
  by_cases h : (j 2).val < 18
  · refine (pad_apply_of_inside _ _ _ _ _ _ _ j
      (ix3 (⟨(j 0).val, (j 0).isLt⟩ : Fin 2) (⟨(j 1).val, (j 1).isLt⟩ : Fin 2048) (⟨(j 2).val, h⟩ : Fin 18)) (fun a => ?_)).trans
      ((val_main_v16_apply (F := Ideal) W _).trans (at3_of W _ rfl rfl rfl))
    match a with
    | ⟨0, _⟩ => show (j 0).val = 0 + (j 0).val * 1; omega
    | ⟨1, _⟩ => show (j 1).val = 0 + (j 1).val * 1; omega
    | ⟨2, _⟩ => show (j 2).val = 0 + (j 2).val * 1; omega
  · refine (pad_apply_of_not_inside _ _ _ _ _ _ _ j 2 fun hin => h ?_).trans ?_
    · have := hin.2.2
      have e : (j 2).val = ((j 2).val - 0) / (0 + 1) := by omega
      exact lt_of_eq_of_lt e this
    · unfold at3
      rw [dif_neg (by omega), val_main_call0_v0_apply]
      show (((0#32 : BitVec 32).toInt : ℝ) : EReal) = 0
      simp

/-- The joined columns at a column of the `k`-th piece, which begins at column `d` and holds the weights' columns from `o` on. -/
theorem moved_apply (i : S2x2048x6144.Idx) (k : ℕ) (hk : k < (pieces W).length) {w : ℕ} (x : (⟨3, ![2, 2048, w]⟩ : Shape).Idx → EReal)
    (hx : (pieces W)[k] = ⟨⟨3, ![2, 2048, w]⟩, x⟩) (d o : ℕ)
    (hd : ((shapes.take k).map along).sum = d)
    (h1 : d ≤ (i 2).val) (h2 : (i 2).val < d + w) (hv : ∀ j, x j = at3 W (j 0).val (j 1).val (o + (j 2).val))
    (ho : ∀ j, j < w → source (d + j) = o + j) :
    val_main_v18 (F := Ideal) W i = packed W i := by
  refine (piece_apply (pieces W) _ i k hk x hx d ((congrArg (fun l => (l.map along).sum) List.map_take).trans hd) h1 h2).trans ((hv _).trans ?_)
  have e := ho ((i 2).val - d) (by omega)
  rw [show d + ((i 2).val - d) = (i 2).val by omega] at e
  exact congrArg (at3 W _ _) e.symm

/-- The reference's result. -/
theorem result_eq : val_main_v19 (F := Ideal) W = packed W := funext fun i => by
  have hi : (i 2).val < 6144 := (i 2).isLt
  refine (val_main_v19_apply (F := Ideal) W i).trans ?_
  by_cases h0 : (i 2).val < 768
  · exact moved_apply W i 0 (by show 0 < 15; decide) (val_main_v0 (F := Ideal) W) rfl 0 0 (by decide) (by omega) h0
      (fun j => (val_main_v0_apply (F := Ideal) W j).trans (at3_of W _ rfl rfl (Nat.zero_add _).symm)) (fun j h => by unfold source; split_ifs <;> omega)
  by_cases h1 : (i 2).val < 1536
  · exact moved_apply W i 1 (by show 1 < 15; decide) (val_main_v1 (F := Ideal) W) rfl 768 768 (by decide) (by omega) h1
      (fun j => (val_main_v1_apply (F := Ideal) W j).trans (at3_of W _ rfl rfl rfl)) (fun j h => by unfold source; split_ifs <;> omega)
  by_cases h2 : (i 2).val < 2304
  · exact moved_apply W i 2 (by show 2 < 15; decide) (val_main_v2 (F := Ideal) W) rfl 1536 1536 (by decide) (by omega) h2
      (fun j => (val_main_v2_apply (F := Ideal) W j).trans (at3_of W _ rfl rfl rfl)) (fun j h => by unfold source; split_ifs <;> omega)
  by_cases h3 : (i 2).val < 3072
  · exact moved_apply W i 3 (by show 3 < 15; decide) (val_main_v11 (F := Ideal) W) rfl 2304 3596 (by decide) (by omega) h3
      (fun j => (val_main_v11_apply (F := Ideal) W j).trans (at3_of W _ rfl rfl rfl)) (fun j h => by unfold source; split_ifs <;> omega)
  by_cases h4 : (i 2).val < 3840
  · exact moved_apply W i 4 (by show 4 < 15; decide) (val_main_v12 (F := Ideal) W) rfl 3072 4364 (by decide) (by omega) h4
      (fun j => (val_main_v12_apply (F := Ideal) W j).trans (at3_of W _ rfl rfl rfl)) (fun j h => by unfold source; split_ifs <;> omega)
  by_cases h5 : (i 2).val < 4608
  · exact moved_apply W i 5 (by show 5 < 15; decide) (val_main_v13 (F := Ideal) W) rfl 3840 5132 (by decide) (by omega) h5
      (fun j => (val_main_v13_apply (F := Ideal) W j).trans (at3_of W _ rfl rfl rfl)) (fun j h => by unfold source; split_ifs <;> omega)
  by_cases h6 : (i 2).val < 5120
  · exact moved_apply W i 6 (by show 6 < 15; decide) (val_main_v3 (F := Ideal) W) rfl 4608 2304 (by decide) (by omega) h6
      (fun j => (val_main_v3_apply (F := Ideal) W j).trans (at3_of W _ rfl rfl rfl)) (fun j h => by unfold source; split_ifs <;> omega)
  by_cases h7 : (i 2).val < 5248
  · exact moved_apply W i 7 (by show 7 < 15; decide) (val_main_v6 (F := Ideal) W) rfl 5120 3072 (by decide) (by omega) h7
      (fun j => (val_main_v6_apply (F := Ideal) W j).trans (at3_of W _ rfl rfl rfl)) (fun j h => by unfold source; split_ifs <;> omega)
  by_cases h8 : (i 2).val < 5376
  · exact moved_apply W i 8 (by show 8 < 15; decide) (val_main_v7 (F := Ideal) W) rfl 5248 3200 (by decide) (by omega) h8
      (fun j => (val_main_v7_apply (F := Ideal) W j).trans (at3_of W _ rfl rfl rfl)) (fun j h => by unfold source; split_ifs <;> omega)
  by_cases h9 : (i 2).val < 5504
  · exact moved_apply W i 9 (by show 9 < 15; decide) (val_main_v8 (F := Ideal) W) rfl 5376 3328 (by decide) (by omega) h9
      (fun j => (val_main_v8_apply (F := Ideal) W j).trans (at3_of W _ rfl rfl rfl)) (fun j h => by unfold source; split_ifs <;> omega)
  by_cases h10 : (i 2).val < 5632
  · exact moved_apply W i 10 (by show 10 < 15; decide) (val_main_v9 (F := Ideal) W) rfl 5504 3456 (by decide) (by omega) h10
      (fun j => (val_main_v9_apply (F := Ideal) W j).trans (at3_of W _ rfl rfl rfl)) (fun j h => by unfold source; split_ifs <;> omega)
  by_cases h11 : (i 2).val < 5760
  · exact moved_apply W i 11 (by show 11 < 15; decide) (val_main_v4 (F := Ideal) W) rfl 5632 2816 (by decide) (by omega) h11
      (fun j => (val_main_v4_apply (F := Ideal) W j).trans (at3_of W _ rfl rfl rfl)) (fun j h => by unfold source; split_ifs <;> omega)
  by_cases h12 : (i 2).val < 5888
  · exact moved_apply W i 12 (by show 12 < 15; decide) (val_main_v5 (F := Ideal) W) rfl 5760 2944 (by decide) (by omega) h12
      (fun j => (val_main_v5_apply (F := Ideal) W j).trans (at3_of W _ rfl rfl rfl)) (fun j h => by unfold source; split_ifs <;> omega)
  by_cases h13 : (i 2).val < 6016
  · exact moved_apply W i 13 (by show 13 < 15; decide) (val_main_v15 (F := Ideal) W) rfl 5888 3584 (by decide) (by omega) h13
      (fun j => (val_main_v15_apply (F := Ideal) W j).trans (at3_of W _ rfl rfl rfl)) (fun j h => by unfold source; split_ifs <;> omega)
  exact moved_apply W i 14 (by show 14 < 15; decide) (val_main_v17 (F := Ideal) W) rfl 6016 5888 (by decide) (by omega) hi (pad_entry W)
    (fun j h => by unfold source; split_ifs <;> omega)

end Cert.Packing.Reference

end
-- ==== Proof.Pack.Claims.lean ====
/- The claims of the packing of the input projection's weights. -/
module

public import proofs.«01_k».proof.Defs
public import proofs.«01_k».proof.Proof.Gen.Pack
public import proofs.«01_k».proof.Proof.Pack.Array
public import proofs.«01_k».proof.Proof.Pack.Reference
public import Idealize.ShloMosaic.Lib.Quiescent

@[expose] public section

set_option maxRecDepth 16384

noncomputable section

namespace Cert.Packing

open Idealize.ShloMosaic Idealize.ShloMosaic.TcCoe Idealize.SL.Sem

section Same

set_option maxHeartbeats 4000000
set_option backward.isDefEq.respectTransparency false

/-- The call's body is the same text in both programs, -/
theorem bodies_eq : Cert.Pack.defs₀ (F := Bits) = Cert.PackIdeal.defs₀ (F := Bits) := by
  unfold Cert.Pack.defs₀ Cert.PackIdeal.defs₀
  refine congrArg Defs.onTc (funext fun l => funext fun a => ?_)
  match l, a with
  | 0, (t, s) => rfl
  | ⟨_ + 1, h⟩, _ => exact absurd h (Nat.not_lt.2 (Nat.le_add_left _ _))

/-- and so are their definitions. -/
theorem defs_eq : Cert.Pack.defs (F := Bits) = Cert.PackIdeal.defs (F := Bits) :=
  congrArg (Pipeline.defs (Cert.PackIdeal.pcfgs (F := Bits))) bodies_eq

/-- The call runs to its end and leaves its arguments as they were. -/
theorem frame_kernel : Cert.quiescent_Pack := fun m ρ _ => by
  rw [defs_eq]
  exact Cert.PackIdeal.Gen.frame (F := Bits) m ρ

end Same

/-- So does the call on the extended reals. -/
theorem frame_ideal : Cert.quiescent_PackIdeal := fun m ρ _ => Cert.PackIdeal.Gen.frame (F := Ideal) m ρ

/-- So does its reference. -/
theorem frame_reference : Cert.quiescent_PackReferenceIdeal := fun m ρ _ =>
  (θ_run Cert.PackReferenceIdeal.defs _ _).mono (fun r h => ⟨fun c => (h c).2, sem_eq_zero_of_no_sems (by decide) r.2⟩)
    (Cert.PackReferenceIdeal.Value.run (F := Ideal) m ρ)

/-- No operation was rewritten. -/
theorem preserves : Cert.preserves_Pack_PackIdeal := trivial

/-- On the extended reals the call leaves the same result as its reference: the packed weights. -/
theorem algebraic : @Cert.algebraic_PackIdeal_PackReferenceIdeal Cert.PackIdeal.Gen.facts Cert.PackReferenceIdeal.Gen.facts := by
  intro m ρ m' ρ' _ hagree
  refine ⟨fun c => packed (argW m c), ?_, ?_⟩
  · exact (θ_run Cert.PackIdeal.defs _ _).mono (fun _ h c => ⟨(h c).1.trans (array_eq m c), (h c).2⟩) (Cert.PackIdeal.Value.run_blocks (F := Ideal) m ρ)
  · refine (θ_run Cert.PackReferenceIdeal.defs _ _).mono (fun _ h c => ⟨(h c).1.trans ?_, (h c).2⟩)
      (Cert.PackReferenceIdeal.Value.run (F := Ideal) m' ρ')
    rw [Cert.PackReferenceIdeal.Read.val_main_v19_eq, hagree c]
    exact Reference.result_eq _

end Cert.Packing

end
-- ==== Proof.Decay.Spec.lean ====
/- The cumulative decays of the attention's forget gates, as sums of the logarithms of the gates. -/
module

public import proofs.«01_k».proof.Proof.Fox.Block
public import Idealize.ShloMosaic.PureOps.Ideal.Laws

@[expose] public section

set_option maxRecDepth 16384

noncomputable section

namespace Cert.ForgetDecay

open Idealize.ShloMosaic Idealize.ShloMosaic.TcCoe
open Cert.Fox (at3 at3_of)

/-- The logarithm of the logistic function. -/
def logSigmoid (x : EReal) : EReal := min x 0 - Ideal.log1p (Ideal.exp (-max x (-x)))

/-- The bias of the column `392 + r`: the six gates are those at `r = 4, …, 9`. -/
def bias (B : (⟨2, ![2, 6]⟩ : Shape).Idx → EReal) (r : ℕ) : EReal :=
  if h : 4 ≤ r ∧ r < 10 then B (ix2 (1 : Fin 2) (⟨r - 4, by omega⟩ : Fin 6)) else 0

/-- The logarithm of a gate of a batch at a position. -/
def logGate (X : (⟨3, ![8, 2048, 512]⟩ : Shape).Idx → EReal) (B : (⟨2, ![2, 6]⟩ : Shape).Idx → EReal) (b r s : ℕ) : EReal :=
  logSigmoid (at3 X b s (392 + r) + bias B r)

/-- The cumulative decays, by batch, chunk of 256 positions, gate and position in the chunk. -/
def decay (X : (⟨3, ![8, 2048, 512]⟩ : Shape).Idx → EReal) (B : (⟨2, ![2, 6]⟩ : Shape).Idx → EReal) :
    (⟨4, ![8, 8, 16, 256]⟩ : Shape).Idx → EReal :=
  fun i => ∑ s ∈ Finset.range (256 * (i 1).val + (i 3).val + 1), logGate X B (i 0).val (i 2).val s

theorem exp_nonneg (x : EReal) : 0 ≤ Ideal.exp x := by
  induction x with
  | bot => exact le_refl _
  | top => exact le_top
  | coe r => exact EReal.coe_nonneg.2 (Real.exp_pos r).le

theorem log_nonneg (x : EReal) (h : 1 ≤ x) : 0 ≤ Ideal.log x := by
  induction x with
  | bot => exact absurd h (not_le.2 (EReal.bot_lt_coe 1))
  | top => exact le_top
  | coe r =>
    have hr : (1 : ℝ) ≤ r := by exact_mod_cast h
    show 0 ≤ (if r ≤ 0 then ⊥ else ((Real.log r : ℝ) : EReal))
    rw [if_neg (by linarith)]
    exact EReal.coe_nonneg.2 (Real.log_nonneg hr)

theorem log1p_exp_nonneg (x : EReal) : 0 ≤ Ideal.log1p (Ideal.exp x) := by
  refine log_nonneg _ ?_
  calc (1 : EReal) = 1 + 0 := (add_zero _).symm
    _ ≤ 1 + Ideal.exp x := add_le_add le_rfl (exp_nonneg x)

/-- The logarithm of a gate is never positive. -/
theorem logSigmoid_ne_top (x : EReal) : logSigmoid x ≠ ⊤ := by
  have h : logSigmoid x ≤ 0 - 0 := EReal.sub_le_sub (min_le_right _ _) (log1p_exp_nonneg _)
  rw [sub_zero] at h
  exact (lt_of_le_of_lt h EReal.zero_lt_top).ne

/-- The other way to write it: the negative of the softplus of the negative. -/
theorem neg_softplus (x : EReal) : -(max (-x) 0 + Ideal.log1p (Ideal.exp (-max x (-x)))) = logSigmoid x := by
  have h0 : (0 : EReal) ≤ max (-x) 0 := le_max_right _ _
  have h1 := log1p_exp_nonneg (-max x (-x))
  have nb : ∀ z : EReal, 0 ≤ z → z ≠ ⊥ := fun z hz h => absurd (h ▸ hz) (by simp)
  rw [EReal.neg_add (Or.inl (nb _ h0)) (Or.inr (nb _ h1))]
  unfold logSigmoid
  congr 1
  rcases le_total (-x) 0 with h | h
  · rw [max_eq_right h, min_eq_right (by simpa using EReal.neg_le_neg_iff.2 h), neg_zero]
  · rw [max_eq_left h, min_eq_left (by simpa using EReal.neg_le_neg_iff.2 h), neg_neg]

/-- A number with what its own removal leaves is the number again. -/
theorem absorb (f u : EReal) (hf : f ≠ ⊤) (hu : u = 0 ∨ u = 1) : f * u + (f - f) * u + (f - f - (f - f)) * u = f * u := by
  rcases hu with rfl | rfl
  · simp
  · simp only [mul_one]
    induction f with
    | bot => simp
    | top => exact absurd rfl hf
    | coe r =>
      have h : (r : EReal) - r = 0 := by rw [← EReal.coe_sub, sub_self, EReal.coe_zero]
      simp [h]

/-- The first `c + 1` of 256 terms after the first `o`. -/
theorem sum_upto (l : ℕ → EReal) (o c : ℕ) (hc : c < 256) :
    (∑ k : Fin 256, l (o + k.val) * (if k.val ≤ c then 1 else 0)) + ∑ s ∈ Finset.range o, l s = ∑ s ∈ Finset.range (o + c + 1), l s := by
  rw [add_assoc o c 1, Finset.sum_range_add, add_comm]
  congr 1
  rw [Fin.sum_univ_eq_sum_range (fun k => l (o + k) * (if k ≤ c then 1 else 0)) 256]
  rw [← Finset.sum_subset (s₁ := Finset.range (c + 1)) (fun k hk => Finset.mem_range.2 (by have := Finset.mem_range.1 hk; omega))
    (fun k _ hk => by
      show l (o + k) * (if k ≤ c then 1 else 0) = 0
      rw [if_neg (fun h => hk (Finset.mem_range.2 (by omega))), mul_zero])]
  refine Finset.sum_congr rfl fun k hk => ?_
  have := Finset.mem_range.1 hk
  rw [if_pos (by omega), mul_one]

end Cert.ForgetDecay

end
-- ==== Proof.Decay.Pieces.lean ====
/- The eight chunks that a grid point computes one after the other, each a running sum carried on from the one before. -/
module

public import proofs.«01_k».proof.Proof.Gen.DecayIdeal.Value
public import proofs.«01_k».proof.Proof.Ffn.Entries
public import proofs.«01_k».proof.Proof.Decay.Spec

@[expose] public section

set_option maxRecDepth 16384

noncomputable section

namespace Cert.ForgetDecay

open Cert.DecayIdeal Cert.DecayIdeal.Gen Cert.DecayIdeal.Value Idealize.ShloMosaic Idealize.ShloMosaic.TcCoe Idealize.SL.Sem
open Cert.Fox (at3 at3_of)
open Cert.ChannelMixer (product zero_bits)

/-- A chunk: its logarithms in three parts, each summed up to every position, and the carried sum. -/
def chunk (v : FVec Ideal S16x256 .f32) (carry : FVec Ideal S16x1 .f32) : FVec Ideal S16x256 .f32 :=
  have hi : FVec Ideal S16x256 .bf16 := truncf .bf16 v bitsLt_bf16_f32
  have r1 : FVec Ideal S16x256 .f32 := subf v (extf .f32 hi bitsLt_bf16_f32)
  have mid : FVec Ideal S16x256 .bf16 := truncf .bf16 r1 bitsLt_bf16_f32
  have lo : FVec Ideal S16x256 .bf16 := truncf .bf16 (subf r1 (extf .f32 mid bitsLt_bf16_f32)) bitsLt_bf16_f32
  have z : FVec Ideal S16x256 .f32 := constant S16x256 .f32 0x00000000#32
  addf (addf (addf (matmul dot_S16x256_S256x256_S16x256_1_0_0_1_n_n none hi (k0_pay3 (F := Ideal)) z)
      (matmul dot_S16x256_S256x256_S16x256_1_0_0_1_n_n none mid (k0_pay3 (F := Ideal)) z))
    (matmul dot_S16x256_S256x256_S16x256_1_0_0_1_n_n none lo (k0_pay3 (F := Ideal)) z))
    (broadcastTo S16x256 carry broadcasts_S16x1_S16x256)

/-- The last column of a chunk. -/
def last (v : FVec Ideal S16x256 .f32) : FVec Ideal S16x1 .f32 := extractStridedSlice S16x1 ![0, 255] v slices_S16x256_o0_255_S16x1

/-- The mask keeps the positions up to one. -/
theorem mask_entry (k c : Fin 256) : k0_pay3 (F := Ideal) (ix2 k c) = if k.val ≤ c.val then 1 else 0 := by
  have hk := k.isLt
  have hc := c.isLt
  pointwise [k0_pay3]
  rw [WordCmp.cmpi_sle_ofNat (by omega) (by omega)]
  by_cases h : k.val ≤ c.val
  · simp only [h, decide_true, if_true]
    show (((1#32 : BitVec 32).toInt : ℝ) : EReal) = 1
    rw [show (1#32 : BitVec 32).toInt = 1 from rfl]
    simp
  · simp only [h, decide_false, if_false]
    show (((0#32 : BitVec 32).toInt : ℝ) : EReal) = 0
    rw [show (0#32 : BitVec 32).toInt = 0 from rfl]
    simp

theorem chunk_entry (v : FVec Ideal S16x256 .f32) (carry : FVec Ideal S16x1 .f32) (l : ℕ → EReal) (o : ℕ) (r : Fin 16) (c : Fin 256)
    (hl : ∀ n, l n ≠ ⊤) (hv : ∀ k : Fin 256, v (ix2 r k) = l (o + k.val)) (hcar : carry (ix2 r (0 : Fin 1)) = ∑ s ∈ Finset.range o, l s) :
    chunk v carry (ix2 r c) = ∑ s ∈ Finset.range (o + c.val + 1), l s := by
  have hb : broadcastTo S16x256 carry broadcasts_S16x1_S16x256 (ix2 r c) = carry (ix2 r (0 : Fin 1)) :=
    broadcastTo_apply carry _ (ix2 r c) (ix2 r (0 : Fin 1)) fun a => match a with
      | ⟨0, _⟩ => rfl
      | ⟨1, _⟩ => rfl
  rw [← sum_upto l o c.val c.isLt]
  unfold chunk
  refine congrArg₂ (· + ·) ?_ (hb.trans hcar)
  refine (congrArg₂ (· + ·) (congrArg₂ (· + ·) (product _ _ r c) (product _ _ r c)) (product _ _ r c)).trans ?_
  rw [← Finset.sum_add_distrib, ← Finset.sum_add_distrib]
  refine Finset.sum_congr rfl fun k _ => ?_
  rw [mask_entry]
  have e := absorb (l (o + k.val)) (if k.val ≤ c.val then 1 else 0) (hl _) (by split_ifs <;> simp)
  rw [← hv k] at e
  rw [← hv k]
  exact e

theorem last_entry (v : FVec Ideal S16x256 .f32) (r : Fin 16) : last v (ix2 r (0 : Fin 1)) = v (ix2 r (255 : Fin 256)) :=
  extractStridedSlice_apply _ v _ _ _ fun a => match a with
    | ⟨0, _⟩ => (Nat.zero_add _).symm
    | ⟨1, _⟩ => rfl

variable (P0 : Vec Ideal S1x2048x128 .f32) (P1 : Vec Ideal S1x128 .f32)

/-- The chunks' logarithms. -/
def part (o : ℕ) (h : S16x2048.Slices ![0, o] S16x256) : FVec Ideal S16x256 .f32 := extractStridedSlice S16x256 ![0, o] (k0_pay2 P0 P1) h

theorem part_entry (o : ℕ) (h : S16x2048.Slices ![0, o] S16x256) (r : Fin 16) (k : Fin 256) (ho : o + k.val < 2048) :
    part P0 P1 o h (ix2 r k) = k0_pay2 P0 P1 (ix2 r (⟨o + k.val, ho⟩ : Fin 2048)) :=
  extractStridedSlice_apply _ (k0_pay2 P0 P1) _ _ _ fun a => match a with
    | ⟨0, _⟩ => (Nat.zero_add _).symm
    | ⟨1, _⟩ => rfl

def c0 := chunk (part P0 P1 0 slices_S16x2048_o0_0_S16x256) (broadcast S16x1 (Scalar.ofBits .f32 0x00000000#32))
def c1 := chunk (part P0 P1 256 slices_S16x2048_o0_256_S16x256) (last (c0 P0 P1))
def c2 := chunk (part P0 P1 512 slices_S16x2048_o0_512_S16x256) (last (c1 P0 P1))
def c3 := chunk (part P0 P1 768 slices_S16x2048_o0_768_S16x256) (last (c2 P0 P1))
def c4 := chunk (part P0 P1 1024 slices_S16x2048_o0_1024_S16x256) (last (c3 P0 P1))
def c5 := chunk (part P0 P1 1280 slices_S16x2048_o0_1280_S16x256) (last (c4 P0 P1))
def c6 := chunk (part P0 P1 1536 slices_S16x2048_o0_1536_S16x256) (last (c5 P0 P1))
def c7 := chunk (part P0 P1 1792 slices_S16x2048_o0_1792_S16x256) (last (c6 P0 P1))

/-- The logarithms of a batch's gates, all positions. -/
theorem row_entry (r : Fin 16) (n : Fin 2048) :
    k0_pay2 P0 P1 (ix2 r n) = logSigmoid (P0 (ix3 (0 : Fin 1) n (⟨8 + r.val, by omega⟩ : Fin 128)) + P1 (ix2 (0 : Fin 1) (⟨8 + r.val, by omega⟩ : Fin 128))) := by
  have hr := r.isLt
  have e0 : shapeCast S2048x128 P0 shapeCasts_S1x2048x128_S2048x128 (ix2 n (⟨8 + r.val, by omega⟩ : Fin 128)) = P0 (ix3 (0 : Fin 1) n (⟨8 + r.val, by omega⟩ : Fin 128)) :=
    Cert.ChannelMixer.drop3 P0 _ n _
  have e1 : broadcastTo S2048x128 (shapeCast S1x128 P1 shapeCasts_S1x128_S1x128) broadcasts_S1x128_S2048x128 (ix2 n (⟨8 + r.val, by omega⟩ : Fin 128))
      = P1 (ix2 (0 : Fin 1) (⟨8 + r.val, by omega⟩ : Fin 128)) := by
    rw [shapeCast_self]
    exact broadcastTo_apply P1 _ _ (ix2 (0 : Fin 1) (⟨8 + r.val, by omega⟩ : Fin 128)) fun a => match a with
      | ⟨0, _⟩ => rfl
      | ⟨1, _⟩ => rfl
  unfold k0_pay2
  refine (extractStridedSlice_apply _ _ _ (ix2 r n) (ix2 (⟨8 + r.val, by omega⟩ : Fin 128) n) fun a => match a with
    | ⟨0, _⟩ => rfl
    | ⟨1, _⟩ => (Nat.zero_add _).symm).trans ?_
  refine (transpose_apply _ _ _ _ (ix2 n (⟨8 + r.val, by omega⟩ : Fin 128)) fun a => match a with
    | ⟨0, _⟩ => rfl
    | ⟨1, _⟩ => rfl).trans ?_
  show min (shapeCast S2048x128 P0 _ (ix2 n _) + broadcastTo S2048x128 (shapeCast S1x128 P1 _) _ (ix2 n _)) (Ideal.ofBits .f32 0x00000000#32)
    - Ideal.log1p (Ideal.exp (Ideal.ofBits .f32 0x00000000#32 - max (shapeCast S2048x128 P0 _ (ix2 n _) + broadcastTo S2048x128 (shapeCast S1x128 P1 _) _ (ix2 n _))
      (-(shapeCast S2048x128 P0 _ (ix2 n _) + broadcastTo S2048x128 (shapeCast S1x128 P1 _) _ (ix2 n _))))) = _
  rw [e0, e1, zero_bits, zero_sub]
  rfl

section Chain

variable (l : ℕ → EReal) (r : Fin 16) (hl : ∀ n, l n ≠ ⊤) (hrow : ∀ n : Fin 2048, k0_pay2 P0 P1 (ix2 r n) = l n.val)

include hl hrow

theorem next (o : ℕ) (h : S16x2048.Slices ![0, o + 256] S16x256) (ho : o + 512 ≤ 2048) (v : FVec Ideal S16x256 .f32)
    (hv : ∀ c : Fin 256, v (ix2 r c) = ∑ s ∈ Finset.range (o + c.val + 1), l s) (c : Fin 256) :
    chunk (part P0 P1 (o + 256) h) (last v) (ix2 r c) = ∑ s ∈ Finset.range (o + 256 + c.val + 1), l s :=
  chunk_entry _ _ l (o + 256) r c hl (fun k => (part_entry P0 P1 _ h r k (by omega)).trans (hrow _))
    ((last_entry v r).trans (hv 255))

theorem c0_entry (c : Fin 256) : c0 P0 P1 (ix2 r c) = ∑ s ∈ Finset.range (0 + c.val + 1), l s :=
  chunk_entry _ _ l 0 r c hl (fun k => (part_entry P0 P1 _ _ r k (by omega)).trans (hrow _)) zero_bits

theorem c1_entry (c : Fin 256) : c1 P0 P1 (ix2 r c) = ∑ s ∈ Finset.range (256 + c.val + 1), l s :=
  next P0 P1 l r hl hrow 0 _ (by omega) _ (c0_entry P0 P1 l r hl hrow) c

theorem c2_entry (c : Fin 256) : c2 P0 P1 (ix2 r c) = ∑ s ∈ Finset.range (512 + c.val + 1), l s :=
  next P0 P1 l r hl hrow 256 _ (by omega) _ (c1_entry P0 P1 l r hl hrow) c

theorem c3_entry (c : Fin 256) : c3 P0 P1 (ix2 r c) = ∑ s ∈ Finset.range (768 + c.val + 1), l s :=
  next P0 P1 l r hl hrow 512 _ (by omega) _ (c2_entry P0 P1 l r hl hrow) c

theorem c4_entry (c : Fin 256) : c4 P0 P1 (ix2 r c) = ∑ s ∈ Finset.range (1024 + c.val + 1), l s :=
  next P0 P1 l r hl hrow 768 _ (by omega) _ (c3_entry P0 P1 l r hl hrow) c

theorem c5_entry (c : Fin 256) : c5 P0 P1 (ix2 r c) = ∑ s ∈ Finset.range (1280 + c.val + 1), l s :=
  next P0 P1 l r hl hrow 1024 _ (by omega) _ (c4_entry P0 P1 l r hl hrow) c

theorem c6_entry (c : Fin 256) : c6 P0 P1 (ix2 r c) = ∑ s ∈ Finset.range (1536 + c.val + 1), l s :=
  next P0 P1 l r hl hrow 1280 _ (by omega) _ (c5_entry P0 P1 l r hl hrow) c

theorem c7_entry (c : Fin 256) : c7 P0 P1 (ix2 r c) = ∑ s ∈ Finset.range (1792 + c.val + 1), l s :=
  next P0 P1 l r hl hrow 1536 _ (by omega) _ (c6_entry P0 P1 l r hl hrow) c

/-- Every chunk's entries are sums from the first position on. -/
theorem fam_entry (j : Fin 8) (c : Fin 256) : Fam2_0 P0 P1 j (ix2 r c) = ∑ s ∈ Finset.range (256 * j.val + c.val + 1), l s := by
  match j with
  | ⟨0, _⟩ => exact c0_entry P0 P1 l r hl hrow c
  | ⟨1, _⟩ => exact c1_entry P0 P1 l r hl hrow c
  | ⟨2, _⟩ => exact c2_entry P0 P1 l r hl hrow c
  | ⟨3, _⟩ => exact c3_entry P0 P1 l r hl hrow c
  | ⟨4, _⟩ => exact c4_entry P0 P1 l r hl hrow c
  | ⟨5, _⟩ => exact c5_entry P0 P1 l r hl hrow c
  | ⟨6, _⟩ => exact c6_entry P0 P1 l r hl hrow c
  | ⟨7, _⟩ => exact c7_entry P0 P1 l r hl hrow c

end Chain

end Cert.ForgetDecay

end
-- ==== Proof.Decay.Array.lean ====
/- The bias that the call is given, what a grid point leaves, and the cumulative decays after the run. -/
module

public import proofs.«01_k».proof.Proof.Decay.Pieces
public import Idealize.ShloMosaic.Lib.Routing.OpsOne
public import Idealize.ShloMosaic.Lib.Pipeline.ReadBack

@[expose] public section

set_option maxRecDepth 16384

noncomputable section

namespace Cert.ForgetDecay

open Cert.DecayIdeal Cert.DecayIdeal.Gen Cert.DecayIdeal.Value Idealize.ShloMosaic Idealize.ShloMosaic.TcCoe Idealize.SL.Sem
open Idealize.ShloMosaic.Routing (resultIdx?_ix2 start_pair scatter_set_hit scatter_set_miss)
open Cert.Fox (at3 at3_of)
open Cert.ChannelMixer (zero_bits)

variable (m : (ℓ : Loc nD τ sig) → Buf (Elt Ideal) ℓ) (c : Dev nD) (t : Fin cfg0.N)

/-- The narrow projected columns that the call is given, on a device. -/
abbrev argX : (⟨3, ![8, 2048, 512]⟩ : Shape).Idx → EReal := m ((c : Thread nD τ).loc main_arg0)

/-- The gates' biases of both layers, on a device. -/
abbrev argB : (⟨2, ![2, 6]⟩ : Shape).Idx → EReal := m ((c : Thread nD τ).loc main_arg1)

/-- The two words that say where the biases go. -/
def place : IVec S2 32 :=
  concatenate S2 0 [⟨S1, broadcastInDim S1 ![] bcast_S_S1 (constantI S_ 32 0#32)⟩, ⟨S1, broadcastInDim S1 ![] bcast_S_S1 (constantI S_ 32 12#32)⟩]
    concatenates_S1_S1_S2_d0

/-- A layer's biases put into zeros. -/
def spread (B : S2x6.Idx → EReal) : S1x128.Idx → EReal :=
  Host.scatter scatter_S1x128_S2_S6_0_0_01_0 (fun _ b => b) (broadcastInDim S1x128 ![] bcast_S_S1x128 (constant (F := Ideal) S_ .f32 0x00000000#32)) place
    (shapeCast S6 (extractStridedSlice S1x6 ![1, 0] B slices_S2x6_S1x6_1_0) shapeCasts_S1x6_S6)

/-- They are what the call reads. -/
theorem V_bias : V m c main_v6 = spread (argB m c) := by
  show StableHlo.after hostOps0 _ (Proc.devRef .tc main_v6) = _
  after_results
  rfl

/-- Bias `k` lands on lane `12 + k`. -/
theorem lands (k : Fin 6) (z : Fin 1) (n : Fin 128) : scatter_S1x128_S2_S6_0_0_01_0.resultIdx? (ix1 k) place = some (ix2 z n) ↔ n.val = 12 + k.val := by
  have w0 : scatter_S1x128_S2_S6_0_0_01_0.window (ix1 k) 0 = 0 := rfl
  have w1 : scatter_S1x128_S2_S6_0_0_01_0.window (ix1 k) 1 = k.val := rfl
  have p0 : (place (ix1 (0 : Fin 2))).toInt = 0 := by
    show (0#32 : BitVec 32).toInt = 0
    rfl
  have p1 : (place (ix1 (1 : Fin 2))).toInt = 12 := by
    show (12#32 : BitVec 32).toInt = 12
    rfl
  refine (resultIdx?_ix2 (R := 1) (C := 128) scatter_S1x128_S2_S6_0_0_01_0 _ _ z n).trans ?_
  rw [start_pair (R := 1) (C := 128) scatter_S1x128_S2_S6_0_0_01_0 rfl rfl, start_pair (R := 1) (C := 128) scatter_S1x128_S2_S6_0_0_01_0 rfl rfl, w0, w1]
  refine (and_congr (Iff.of_eq (congrArg (· + _ = _) p0)) (Iff.of_eq (congrArg (· + _ = _) p1))).trans ?_
  have hz := z.isLt
  omega

/-- The lane `8 + r` holds the bias of the column `392 + r`. -/
theorem spread_entry (B : S2x6.Idx → EReal) (z : Fin 1) (r : ℕ) (hr : 8 + r < 128) : spread B (ix2 z (⟨8 + r, hr⟩ : Fin 128)) = bias B r := by
  have own : ∀ k : S6.Idx, k = ix1 (k 0) := eq_ix1
  unfold bias
  by_cases h : 4 ≤ r ∧ r < 10
  · rw [dif_pos h]
    refine scatter_set_hit _ _ _ _ _ _ (fun k hk => ?_) (ix1 (⟨r - 4, by omega⟩ : Fin 6)) ((lands _ z _).2 (by show 8 + r = 12 + (r - 4); omega))
    rw [own k] at hk ⊢
    have e := (lands (k 0) z _).1 hk
    have e' : 8 + r = 12 + (k 0).val := e
    refine (shapeCast_apply _ shapeCasts_S1x6_S6 (ix1 (k 0)) (ix2 (0 : Fin 1) (k 0)) (by
      rw [Shape.rowMajor_val_two, Shape.rowMajor_val_one]
      show 0 * 6 + (k 0).val = (k 0).val
      omega)).trans ?_
    exact extractStridedSlice_apply _ B _ _ _ fun a => match a with
      | ⟨0, _⟩ => rfl
      | ⟨1, _⟩ => by show r - 4 = 0 + (k 0).val; omega
  · rw [dif_neg h]
    refine (scatter_set_miss _ _ _ _ _ fun k hk => h ?_).trans zero_bits
    rw [own k] at hk
    have e : 8 + r = 12 + (k 0).val := (lands (k 0) z _).1 hk
    have hk6 : (k 0).val < 6 := (k 0).isLt
    omega

theorem index_maps : ∀ t : Fin cfg0.N, win0_0.index t = ![t.val, 0, 3] ∧ win0_1.index t = ![0, 0] ∧ win0_2.index t = ![t.val, 0, 0, 0] :=
  (by decide +kernel : ∀ t : Fin grid0.N, _)

theorem point_lt : t.val < 8 := lt_of_lt_of_eq t.isLt (show cfg0.N = 8 from N_0)

/-- The block of columns from 384 on, of a batch. -/
theorem x_block (n : Fin 2048) (k : Fin 128) : iblk m c 0 t (ix3 (0 : Fin 1) n k) = at3 (argX m c) t.val n.val (384 + k.val) := by
  have h := point_lt t
  have hk := k.isLt
  have e : ((cfg0.win 0).blk t).view.emb (ix3 (0 : Fin 1) n k) = ix3 (⟨t.val, h⟩ : Fin 8) n (⟨384 + k.val, by omega⟩ : Fin 512) := by
    blk_ext [index_maps t]
  show V m c main_arg0 (((cfg0.win 0).blk t).view.emb (ix3 (0 : Fin 1) n k)) = _
  rw [e, V_main_arg0]
  exact at3_of (argX m c) _ rfl rfl rfl

theorem b_block (k : Fin 128) : iblk m c 1 t (ix2 (0 : Fin 1) k) = spread (argB m c) (ix2 (0 : Fin 1) k) := by
  have e : ((cfg0.win 1).blk t).view.emb (ix2 (0 : Fin 1) k) = ix2 (0 : Fin 1) k := by
    blk_ext [index_maps t]
  show V m c main_v6 (((cfg0.win 1).blk t).view.emb (ix2 (0 : Fin 1) k)) = _
  rw [e, V_bias]

/-- A grid point leaves its batch's cumulative decays. -/
theorem out_entry (j : Fin 8) (r : Fin 16) (n : Fin 256) :
    out0_2 (iblk m c 0 t) (iblk m c 1 t) (ix4 (0 : Fin 1) j r n)
      = ∑ s ∈ Finset.range (256 * j.val + n.val + 1), logGate (argX m c) (argB m c) t.val r.val s := by
  have hr := r.isLt
  unfold_out out0_2
  refine (canon2_eq (View.ld (iblk m c 0 t) r0_0) (View.ld (iblk m c 1 t) r0_1) (ix4 (0 : Fin 1) j r n)).trans ?_
  have e : ix2_0 (ix4 (0 : Fin 1) j r n) = ix2 r n := funext fun a => match a with
    | ⟨0, _⟩ => rfl
    | ⟨1, _⟩ => rfl
  show Fam2_0 (View.ld (iblk m c 0 t) r0_0) (View.ld (iblk m c 1 t) r0_1) j (ix2_0 (ix4 (0 : Fin 1) j r n)) = _
  rw [e]
  refine fam_entry _ _ (logGate (argX m c) (argB m c) t.val r.val) r (fun s => logSigmoid_ne_top _) (fun s => ?_) j n
  refine (row_entry _ _ r s).trans ?_
  unfold logGate
  congr 2
  · refine Eq.trans (congrArg (iblk m c 0 t) (funext fun a => Fin.ext ?_)) ((x_block m c t s (⟨8 + r.val, by omega⟩ : Fin 128)).trans ?_)
    · match a with
      | ⟨0, _⟩ => rfl
      | ⟨1, _⟩ => show 0 + 1 * s.val = s.val; omega
      | ⟨2, _⟩ => show 0 + 1 * (8 + r.val) = 8 + r.val; omega
    · show at3 (argX m c) t.val s.val (384 + (8 + r.val)) = _
      rw [← Nat.add_assoc]
  · refine Eq.trans (congrArg (iblk m c 1 t) (funext fun a => Fin.ext ?_)) ((b_block m c t (⟨8 + r.val, by omega⟩ : Fin 128)).trans (spread_entry _ 0 r.val _))
    match a with
    | ⟨0, _⟩ => rfl
    | ⟨1, _⟩ => show 0 + 1 * (8 + r.val) = 8 + r.val; omega

/-- The cumulative decays after the run. -/
theorem array_eq : (dats m 0 c).arrAt 2 cfg0.N = decay (argX m c) (argB m c) := by
  refine (dats m 0 c).arrAt_eq_of_covers 2 _ (by decide +kernel) fun t hf y => ?_
  have h := point_lt t
  obtain ⟨z, j, r, n, rfl⟩ : ∃ (z : Fin 1) (j : Fin 8) (r : Fin 16) (n : Fin 256), y = ix4 z j r n := ⟨y 0, y 1, y 2, y 3, eq_ix4 y⟩
  have hz : z = 0 := Subsingleton.elim _ _
  subst hz
  have e : ((cfg0.win 2).blk t).view.emb (ix4 (0 : Fin 1) j r n) = ix4 (⟨t.val, h⟩ : Fin 8) j r n := by
    blk_ext [index_maps t]
  rw [e]
  blk_simp
  rw [after0_2]
  exact out_entry m c t j r n

end Cert.ForgetDecay

end
-- ==== Proof.Decay.Reference.lean ====
/- The reference of the cumulative decays, entry by entry. -/
module

public import proofs.«01_k».proof.Proof.Gen.DecayReferenceIdeal.Run
public import proofs.«01_k».proof.Proof.Gen.DecayReferenceIdeal.Read
public import proofs.«01_k».proof.Proof.Ffn.Entries
public import proofs.«01_k».proof.Proof.Decay.Spec
public import Idealize.ShloMosaic.Lib.KernelVsHost

@[expose] public section

set_option maxRecDepth 16384

noncomputable section

namespace Cert.ForgetDecay.Reference

open Cert.DecayReferenceIdeal Cert.DecayReferenceIdeal.Read Idealize.ShloMosaic Idealize.ShloMosaic.TcCoe
open Cert.Fox (at3 at3_of)
open Cert.ForgetDecay Cert.ChannelMixer

/-- Adding up a list's values one after the other is their sum. -/
theorem foldl_add (N : ℕ) (g : Fin N → EReal) (v : EReal) : (List.finRange N).foldl (fun r n => r + g n) v = v + ∑ n, g n := by
  rw [Fin.sum_univ_def]
  induction List.finRange N generalizing v with
  | nil => simp
  | cons a l ih => rw [List.foldl_cons, ih, List.map_cons, List.sum_cons, add_assoc]

/-- The positions of a window along the second of three axes. -/
def along : (⟨3, ![1, 2048, 1]⟩ : Shape).Idx ≃ Fin 2048 where
  toFun w := w 1
  invFun k := ix3 (0 : Fin 1) k (0 : Fin 1)
  left_inv w := by
    obtain ⟨a, k, b, rfl⟩ : ∃ (a : Fin 1) (k : Fin 2048) (b : Fin 1), w = ix3 a k b := ⟨w 0, w 1, w 2, eq_ix3 w⟩
    rw [Subsingleton.elim a 0, Subsingleton.elim b 0]
    rfl
  right_inv _ := rfl

/-- A window's position by its number. -/
def nth (n : Fin (⟨3, ![1, 2048, 1]⟩ : Shape).numel) : (⟨3, ![1, 2048, 1]⟩ : Shape).Idx := (⟨3, ![1, 2048, 1]⟩ : Shape).rowMajor.symm n

/-- Of a window that ends at `j`, the positions inside the array are the first `j + 1`. -/
theorem sum_window (f : ℕ → EReal) (j : ℕ) (hj : j < 2048) :
    (∑ k : Fin 2048, if 2047 ≤ j + k.val then f (j + k.val - 2047) else 0) = ∑ s ∈ Finset.range (j + 1), f s := by
  rw [Fin.sum_univ_eq_sum_range (fun k => if 2047 ≤ j + k then f (j + k - 2047) else 0) 2048,
    show (2048 : ℕ) = (2047 - j) + (j + 1) by omega, Finset.sum_range_add]
  rw [Finset.sum_eq_zero fun k hk => if_neg (by have := Finset.mem_range.1 hk; omega), zero_add]
  refine Finset.sum_congr rfl fun k hk => ?_
  rw [if_pos (by omega)]
  exact congrArg f (by omega)

/-- The cumulative sum along the second axis. -/
theorem cumsum_entry (x : S8x2048x16.Idx → EReal) (init : S_.Idx → EReal) (hinit : ∀ i, init i = 0) (h) (hu) (b : Fin 8) (j : Fin 2048) (r : Fin 16) :
    Host.reduceWindowAdd (F := Ideal) (φ := .f32) (s := S8x2048x16) (t := S8x2048x16) (u := S_) ![1, 2048, 1] ![1, 1, 1] ![0, 2047, 0] ![0, 0, 0] x init h hu (ix3 b j r)
      = ∑ s ∈ Finset.range (j.val + 1), at3 x b.val s r.val := by
  have hb := b.isLt
  have hj := j.isLt
  have hr := r.isLt
  rw [← sum_window (fun s => at3 x b.val s r.val) j.val hj]
  unfold Host.reduceWindowAdd
  rw [Ideal.hostReduceWindowAdd_def]
  unfold Ideal.hostReduceWindowAdd Host.reduceWindow
  refine (foldl_add _ _ _).trans ?_
  rw [hinit, zero_add]
  refine Fintype.sum_equiv ((⟨3, ![1, 2048, 1]⟩ : Shape).rowMajor.symm.trans along) _ _ fun n => ?_
  show _ = if 2047 ≤ j.val + (nth n 1).val then at3 x b.val (j.val + (nth n 1).val - 2047) r.val else 0
  have w0 : (nth n 0).val < 1 := (nth n 0).isLt
  have w1 : (nth n 1).val < 2048 := (nth n 1).isLt
  have w2 : (nth n 2).val < 1 := (nth n 2).isLt
  by_cases hw : 2047 ≤ j.val + (nth n 1).val
  · rw [if_pos hw]
    refine (dif_pos fun a => ?_).trans ?_
    · match a with
      | ⟨0, _⟩ => exact ⟨Nat.zero_le _, by show b.val * 1 + (nth n 0).val - 0 < 8; omega⟩
      | ⟨1, _⟩ => exact ⟨by show 2047 ≤ j.val * 1 + (nth n 1).val; omega, by show j.val * 1 + (nth n 1).val - 2047 < 2048; omega⟩
      | ⟨2, _⟩ => exact ⟨Nat.zero_le _, by show r.val * 1 + (nth n 2).val - 0 < 16; omega⟩
    · refine at3_of x _ ?_ ?_ ?_
      · show b.val * 1 + (nth n 0).val - 0 = b.val; omega
      · show j.val * 1 + (nth n 1).val - 2047 = j.val + (nth n 1).val - 2047; omega
      · show r.val * 1 + (nth n 2).val - 0 = r.val; omega
  · rw [if_neg hw]
    refine (dif_neg fun hin => hw ?_).trans rfl
    have h1 : 2047 ≤ j.val * 1 + (nth n 1).val := (hin 1).1
    omega

variable (X : (⟨3, ![8, 2048, 512]⟩ : Shape).Idx → EReal) (B : (⟨2, ![2, 6]⟩ : Shape).Idx → EReal)

/-- The biases of the columns from 392 on. -/
theorem bias_entry (i : S16.Idx) : val_main_v2 (F := Ideal) B i = bias B (i 0).val := by
  have hi : (i 0).val < 16 := (i 0).isLt
  unfold val_main_v2 bias
  by_cases h : 4 ≤ (i 0).val ∧ (i 0).val < 10
  · rw [dif_pos h]
    refine (pad_apply_of_inside _ _ _ _ _ _ _ i (ix1 (⟨(i 0).val - 4, by omega⟩ : Fin 6)) fun a => match a with
      | ⟨0, _⟩ => by show (i 0).val = 4 + ((i 0).val - 4) * (0 + 1); omega).trans ?_
    rw [val_main_v1_apply, val_main_v0_apply]
    refine congrArg B (funext fun a => Fin.ext ?_)
    match a with
    | ⟨0, _⟩ => rfl
    | ⟨1, _⟩ => show ((i 0).val - 4) % 6 = (i 0).val - 4; omega
  · rw [dif_neg h]
    refine (pad_apply_of_not_inside _ _ _ _ _ _ _ i 0 fun hin => h ?_).trans ?_
    · have h0 : 4 ≤ (i 0).val := hin.1
      have h1 : ((i 0).val - 4) / (0 + 1) < 6 := hin.2.2
      omega
    · show (((0#32 : BitVec 32).toInt : ℝ) : EReal) = 0
      rw [show (0#32 : BitVec 32).toInt = 0 from rfl]
      simp

/-- The logarithms of the gates. -/
theorem gate_entry (b : Fin 8) (s : Fin 2048) (r : Fin 16) : val_main_v7 (F := Ideal) X B (ix3 b s r) = logGate X B b.val r.val s.val := by
  have e6 : val_main_v6 (F := Ideal) X B (ix3 b s r) = at3 X b.val s.val (392 + r.val) + bias B r.val := by
    rw [val_main_v6_apply, val_main_v3_apply, val_main_v5_apply, val_main_v4_apply, bias_entry]
    exact congrArg₂ (· + ·) (at3_of X _ rfl rfl rfl) rfl
  have ez : ∀ i, val_main_call1_call0_v0 (F := Ideal) i = 0 := fun i => zero_bits
  have ez2 : ∀ i, val_main_call1_call0_v2 (F := Ideal) i = 0 := fun i => zero_bits
  have e3 : val_main_call1_call0_v3 (F := Ideal) X B (ix3 b s r) = -(at3 X b.val s.val (392 + r.val) + bias B r.val) := by
    rw [val_main_call1_call0_v3_apply, ez2, val_main_call1_v0_apply, e6]
    exact sub_zero _
  rw [val_main_v7_apply, val_main_call1_v1_apply, val_main_call1_call0_v4_apply]
  have hs : FloatOps.cmpf (F := Ideal) (φ := .f32) .une (val_main_call1_call0_v3 (F := Ideal) X B (ix3 b s r)) (val_main_call1_call0_v3 (F := Ideal) X B (ix3 b s r)) = 0#1 := by
    generalize val_main_call1_call0_v3 (F := Ideal) X B (ix3 b s r) = z
    show BitVec.ofBool (decide (z ≠ z)) = 0#1
    simp
  rw [hs]
  show -(val_main_call1_call0_v11 (F := Ideal) X B (ix3 b s r)) = _
  rw [val_main_call1_call0_v11_apply, val_main_call1_call0_v1_apply, ez, val_main_call1_v0_apply, e6, val_main_call1_call0_v10_apply, val_main_call1_call0_v9_apply,
    val_main_call1_call0_v8_apply, val_main_call1_call0_v7_apply, e3]
  unfold logGate
  rw [← neg_softplus]
  generalize at3 X b.val s.val (392 + r.val) + bias B r.val = z
  show -(max (-z) 0 + Ideal.log1p (Ideal.exp (-max (-z) (- -z)))) = _
  rw [neg_neg, max_comm (-z) z]

/-- The reference's result. -/
theorem result_eq : val_main_v11 (F := Ideal) X B = decay X B := by
  funext i
  obtain ⟨b, j, r, n, rfl⟩ : ∃ (b : Fin 8) (j : Fin 8) (r : Fin 16) (n : Fin 256), i = ix4 b j r n := ⟨i 0, i 1, i 2, i 3, eq_ix4 i⟩
  have hb := b.isLt
  have hj := j.isLt
  have hr := r.isLt
  have hn := n.isLt
  rw [val_main_v11_apply, val_main_v10_apply, val_main_v9_apply]
  have e : idx_main_v9 (idx_main_v10 (idx_main_v11 (ix4 b j r n))) = ix3 b (⟨256 * j.val + n.val, by omega⟩ : Fin 2048) r := by
    funext a
    match a with
    | ⟨0, _⟩ => exact Fin.ext (by show (((b.val * 16 + r.val) * 8 + j.val) * 256 + n.val) / 32768 = b.val; omega)
    | ⟨1, _⟩ => exact Fin.ext (by show (((b.val * 16 + r.val) * 8 + j.val) * 256 + n.val) % 2048 = 256 * j.val + n.val; omega)
    | ⟨2, _⟩ => exact Fin.ext (by show (((b.val * 16 + r.val) * 8 + j.val) * 256 + n.val) / 2048 % 16 = r.val; omega)
  rw [e]
  unfold val_main_v8
  refine (cumsum_entry _ _ (fun i => zero_bits) _ _ b _ r).trans ?_
  show ∑ s ∈ Finset.range (256 * j.val + n.val + 1), _ = ∑ s ∈ Finset.range (256 * j.val + n.val + 1), logGate X B b.val r.val s
  refine Finset.sum_congr rfl fun s hs => ?_
  have hs' := Finset.mem_range.1 hs
  exact (at3_of _ (ix3 b (⟨s, by omega⟩ : Fin 2048) r) rfl rfl rfl).symm.trans (gate_entry X B b _ r)

end Cert.ForgetDecay.Reference

end
-- ==== Proof.Decay.Claims.lean ====
/- The claims of the cumulative decays. -/
module

public import proofs.«01_k».proof.Defs
public import proofs.«01_k».proof.Proof.Gen.Decay
public import proofs.«01_k».proof.Proof.Decay.Array
public import proofs.«01_k».proof.Proof.Decay.Reference
public import Idealize.ShloMosaic.Lib.Quiescent

@[expose] public section

set_option maxRecDepth 16384

noncomputable section

namespace Cert.ForgetDecay

open Idealize.ShloMosaic Idealize.ShloMosaic.TcCoe Idealize.SL.Sem

section Same

set_option maxHeartbeats 4000000
set_option backward.isDefEq.respectTransparency false

/-- The call's body is the same text in both programs, -/
theorem bodies_eq : Cert.Decay.defs₀ (F := Bits) = Cert.DecayIdeal.defs₀ (F := Bits) := by
  unfold Cert.Decay.defs₀ Cert.DecayIdeal.defs₀
  refine congrArg Defs.onTc (funext fun l => funext fun a => ?_)
  match l, a with
  | 0, (t, s) => rfl
  | ⟨_ + 1, h⟩, _ => exact absurd h (Nat.not_lt.2 (Nat.le_add_left _ _))

/-- and so are their definitions. -/
theorem defs_eq : Cert.Decay.defs (F := Bits) = Cert.DecayIdeal.defs (F := Bits) :=
  congrArg (Pipeline.defs (Cert.DecayIdeal.pcfgs (F := Bits))) bodies_eq

/-- The call runs to its end and leaves its arguments as they were. -/
theorem frame_kernel : Cert.quiescent_Decay := fun m ρ _ => by
  rw [defs_eq]
  exact Cert.DecayIdeal.Gen.frame (F := Bits) m ρ

end Same

/-- So does the call on the extended reals. -/
theorem frame_ideal : Cert.quiescent_DecayIdeal := fun m ρ _ => Cert.DecayIdeal.Gen.frame (F := Ideal) m ρ

/-- So does its reference. -/
theorem frame_reference : Cert.quiescent_DecayReferenceIdeal := fun m ρ _ =>
  (θ_run Cert.DecayReferenceIdeal.defs _ _).mono (fun r h => ⟨fun c => (h c).2, sem_eq_zero_of_no_sems (by decide) r.2⟩)
    (Cert.DecayReferenceIdeal.Value.run (F := Ideal) m ρ)

/-- No operation was rewritten. -/
theorem preserves : Cert.preserves_Decay_DecayIdeal := trivial

/-- On the extended reals the call leaves the same result as its reference: the cumulative decays. -/
theorem algebraic : @Cert.algebraic_DecayIdeal_DecayReferenceIdeal Cert.DecayIdeal.Gen.facts Cert.DecayReferenceIdeal.Gen.facts := by
  intro m ρ m' ρ' _ hagree
  refine ⟨fun c => decay (argX m c) (argB m c), ?_, ?_⟩
  · exact (θ_run Cert.DecayIdeal.defs _ _).mono (fun _ h c => ⟨(h c).1.trans (array_eq m c), (h c).2⟩) (Cert.DecayIdeal.Value.run_blocks (F := Ideal) m ρ)
  · refine (θ_run Cert.DecayReferenceIdeal.defs _ _).mono (fun _ h c => ⟨(h c).1.trans ?_, (h c).2⟩)
      (Cert.DecayReferenceIdeal.Value.run (F := Ideal) m' ρ')
    obtain ⟨h0, h1⟩ := hagree c
    rw [Cert.DecayReferenceIdeal.Read.val_main_v11_eq, h0, h1]
    exact Reference.result_eq _ _

end Cert.ForgetDecay

end
-- ==== Proof.lean ====
/- The claims about the layer's calls, assembled from the modules that prove them. -/
module

public import proofs.«01_k».proof.Defs
public import proofs.«01_k».proof.Proof.Fox.Claims
public import proofs.«01_k».proof.Proof.Ffn.Claims
public import proofs.«01_k».proof.Proof.Merge.Claims
public import proofs.«01_k».proof.Proof.Proj.Claims
public import proofs.«01_k».proof.Proof.Pack.Claims
public import proofs.«01_k».proof.Proof.Decay.Claims

@[expose] public section

noncomputable section

namespace Cert.Proof

/-- Everything claimed about the calls. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Merge.Gen.facts, Cert.MergeIdeal.Gen.facts, Cert.MergeReferenceIdeal.Gen.facts,
    Cert.Proj.Gen.facts, Cert.ProjIdeal.Gen.facts, Cert.ProjReferenceIdeal.Gen.facts,
    Cert.Pack.Gen.facts, Cert.PackIdeal.Gen.facts, Cert.PackReferenceIdeal.Gen.facts,
    Cert.Decay.Gen.facts, Cert.DecayIdeal.Gen.facts, Cert.DecayReferenceIdeal.Gen.facts, Cert.Fox.pre_facts,
    Cert.Fox.frame_kernel, Cert.Fox.frame_ideal, Cert.Fox.frame_ideal_pre, Cert.Fox.frame_reference, Cert.Fox.frame_reference_pre,
    Cert.ChannelMixer.frame_kernel, Cert.ChannelMixer.frame_ideal, Cert.ChannelMixer.frame_reference,
    Cert.Merge.frame_kernel, Cert.Merge.frame_ideal, Cert.Merge.frame_reference,
    Cert.Projection.frame_kernel, Cert.Projection.frame_ideal, Cert.Projection.frame_reference,
    Cert.Packing.frame_kernel, Cert.Packing.frame_ideal, Cert.Packing.frame_reference,
    Cert.ForgetDecay.frame_kernel, Cert.ForgetDecay.frame_ideal, Cert.ForgetDecay.frame_reference,
    Cert.Fox.preserves, Cert.Fox.algebraic,
    Cert.ChannelMixer.preserves, Cert.ChannelMixer.algebraic,
    Cert.Merge.preserves, Cert.Merge.algebraic,
    Cert.Projection.preserves, Cert.Projection.algebraic,
    Cert.Packing.preserves, Cert.Packing.algebraic,
    Cert.ForgetDecay.preserves, Cert.ForgetDecay.algebraic⟩

end Cert.Proof

end
